-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_modulation [hPre_finite_modulation : Cert.Pre_finite_modulation.Facts] (m : (ℓ : Loc Cert.KernelIdeal.nD Cert.KernelIdeal.τ Cert.KernelIdeal.sig) → Buf (Elt Ideal) ℓ) : Prop :=
  ∀ c : Dev Cert.KernelIdeal.nD,
    (Cert.Pre_finite_modulation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_modulation [hPre_finite_modulation : Cert.Pre_finite_modulation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_modulation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_modulation [hKernelIdeal : Cert.KernelIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_modulation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_modulation [hReferenceIdeal : Cert.ReferenceIdeal.Facts] [hPre_finite_modulation : Cert.Pre_finite_modulation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_modulation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x39124925#32 ((1 / 7168 : ℝ) : EReal)

def algebraic_KernelIdeal_ReferenceIdeal_pre_finite_modulation [hKernelIdeal : Cert.KernelIdeal.Facts] [hReferenceIdeal : Cert.ReferenceIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_modulation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_modulation : Cert.Pre_finite_modulation.Facts),
    quiescent_Kernel (hKernel := hKernel)
    ∧ quiescent_KernelIdeal (hKernelIdeal := hKernelIdeal)
    ∧ quiescent_KernelIdeal_pre_finite_modulation (hKernelIdeal := hKernelIdeal) (hPre_finite_modulation := hPre_finite_modulation)
    ∧ quiescent_ReferenceIdeal (hReferenceIdeal := hReferenceIdeal)
    ∧ quiescent_ReferenceIdeal_pre_finite_modulation (hReferenceIdeal := hReferenceIdeal) (hPre_finite_modulation := hPre_finite_modulation)
    ∧ preserves_Kernel_KernelIdeal
    ∧ algebraic_KernelIdeal_ReferenceIdeal_pre_finite_modulation (hKernelIdeal := hKernelIdeal) (hReferenceIdeal := hReferenceIdeal) (hPre_finite_modulation := hPre_finite_modulation)
-- ==== Pre_finite_modulation.lean ====
abbrev S8x4096x7168 : Shape := ⟨3, ![8, 4096, 7168]⟩
abbrev S8x7168 : Shape := ⟨2, ![8, 7168]⟩
abbrev S8x3584 : Shape := ⟨2, ![8, 3584]⟩
abbrev S7168x3584 : Shape := ⟨2, ![7168, 3584]⟩
abbrev S56x28 : Shape := ⟨2, ![56, 28]⟩
abbrev S3584 : Shape := ⟨1, ![3584]⟩
abbrev S_ : Shape := ⟨0, ![]⟩

class Facts : Prop where
  bitsLt_bf16_f32 : FTy.bits .bf16 < FTy.bits .f32
  bcast_S_S8x7168 : S_.BroadcastsInDim S8x7168 (![] : Fin 0 → Fin S8x7168.rank)
  reducesTo_S8x7168_S_d0_1 : S8x7168.ReducesTo [0, 1] S_
  h_S_ : 0 < S_.numel

variable [Facts]

def fn {F : FTy → Type} [FloatOps F] (main_arg0 : FVec F S8x4096x7168 .bf16) (main_arg1 : FVec F S8x7168 .bf16) (main_arg2 : FVec F S8x7168 .bf16) (main_arg3 : FVec F S8x3584 .bf16) (main_arg4 : FVec F S7168x3584 .fp8e4m3) (main_arg5 : FVec F S56x28 .f32) (main_arg6 : FVec F S3584 .bf16) : IVec S_ 1 :=
  let main_v0 : FVec F S8x7168 .f32 := (extf .f32 · bitsLt_bf16_f32) main_arg1
  let main_v1 : FVec F S8x7168 .f32 := Host.absf main_v0
  let main_cst : FVec F S_ .f32 := constant S_ .f32 0x7F7F0000#32
  let main_v2 : FVec F S8x7168 .f32 := broadcastInDim S8x7168 ![] bcast_S_S8x7168 main_cst
  let main_v3 : IVec S8x7168 1 := cmpf .ole main_v1 main_v2
  let main_c : IVec S_ 1 := constantI S_ 1 1#1
  let main_v4 : IVec S_ 1 := (fun x v => Host.reduce IntOp.andi x v reducesTo_S8x7168_S_d0_1 h_S_) main_v3 main_c
  let main_v5 : FVec F S8x7168 .f32 := (extf .f32 · bitsLt_bf16_f32) main_arg2
  let main_v6 : FVec F S8x7168 .f32 := Host.absf main_v5
  let main_cst_0 : FVec F S_ .f32 := constant S_ .f32 0x7F7F0000#32
  let main_v7 : FVec F S8x7168 .f32 := broadcastInDim S8x7168 ![] bcast_S_S8x7168 main_cst_0
  let main_v8 : IVec S8x7168 1 := cmpf .ole main_v6 main_v7
  let main_c_1 : IVec S_ 1 := constantI S_ 1 1#1
  let main_v9 : IVec S_ 1 := (fun x v => Host.reduce IntOp.andi x v reducesTo_S8x7168_S_d0_1 h_S_) main_v8 main_c_1
  let main_v10 : IVec S_ 1 := andi main_v4 main_v9
  main_v10
-- ==== Kernel.lean ====
abbrev S8x4096x7168 : Shape := ⟨3, ![8, 4096, 7168]⟩
abbrev S8x7168 : Shape := ⟨2, ![8, 7168]⟩
abbrev S8x3584 : Shape := ⟨2, ![8, 3584]⟩
abbrev S7168x3584 : Shape := ⟨2, ![7168, 3584]⟩
abbrev S56x28 : Shape := ⟨2, ![56, 28]⟩
abbrev S3584 : Shape := ⟨1, ![3584]⟩
abbrev S32768x7168 : Shape := ⟨2, ![32768, 7168]⟩
abbrev S8x1x7168 : Shape := ⟨3, ![8, 1, 7168]⟩
abbrev S8x1x3584 : Shape := ⟨3, ![8, 1, 3584]⟩
abbrev S1x3584 : Shape := ⟨2, ![1, 3584]⟩
abbrev S32768x3584 : Shape := ⟨2, ![32768, 3584]⟩
abbrev S32768x56 : Shape := ⟨2, ![32768, 56]⟩
abbrev S128x7168 : Shape := ⟨2, ![128, 7168]⟩
abbrev S1x1x7168 : Shape := ⟨3, ![1, 1, 7168]⟩
abbrev S1x1x3584 : Shape := ⟨3, ![1, 1, 3584]⟩
abbrev S128x3584 : Shape := ⟨2, ![128, 3584]⟩
abbrev S128x56 : Shape := ⟨2, ![128, 56]⟩
abbrev S2x256x3584 : Shape := ⟨3, ![2, 256, 3584]⟩
abbrev S2 : Shape := ⟨1, ![2]⟩
abbrev S1 : Shape := ⟨1, ![1]⟩
abbrev S_ : Shape := ⟨0, ![]⟩
abbrev S1x256x3584 : Shape := ⟨3, ![1, 256, 3584]⟩
abbrev S256x3584 : Shape := ⟨2, ![256, 3584]⟩
abbrev S1x1 : Shape := ⟨2, ![1, 1]⟩
abbrev S1x128x128 : Shape := ⟨3, ![1, 128, 128]⟩
abbrev S128x128 : Shape := ⟨2, ![128, 128]⟩
abbrev S32x7168 : Shape := ⟨2, ![32, 7168]⟩
abbrev S32 : Shape := ⟨1, ![32]⟩
abbrev S32x1 : Shape := ⟨2, ![32, 1]⟩
abbrev S32x128 : Shape := ⟨2, ![32, 128]⟩
abbrev S1x1x128 : Shape := ⟨3, ![1, 1, 128]⟩
abbrev S1x128 : Shape := ⟨2, ![1, 128]⟩
abbrev S7168x512 : Shape := ⟨2, ![7168, 512]⟩
abbrev S128x512 : Shape := ⟨2, ![128, 512]⟩
abbrev S1x512 : Shape := ⟨2, ![1, 512]⟩
abbrev S1x1x512 : Shape := ⟨3, ![1, 1, 512]⟩

abbrev nBuf : Space → Nat
  | .hbm => 15
  | .vmem => 18
  | .smem => 1
  | _ => 0

abbrev bufTy : (tb : Table) → Fin (tcTables nBuf tb) → BufTy
  | .hbm, ⟨0, _⟩ => ⟨S8x4096x7168, .bf16⟩
  | .hbm, ⟨1, _⟩ => ⟨S8x7168, .bf16⟩
  | .hbm, ⟨2, _⟩ => ⟨S8x7168, .bf16⟩
  | .hbm, ⟨3, _⟩ => ⟨S8x3584, .bf16⟩
  | .hbm, ⟨4, _⟩ => ⟨S7168x3584, .fp8e4m3⟩
  | .hbm, ⟨5, _⟩ => ⟨S56x28, .f32⟩
  | .hbm, ⟨6, _⟩ => ⟨S3584, .bf16⟩
  | .hbm, ⟨7, _⟩ => ⟨S32768x7168, .bf16⟩
  | .hbm, ⟨8, _⟩ => ⟨S8x1x7168, .bf16⟩
  | .hbm, ⟨9, _⟩ => ⟨S8x1x7168, .bf16⟩
  | .hbm, ⟨10, _⟩ => ⟨S8x1x3584, .bf16⟩
  | .hbm, ⟨11, _⟩ => ⟨S1x3584, .bf16⟩
  | .hbm, ⟨12, _⟩ => ⟨S32768x3584, .bf16⟩
  | .hbm, ⟨13, _⟩ => ⟨S32768x7168, .fp8e4m3⟩
  | .hbm, ⟨14, _⟩ => ⟨S32768x56, .f32⟩
  | .local _ .vmem, ⟨0, _⟩ => ⟨S128x7168, .bf16⟩
  | .local _ .vmem, ⟨1, _⟩ => ⟨S128x7168, .bf16⟩
  | .local _ .vmem, ⟨2, _⟩ => ⟨S1x1x7168, .bf16⟩
  | .local _ .vmem, ⟨3, _⟩ => ⟨S1x1x7168, .bf16⟩
  | .local _ .vmem, ⟨4, _⟩ => ⟨S1x1x7168, .bf16⟩
  | .local _ .vmem, ⟨5, _⟩ => ⟨S1x1x7168, .bf16⟩
  | .local _ .vmem, ⟨6, _⟩ => ⟨S1x1x3584, .bf16⟩
  | .local _ .vmem, ⟨7, _⟩ => ⟨S1x1x3584, .bf16⟩
  | .local _ .vmem, ⟨8, _⟩ => ⟨S1x3584, .bf16⟩
  | .local _ .vmem, ⟨9, _⟩ => ⟨S128x3584, .bf16⟩
  | .local _ .vmem, ⟨10, _⟩ => ⟨S128x3584, .bf16⟩
  | .local _ .vmem, ⟨11, _⟩ => ⟨S128x7168, .fp8e4m3⟩
  | .local _ .vmem, ⟨12, _⟩ => ⟨S128x7168, .fp8e4m3⟩
  | .local _ .vmem, ⟨13, _⟩ => ⟨S128x56, .f32⟩
  | .local _ .vmem, ⟨14, _⟩ => ⟨S128x56, .f32⟩
  | .local _ .vmem, ⟨15, _⟩ => ⟨S7168x3584, .bf16⟩
  | .local _ .vmem, ⟨16, _⟩ => ⟨S128x7168, .bf16⟩
  | .local _ .vmem, ⟨17, _⟩ => ⟨S2x256x3584, .fp8e4m3⟩
  | .local _ .smem, ⟨0, _⟩ => ⟨S56x28, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_85 : BitVec 32 := 0#32
  let c28_i32 : BitVec 32 := 28#32
  let v114 : BitVec 32 := Scalar.addi c0_i32_85 c28_i32
  let c1_i32_86 : BitVec 32 := 1#32
  ⟨c0_i32_85, v114, c1_i32_86⟩
def k0_cond2 (k0_t1 : Fin k0_t1_loop.trips) : BitVec 1 :=
  let c0_i32_85 : BitVec 32 := 0#32
  let c1_i32_86 : BitVec 32 := 1#32
  let arg15 : BitVec 32 := Scf.iv c0_i32_85 c1_i32_86 k0_t1
  let c1_i32_93 : BitVec 32 := 1#32
  let v125 : BitVec 32 := Scalar.addi arg15 c1_i32_93
  let c28_i32_94 : BitVec 32 := 28#32
  let v126 : BitVec 1 := Scalar.cmpi .slt v125 c28_i32_94
  let v127 : BitVec 32 := Scalar.extui v126
  let c0_i32_95 : BitVec 32 := 0#32
  let v128 : BitVec 1 := Scalar.cmpi .ne v127 c0_i32_95
  v128

def k0_off1 (k0_t1 : Fin k0_t1_loop.trips) : Fin 1 → Nat :=
  let c1_i32_391 : BitVec 32 := 1#32
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v982 : BitVec 32 := Scalar.subi c1_i32_391 v124
  ![v982.toNat]
def k0_off2 (k0_t1 : Fin k0_t1_loop.trips) : Fin 3 → Nat :=
  let c1_i32_391 : BitVec 32 := 1#32
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v982 : BitVec 32 := Scalar.subi c1_i32_391 v124
  let c0_i32_393 : BitVec 32 := 0#32
  let c0_i32_394 : BitVec 32 := 0#32
  ![v982.toNat, 0, 0]
def k0_off3 (k0_t1 : Fin k0_t1_loop.trips) : Fin 2 → Nat :=
  let c0_i32_85 : BitVec 32 := 0#32
  let c1_i32_86 : BitVec 32 := 1#32
  let arg15 : BitVec 32 := Scf.iv c0_i32_85 c1_i32_86 k0_t1
  let c1_i32_390 : BitVec 32 := 1#32
  let v981 : BitVec 32 := Scalar.addi arg15 c1_i32_390
  let c256_i32_392 : BitVec 32 := 256#32
  let v983 : BitVec 32 := Scalar.muli v981 c256_i32_392
  let c0_i32_395 : BitVec 32 := 0#32
  ![v983.toNat, 0]
def k0_off4 (k0_t1 : Fin k0_t1_loop.trips) : Fin 1 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  ![v124.toNat]
def k0_off5 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let c0_i32_96 : BitVec 32 := 0#32
  let c0_i32_97 : BitVec 32 := 0#32
  ![v124.toNat, 0, 0]
def k0_off6 (k0_t1 : Fin k0_t1_loop.trips) : Fin 2 → Nat :=
  let c0_i32_85 : BitVec 32 := 0#32
  let c1_i32_86 : BitVec 32 := 1#32
  let arg15 : BitVec 32 := Scf.iv c0_i32_85 c1_i32_86 k0_t1
  let c256_i32 : BitVec 32 := 256#32
  let v129 : BitVec 32 := Scalar.muli arg15 c256_i32
  let c0_i32_98 : BitVec 32 := 0#32
  ![v129.toNat, 0]
def k0_mult1 (k0_t1 : Fin k0_t1_loop.trips) : BitVec 32 :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let c0_i32_100 : BitVec 32 := 0#32
  let v136 : BitVec 32 := Scalar.addi v135 c0_i32_100
  v136
def k0_off7 (k0_t1 : Fin k0_t1_loop.trips) (c0_i32_102 : BitVec 32) : Fin 2 → Nat :=
  let c0_i32_85 : BitVec 32 := 0#32
  let c1_i32_86 : BitVec 32 := 1#32
  let arg15 : BitVec 32 := Scf.iv c0_i32_85 c1_i32_86 k0_t1
  let c2_i32_101 : BitVec 32 := 2#32
  let v138 : BitVec 32 := Scalar.muli arg15 c2_i32_101
  let v139 : BitVec 32 := Scalar.addi v138 c0_i32_102
  let v140 : Index := Scalar.indexCast v139
  let c0_103 : Index := 0#32
  ![v140.toNat, 0]
def k0_off8 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v142 : Index := Scalar.indexCast v124
  let c0_104 : Index := 0#32
  let c0_105 : Index := 0#32
  ![v142.toNat, 0, 0]
def k0_off9 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v149 : Index := Scalar.indexCast v137
  let c0_106 : Index := 0#32
  ![v149.toNat, 0]
def k0_off10 (k0_t1 : Fin k0_t1_loop.trips) (c0_i32_108 : BitVec 32) : Fin 2 → Nat :=
  let c0_i32_85 : BitVec 32 := 0#32
  let c1_i32_86 : BitVec 32 := 1#32
  let arg15 : BitVec 32 := Scf.iv c0_i32_85 c1_i32_86 k0_t1
  let c2_i32_107 : BitVec 32 := 2#32
  let v153 : BitVec 32 := Scalar.muli arg15 c2_i32_107
  let v154 : BitVec 32 := Scalar.addi v153 c0_i32_108
  let v155 : Index := Scalar.indexCast v154
  let c1 : Index := 1#32
  ![v155.toNat, 1]
def k0_off11 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v157 : Index := Scalar.indexCast v124
  let c0_109 : Index := 0#32
  let c128 : Index := 128#32
  ![v157.toNat, 0, 128]
def k0_off12 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v164 : Index := Scalar.indexCast v137
  let c128_110 : Index := 128#32
  ![v164.toNat, 128]
def k0_off13 (k0_t1 : Fin k0_t1_loop.trips) (c0_i32_112 : BitVec 32) : Fin 2 → Nat :=
  let c0_i32_85 : BitVec 32 := 0#32
  let c1_i32_86 : BitVec 32 := 1#32
  let arg15 : BitVec 32 := Scf.iv c0_i32_85 c1_i32_86 k0_t1
  let c2_i32_111 : BitVec 32 := 2#32
  let v168 : BitVec 32 := Scalar.muli arg15 c2_i32_111
  let v169 : BitVec 32 := Scalar.addi v168 c0_i32_112
  let v170 : Index := Scalar.indexCast v169
  let c2 : Index := 2#32
  ![v170.toNat, 2]
def k0_off14 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v172 : Index := Scalar.indexCast v124
  let c0_113 : Index := 0#32
  let c256 : Index := 256#32
  ![v172.toNat, 0, 256]
def k0_off15 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v179 : Index := Scalar.indexCast v137
  let c256_114 : Index := 256#32
  ![v179.toNat, 256]
def k0_off16 (k0_t1 : Fin k0_t1_loop.trips) (c0_i32_116 : BitVec 32) : Fin 2 → Nat :=
  let c0_i32_85 : BitVec 32 := 0#32
  let c1_i32_86 : BitVec 32 := 1#32
  let arg15 : BitVec 32 := Scf.iv c0_i32_85 c1_i32_86 k0_t1
  let c2_i32_115 : BitVec 32 := 2#32
  let v183 : BitVec 32 := Scalar.muli arg15 c2_i32_115
  let v184 : BitVec 32 := Scalar.addi v183 c0_i32_116
  let v185 : Index := Scalar.indexCast v184
  let c3 : Index := 3#32
  ![v185.toNat, 3]
def k0_off17 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v187 : Index := Scalar.indexCast v124
  let c0_117 : Index := 0#32
  let c384 : Index := 384#32
  ![v187.toNat, 0, 384]
def k0_off18 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v194 : Index := Scalar.indexCast v137
  let c384_118 : Index := 384#32
  ![v194.toNat, 384]
def k0_off19 (k0_t1 : Fin k0_t1_loop.trips) (c0_i32_120 : BitVec 32) : Fin 2 → Nat :=
  let c0_i32_85 : BitVec 32 := 0#32
  let c1_i32_86 : BitVec 32 := 1#32
  let arg15 : BitVec 32 := Scf.iv c0_i32_85 c1_i32_86 k0_t1
  let c2_i32_119 : BitVec 32 := 2#32
  let v198 : BitVec 32 := Scalar.muli arg15 c2_i32_119
  let v199 : BitVec 32 := Scalar.addi v198 c0_i32_120
  let v200 : Index := Scalar.indexCast v199
  let c4 : Index := 4#32
  ![v200.toNat, 4]
def k0_off20 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v202 : Index := Scalar.indexCast v124
  let c0_121 : Index := 0#32
  let c512_122 : Index := 512#32
  ![v202.toNat, 0, 512]
def k0_off21 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v209 : Index := Scalar.indexCast v137
  let c512_123 : Index := 512#32
  ![v209.toNat, 512]
def k0_off22 (k0_t1 : Fin k0_t1_loop.trips) (c0_i32_125 : BitVec 32) : Fin 2 → Nat :=
  let c0_i32_85 : BitVec 32 := 0#32
  let c1_i32_86 : BitVec 32 := 1#32
  let arg15 : BitVec 32 := Scf.iv c0_i32_85 c1_i32_86 k0_t1
  let c2_i32_124 : BitVec 32 := 2#32
  let v213 : BitVec 32 := Scalar.muli arg15 c2_i32_124
  let v214 : BitVec 32 := Scalar.addi v213 c0_i32_125
  let v215 : Index := Scalar.indexCast v214
  let c5 : Index := 5#32
  ![v215.toNat, 5]
def k0_off23 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v217 : Index := Scalar.indexCast v124
  let c0_126 : Index := 0#32
  let c640 : Index := 640#32
  ![v217.toNat, 0, 640]
def k0_off24 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v224 : Index := Scalar.indexCast v137
  let c640_127 : Index := 640#32
  ![v224.toNat, 640]
def k0_off25 (k0_t1 : Fin k0_t1_loop.trips) (c0_i32_129 : BitVec 32) : Fin 2 → Nat :=
  let c0_i32_85 : BitVec 32 := 0#32
  let c1_i32_86 : BitVec 32 := 1#32
  let arg15 : BitVec 32 := Scf.iv c0_i32_85 c1_i32_86 k0_t1
  let c2_i32_128 : BitVec 32 := 2#32
  let v228 : BitVec 32 := Scalar.muli arg15 c2_i32_128
  let v229 : BitVec 32 := Scalar.addi v228 c0_i32_129
  let v230 : Index := Scalar.indexCast v229
  let c6 : Index := 6#32
  ![v230.toNat, 6]
def k0_off26 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v232 : Index := Scalar.indexCast v124
  let c0_130 : Index := 0#32
  let c768 : Index := 768#32
  ![v232.toNat, 0, 768]
def k0_off27 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v239 : Index := Scalar.indexCast v137
  let c768_131 : Index := 768#32
  ![v239.toNat, 768]
def k0_off28 (k0_t1 : Fin k0_t1_loop.trips) (c0_i32_133 : BitVec 32) : Fin 2 → Nat :=
  let c0_i32_85 : BitVec 32 := 0#32
  let c1_i32_86 : BitVec 32 := 1#32
  let arg15 : BitVec 32 := Scf.iv c0_i32_85 c1_i32_86 k0_t1
  let c2_i32_132 : BitVec 32 := 2#32
  let v243 : BitVec 32 := Scalar.muli arg15 c2_i32_132
  let v244 : BitVec 32 := Scalar.addi v243 c0_i32_133
  let v245 : Index := Scalar.indexCast v244
  let c7 : Index := 7#32
  ![v245.toNat, 7]
def k0_off29 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v247 : Index := Scalar.indexCast v124
  let c0_134 : Index := 0#32
  let c896 : Index := 896#32
  ![v247.toNat, 0, 896]
def k0_off30 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v254 : Index := Scalar.indexCast v137
  let c896_135 : Index := 896#32
  ![v254.toNat, 896]
def k0_off31 (k0_t1 : Fin k0_t1_loop.trips) (c0_i32_137 : BitVec 32) : Fin 2 → Nat :=
  let c0_i32_85 : BitVec 32 := 0#32
  let c1_i32_86 : BitVec 32 := 1#32
  let arg15 : BitVec 32 := Scf.iv c0_i32_85 c1_i32_86 k0_t1
  let c2_i32_136 : BitVec 32 := 2#32
  let v258 : BitVec 32 := Scalar.muli arg15 c2_i32_136
  let v259 : BitVec 32 := Scalar.addi v258 c0_i32_137
  let v260 : Index := Scalar.indexCast v259
  let c8 : Index := 8#32
  ![v260.toNat, 8]
def k0_off32 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v262 : Index := Scalar.indexCast v124
  let c0_138 : Index := 0#32
  let c1024_139 : Index := 1024#32
  ![v262.toNat, 0, 1024]
def k0_off33 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v269 : Index := Scalar.indexCast v137
  let c1024_140 : Index := 1024#32
  ![v269.toNat, 1024]
def k0_off34 (k0_t1 : Fin k0_t1_loop.trips) (c0_i32_142 : BitVec 32) : Fin 2 → Nat :=
  let c0_i32_85 : BitVec 32 := 0#32
  let c1_i32_86 : BitVec 32 := 1#32
  let arg15 : BitVec 32 := Scf.iv c0_i32_85 c1_i32_86 k0_t1
  let c2_i32_141 : BitVec 32 := 2#32
  let v273 : BitVec 32 := Scalar.muli arg15 c2_i32_141
  let v274 : BitVec 32 := Scalar.addi v273 c0_i32_142
  let v275 : Index := Scalar.indexCast v274
  let c9 : Index := 9#32
  ![v275.toNat, 9]
def k0_off35 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v277 : Index := Scalar.indexCast v124
  let c0_143 : Index := 0#32
  let c1152 : Index := 1152#32
  ![v277.toNat, 0, 1152]
def k0_off36 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v284 : Index := Scalar.indexCast v137
  let c1152_144 : Index := 1152#32
  ![v284.toNat, 1152]
def k0_off37 (k0_t1 : Fin k0_t1_loop.trips) (c0_i32_146 : BitVec 32) : Fin 2 → Nat :=
  let c0_i32_85 : BitVec 32 := 0#32
  let c1_i32_86 : BitVec 32 := 1#32
  let arg15 : BitVec 32 := Scf.iv c0_i32_85 c1_i32_86 k0_t1
  let c2_i32_145 : BitVec 32 := 2#32
  let v288 : BitVec 32 := Scalar.muli arg15 c2_i32_145
  let v289 : BitVec 32 := Scalar.addi v288 c0_i32_146
  let v290 : Index := Scalar.indexCast v289
  let c10 : Index := 10#32
  ![v290.toNat, 10]
def k0_off38 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v292 : Index := Scalar.indexCast v124
  let c0_147 : Index := 0#32
  let c1280 : Index := 1280#32
  ![v292.toNat, 0, 1280]
def k0_off39 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v299 : Index := Scalar.indexCast v137
  let c1280_148 : Index := 1280#32
  ![v299.toNat, 1280]
def k0_off40 (k0_t1 : Fin k0_t1_loop.trips) (c0_i32_150 : BitVec 32) : Fin 2 → Nat :=
  let c0_i32_85 : BitVec 32 := 0#32
  let c1_i32_86 : BitVec 32 := 1#32
  let arg15 : BitVec 32 := Scf.iv c0_i32_85 c1_i32_86 k0_t1
  let c2_i32_149 : BitVec 32 := 2#32
  let v303 : BitVec 32 := Scalar.muli arg15 c2_i32_149
  let v304 : BitVec 32 := Scalar.addi v303 c0_i32_150
  let v305 : Index := Scalar.indexCast v304
  let c11 : Index := 11#32
  ![v305.toNat, 11]
def k0_off41 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v307 : Index := Scalar.indexCast v124
  let c0_151 : Index := 0#32
  let c1408 : Index := 1408#32
  ![v307.toNat, 0, 1408]
def k0_off42 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v314 : Index := Scalar.indexCast v137
  let c1408_152 : Index := 1408#32
  ![v314.toNat, 1408]
def k0_off43 (k0_t1 : Fin k0_t1_loop.trips) (c0_i32_154 : BitVec 32) : Fin 2 → Nat :=
  let c0_i32_85 : BitVec 32 := 0#32
  let c1_i32_86 : BitVec 32 := 1#32
  let arg15 : BitVec 32 := Scf.iv c0_i32_85 c1_i32_86 k0_t1
  let c2_i32_153 : BitVec 32 := 2#32
  let v318 : BitVec 32 := Scalar.muli arg15 c2_i32_153
  let v319 : BitVec 32 := Scalar.addi v318 c0_i32_154
  let v320 : Index := Scalar.indexCast v319
  let c12 : Index := 12#32
  ![v320.toNat, 12]
def k0_off44 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v322 : Index := Scalar.indexCast v124
  let c0_155 : Index := 0#32
  let c1536_156 : Index := 1536#32
  ![v322.toNat, 0, 1536]
def k0_off45 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v329 : Index := Scalar.indexCast v137
  let c1536_157 : Index := 1536#32
  ![v329.toNat, 1536]
def k0_off46 (k0_t1 : Fin k0_t1_loop.trips) (c0_i32_159 : BitVec 32) : Fin 2 → Nat :=
  let c0_i32_85 : BitVec 32 := 0#32
  let c1_i32_86 : BitVec 32 := 1#32
  let arg15 : BitVec 32 := Scf.iv c0_i32_85 c1_i32_86 k0_t1
  let c2_i32_158 : BitVec 32 := 2#32
  let v333 : BitVec 32 := Scalar.muli arg15 c2_i32_158
  let v334 : BitVec 32 := Scalar.addi v333 c0_i32_159
  let v335 : Index := Scalar.indexCast v334
  let c13 : Index := 13#32
  ![v335.toNat, 13]
def k0_off47 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v337 : Index := Scalar.indexCast v124
  let c0_160 : Index := 0#32
  let c1664 : Index := 1664#32
  ![v337.toNat, 0, 1664]
def k0_off48 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v344 : Index := Scalar.indexCast v137
  let c1664_161 : Index := 1664#32
  ![v344.toNat, 1664]
def k0_off49 (k0_t1 : Fin k0_t1_loop.trips) (c0_i32_163 : BitVec 32) : Fin 2 → Nat :=
  let c0_i32_85 : BitVec 32 := 0#32
  let c1_i32_86 : BitVec 32 := 1#32
  let arg15 : BitVec 32 := Scf.iv c0_i32_85 c1_i32_86 k0_t1
  let c2_i32_162 : BitVec 32 := 2#32
  let v348 : BitVec 32 := Scalar.muli arg15 c2_i32_162
  let v349 : BitVec 32 := Scalar.addi v348 c0_i32_163
  let v350 : Index := Scalar.indexCast v349
  let c14 : Index := 14#32
  ![v350.toNat, 14]
def k0_off50 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v352 : Index := Scalar.indexCast v124
  let c0_164 : Index := 0#32
  let c1792 : Index := 1792#32
  ![v352.toNat, 0, 1792]
def k0_off51 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v359 : Index := Scalar.indexCast v137
  let c1792_165 : Index := 1792#32
  ![v359.toNat, 1792]
def k0_off52 (k0_t1 : Fin k0_t1_loop.trips) (c0_i32_167 : BitVec 32) : Fin 2 → Nat :=
  let c0_i32_85 : BitVec 32 := 0#32
  let c1_i32_86 : BitVec 32 := 1#32
  let arg15 : BitVec 32 := Scf.iv c0_i32_85 c1_i32_86 k0_t1
  let c2_i32_166 : BitVec 32 := 2#32
  let v363 : BitVec 32 := Scalar.muli arg15 c2_i32_166
  let v364 : BitVec 32 := Scalar.addi v363 c0_i32_167
  let v365 : Index := Scalar.indexCast v364
  let c15 : Index := 15#32
  ![v365.toNat, 15]
def k0_off53 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v367 : Index := Scalar.indexCast v124
  let c0_168 : Index := 0#32
  let c1920 : Index := 1920#32
  ![v367.toNat, 0, 1920]
def k0_off54 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v374 : Index := Scalar.indexCast v137
  let c1920_169 : Index := 1920#32
  ![v374.toNat, 1920]
def k0_off55 (k0_t1 : Fin k0_t1_loop.trips) (c0_i32_171 : BitVec 32) : Fin 2 → Nat :=
  let c0_i32_85 : BitVec 32 := 0#32
  let c1_i32_86 : BitVec 32 := 1#32
  let arg15 : BitVec 32 := Scf.iv c0_i32_85 c1_i32_86 k0_t1
  let c2_i32_170 : BitVec 32 := 2#32
  let v378 : BitVec 32 := Scalar.muli arg15 c2_i32_170
  let v379 : BitVec 32 := Scalar.addi v378 c0_i32_171
  let v380 : Index := Scalar.indexCast v379
  let c16 : Index := 16#32
  ![v380.toNat, 16]
def k0_off56 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v382 : Index := Scalar.indexCast v124
  let c0_172 : Index := 0#32
  let c2048_173 : Index := 2048#32
  ![v382.toNat, 0, 2048]
def k0_off57 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v389 : Index := Scalar.indexCast v137
  let c2048_174 : Index := 2048#32
  ![v389.toNat, 2048]
def k0_off58 (k0_t1 : Fin k0_t1_loop.trips) (c0_i32_176 : BitVec 32) : Fin 2 → Nat :=
  let c0_i32_85 : BitVec 32 := 0#32
  let c1_i32_86 : BitVec 32 := 1#32
  let arg15 : BitVec 32 := Scf.iv c0_i32_85 c1_i32_86 k0_t1
  let c2_i32_175 : BitVec 32 := 2#32
  let v393 : BitVec 32 := Scalar.muli arg15 c2_i32_175
  let v394 : BitVec 32 := Scalar.addi v393 c0_i32_176
  let v395 : Index := Scalar.indexCast v394
  let c17 : Index := 17#32
  ![v395.toNat, 17]
def k0_off59 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v397 : Index := Scalar.indexCast v124
  let c0_177 : Index := 0#32
  let c2176 : Index := 2176#32
  ![v397.toNat, 0, 2176]
def k0_off60 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v404 : Index := Scalar.indexCast v137
  let c2176_178 : Index := 2176#32
  ![v404.toNat, 2176]
def k0_off61 (k0_t1 : Fin k0_t1_loop.trips) (c0_i32_180 : BitVec 32) : Fin 2 → Nat :=
  let c0_i32_85 : BitVec 32 := 0#32
  let c1_i32_86 : BitVec 32 := 1#32
  let arg15 : BitVec 32 := Scf.iv c0_i32_85 c1_i32_86 k0_t1
  let c2_i32_179 : BitVec 32 := 2#32
  let v408 : BitVec 32 := Scalar.muli arg15 c2_i32_179
  let v409 : BitVec 32 := Scalar.addi v408 c0_i32_180
  let v410 : Index := Scalar.indexCast v409
  let c18 : Index := 18#32
  ![v410.toNat, 18]
def k0_off62 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v412 : Index := Scalar.indexCast v124
  let c0_181 : Index := 0#32
  let c2304 : Index := 2304#32
  ![v412.toNat, 0, 2304]
def k0_off63 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v419 : Index := Scalar.indexCast v137
  let c2304_182 : Index := 2304#32
  ![v419.toNat, 2304]
def k0_off64 (k0_t1 : Fin k0_t1_loop.trips) (c0_i32_184 : BitVec 32) : Fin 2 → Nat :=
  let c0_i32_85 : BitVec 32 := 0#32
  let c1_i32_86 : BitVec 32 := 1#32
  let arg15 : BitVec 32 := Scf.iv c0_i32_85 c1_i32_86 k0_t1
  let c2_i32_183 : BitVec 32 := 2#32
  let v423 : BitVec 32 := Scalar.muli arg15 c2_i32_183
  let v424 : BitVec 32 := Scalar.addi v423 c0_i32_184
  let v425 : Index := Scalar.indexCast v424
  let c19 : Index := 19#32
  ![v425.toNat, 19]
def k0_off65 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v427 : Index := Scalar.indexCast v124
  let c0_185 : Index := 0#32
  let c2432 : Index := 2432#32
  ![v427.toNat, 0, 2432]
def k0_off66 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v434 : Index := Scalar.indexCast v137
  let c2432_186 : Index := 2432#32
  ![v434.toNat, 2432]
def k0_off67 (k0_t1 : Fin k0_t1_loop.trips) (c0_i32_188 : BitVec 32) : Fin 2 → Nat :=
  let c0_i32_85 : BitVec 32 := 0#32
  let c1_i32_86 : BitVec 32 := 1#32
  let arg15 : BitVec 32 := Scf.iv c0_i32_85 c1_i32_86 k0_t1
  let c2_i32_187 : BitVec 32 := 2#32
  let v438 : BitVec 32 := Scalar.muli arg15 c2_i32_187
  let v439 : BitVec 32 := Scalar.addi v438 c0_i32_188
  let v440 : Index := Scalar.indexCast v439
  let c20 : Index := 20#32
  ![v440.toNat, 20]
def k0_off68 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v442 : Index := Scalar.indexCast v124
  let c0_189 : Index := 0#32
  let c2560_190 : Index := 2560#32
  ![v442.toNat, 0, 2560]
def k0_off69 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v449 : Index := Scalar.indexCast v137
  let c2560_191 : Index := 2560#32
  ![v449.toNat, 2560]
def k0_off70 (k0_t1 : Fin k0_t1_loop.trips) (c0_i32_193 : BitVec 32) : Fin 2 → Nat :=
  let c0_i32_85 : BitVec 32 := 0#32
  let c1_i32_86 : BitVec 32 := 1#32
  let arg15 : BitVec 32 := Scf.iv c0_i32_85 c1_i32_86 k0_t1
  let c2_i32_192 : BitVec 32 := 2#32
  let v453 : BitVec 32 := Scalar.muli arg15 c2_i32_192
  let v454 : BitVec 32 := Scalar.addi v453 c0_i32_193
  let v455 : Index := Scalar.indexCast v454
  let c21 : Index := 21#32
  ![v455.toNat, 21]
def k0_off71 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v457 : Index := Scalar.indexCast v124
  let c0_194 : Index := 0#32
  let c2688 : Index := 2688#32
  ![v457.toNat, 0, 2688]
def k0_off72 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v464 : Index := Scalar.indexCast v137
  let c2688_195 : Index := 2688#32
  ![v464.toNat, 2688]
def k0_off73 (k0_t1 : Fin k0_t1_loop.trips) (c0_i32_197 : BitVec 32) : Fin 2 → Nat :=
  let c0_i32_85 : BitVec 32 := 0#32
  let c1_i32_86 : BitVec 32 := 1#32
  let arg15 : BitVec 32 := Scf.iv c0_i32_85 c1_i32_86 k0_t1
  let c2_i32_196 : BitVec 32 := 2#32
  let v468 : BitVec 32 := Scalar.muli arg15 c2_i32_196
  let v469 : BitVec 32 := Scalar.addi v468 c0_i32_197
  let v470 : Index := Scalar.indexCast v469
  let c22 : Index := 22#32
  ![v470.toNat, 22]
def k0_off74 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v472 : Index := Scalar.indexCast v124
  let c0_198 : Index := 0#32
  let c2816 : Index := 2816#32
  ![v472.toNat, 0, 2816]
def k0_off75 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v479 : Index := Scalar.indexCast v137
  let c2816_199 : Index := 2816#32
  ![v479.toNat, 2816]
def k0_off76 (k0_t1 : Fin k0_t1_loop.trips) (c0_i32_201 : BitVec 32) : Fin 2 → Nat :=
  let c0_i32_85 : BitVec 32 := 0#32
  let c1_i32_86 : BitVec 32 := 1#32
  let arg15 : BitVec 32 := Scf.iv c0_i32_85 c1_i32_86 k0_t1
  let c2_i32_200 : BitVec 32 := 2#32
  let v483 : BitVec 32 := Scalar.muli arg15 c2_i32_200
  let v484 : BitVec 32 := Scalar.addi v483 c0_i32_201
  let v485 : Index := Scalar.indexCast v484
  let c23 : Index := 23#32
  ![v485.toNat, 23]
def k0_off77 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v487 : Index := Scalar.indexCast v124
  let c0_202 : Index := 0#32
  let c2944 : Index := 2944#32
  ![v487.toNat, 0, 2944]
def k0_off78 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v494 : Index := Scalar.indexCast v137
  let c2944_203 : Index := 2944#32
  ![v494.toNat, 2944]
def k0_off79 (k0_t1 : Fin k0_t1_loop.trips) (c0_i32_205 : BitVec 32) : Fin 2 → Nat :=
  let c0_i32_85 : BitVec 32 := 0#32
  let c1_i32_86 : BitVec 32 := 1#32
  let arg15 : BitVec 32 := Scf.iv c0_i32_85 c1_i32_86 k0_t1
  let c2_i32_204 : BitVec 32 := 2#32
  let v498 : BitVec 32 := Scalar.muli arg15 c2_i32_204
  let v499 : BitVec 32 := Scalar.addi v498 c0_i32_205
  let v500 : Index := Scalar.indexCast v499
  let c24 : Index := 24#32
  ![v500.toNat, 24]
def k0_off80 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v502 : Index := Scalar.indexCast v124
  let c0_206 : Index := 0#32
  let c3072_207 : Index := 3072#32
  ![v502.toNat, 0, 3072]
def k0_off81 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v509 : Index := Scalar.indexCast v137
  let c3072_208 : Index := 3072#32
  ![v509.toNat, 3072]
def k0_off82 (k0_t1 : Fin k0_t1_loop.trips) (c0_i32_210 : BitVec 32) : Fin 2 → Nat :=
  let c0_i32_85 : BitVec 32 := 0#32
  let c1_i32_86 : BitVec 32 := 1#32
  let arg15 : BitVec 32 := Scf.iv c0_i32_85 c1_i32_86 k0_t1
  let c2_i32_209 : BitVec 32 := 2#32
  let v513 : BitVec 32 := Scalar.muli arg15 c2_i32_209
  let v514 : BitVec 32 := Scalar.addi v513 c0_i32_210
  let v515 : Index := Scalar.indexCast v514
  let c25 : Index := 25#32
  ![v515.toNat, 25]
def k0_off83 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v517 : Index := Scalar.indexCast v124
  let c0_211 : Index := 0#32
  let c3200 : Index := 3200#32
  ![v517.toNat, 0, 3200]
def k0_off84 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v524 : Index := Scalar.indexCast v137
  let c3200_212 : Index := 3200#32
  ![v524.toNat, 3200]
def k0_off85 (k0_t1 : Fin k0_t1_loop.trips) (c0_i32_214 : BitVec 32) : Fin 2 → Nat :=
  let c0_i32_85 : BitVec 32 := 0#32
  let c1_i32_86 : BitVec 32 := 1#32
  let arg15 : BitVec 32 := Scf.iv c0_i32_85 c1_i32_86 k0_t1
  let c2_i32_213 : BitVec 32 := 2#32
  let v528 : BitVec 32 := Scalar.muli arg15 c2_i32_213
  let v529 : BitVec 32 := Scalar.addi v528 c0_i32_214
  let v530 : Index := Scalar.indexCast v529
  let c26 : Index := 26#32
  ![v530.toNat, 26]
def k0_off86 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v532 : Index := Scalar.indexCast v124
  let c0_215 : Index := 0#32
  let c3328 : Index := 3328#32
  ![v532.toNat, 0, 3328]
def k0_off87 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v539 : Index := Scalar.indexCast v137
  let c3328_216 : Index := 3328#32
  ![v539.toNat, 3328]
def k0_off88 (k0_t1 : Fin k0_t1_loop.trips) (c0_i32_218 : BitVec 32) : Fin 2 → Nat :=
  let c0_i32_85 : BitVec 32 := 0#32
  let c1_i32_86 : BitVec 32 := 1#32
  let arg15 : BitVec 32 := Scf.iv c0_i32_85 c1_i32_86 k0_t1
  let c2_i32_217 : BitVec 32 := 2#32
  let v543 : BitVec 32 := Scalar.muli arg15 c2_i32_217
  let v544 : BitVec 32 := Scalar.addi v543 c0_i32_218
  let v545 : Index := Scalar.indexCast v544
  let c27 : Index := 27#32
  ![v545.toNat, 27]
def k0_off89 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v547 : Index := Scalar.indexCast v124
  let c0_219 : Index := 0#32
  let c3456 : Index := 3456#32
  ![v547.toNat, 0, 3456]
def k0_off90 (k0_t1 : Fin k0_t1_loop.trips) (c0_i32_100 : BitVec 32) : Fin 2 → Nat :=
  let c0_i32_85 : BitVec 32 := 0#32
  let c1_i32_86 : BitVec 32 := 1#32
  let arg15 : BitVec 32 := Scf.iv c0_i32_85 c1_i32_86 k0_t1
  let c256_i32_99 : BitVec 32 := 256#32
  let v135 : BitVec 32 := Scalar.muli arg15 c256_i32_99
  let v136 : BitVec 32 := Scalar.addi v135 c0_i32_100
  let v137 : BitVec 32 := v136
  let v554 : Index := Scalar.indexCast v137
  let c3456_220 : Index := 3456#32
  ![v554.toNat, 3456]
def k0_mult2 (k0_t1 : Fin k0_t1_loop.trips) : BitVec 32 :=
  let c0_i32_85 : BitVec 32 := 0#32
  let c1_i32_86 : BitVec 32 := 1#32
  let arg15 : BitVec 32 := Scf.iv c0_i32_85 c1_i32_86 k0_t1
  let c256_i32_221 : BitVec 32 := 256#32
  let v558 : BitVec 32 := Scalar.muli arg15 c256_i32_221
  let c128_i32 : BitVec 32 := 128#32
  let v559 : BitVec 32 := Scalar.addi v558 c128_i32
  v559
def k0_off91 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v565 : Index := Scalar.indexCast v124
  let c128_225 : Index := 128#32
  let c0_226 : Index := 0#32
  ![v565.toNat, 128, 0]
def k0_off92 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v580 : Index := Scalar.indexCast v124
  let c128_231 : Index := 128#32
  let c128_232 : Index := 128#32
  ![v580.toNat, 128, 128]
def k0_off93 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v595 : Index := Scalar.indexCast v124
  let c128_237 : Index := 128#32
  let c256_238 : Index := 256#32
  ![v595.toNat, 128, 256]
def k0_off94 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v610 : Index := Scalar.indexCast v124
  let c128_243 : Index := 128#32
  let c384_244 : Index := 384#32
  ![v610.toNat, 128, 384]
def k0_off95 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v625 : Index := Scalar.indexCast v124
  let c128_249 : Index := 128#32
  let c512_250 : Index := 512#32
  ![v625.toNat, 128, 512]
def k0_off96 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v640 : Index := Scalar.indexCast v124
  let c128_255 : Index := 128#32
  let c640_256 : Index := 640#32
  ![v640.toNat, 128, 640]
def k0_off97 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v655 : Index := Scalar.indexCast v124
  let c128_261 : Index := 128#32
  let c768_262 : Index := 768#32
  ![v655.toNat, 128, 768]
def k0_off98 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v670 : Index := Scalar.indexCast v124
  let c128_267 : Index := 128#32
  let c896_268 : Index := 896#32
  ![v670.toNat, 128, 896]
def k0_off99 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v685 : Index := Scalar.indexCast v124
  let c128_273 : Index := 128#32
  let c1024_274 : Index := 1024#32
  ![v685.toNat, 128, 1024]
def k0_off100 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v700 : Index := Scalar.indexCast v124
  let c128_279 : Index := 128#32
  let c1152_280 : Index := 1152#32
  ![v700.toNat, 128, 1152]
def k0_off101 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v715 : Index := Scalar.indexCast v124
  let c128_285 : Index := 128#32
  let c1280_286 : Index := 1280#32
  ![v715.toNat, 128, 1280]
def k0_off102 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v730 : Index := Scalar.indexCast v124
  let c128_291 : Index := 128#32
  let c1408_292 : Index := 1408#32
  ![v730.toNat, 128, 1408]
def k0_off103 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v745 : Index := Scalar.indexCast v124
  let c128_297 : Index := 128#32
  let c1536_298 : Index := 1536#32
  ![v745.toNat, 128, 1536]
def k0_off104 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v760 : Index := Scalar.indexCast v124
  let c128_303 : Index := 128#32
  let c1664_304 : Index := 1664#32
  ![v760.toNat, 128, 1664]
def k0_off105 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v775 : Index := Scalar.indexCast v124
  let c128_309 : Index := 128#32
  let c1792_310 : Index := 1792#32
  ![v775.toNat, 128, 1792]
def k0_off106 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v790 : Index := Scalar.indexCast v124
  let c128_315 : Index := 128#32
  let c1920_316 : Index := 1920#32
  ![v790.toNat, 128, 1920]
def k0_off107 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v805 : Index := Scalar.indexCast v124
  let c128_321 : Index := 128#32
  let c2048_322 : Index := 2048#32
  ![v805.toNat, 128, 2048]
def k0_off108 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v820 : Index := Scalar.indexCast v124
  let c128_327 : Index := 128#32
  let c2176_328 : Index := 2176#32
  ![v820.toNat, 128, 2176]
def k0_off109 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v835 : Index := Scalar.indexCast v124
  let c128_333 : Index := 128#32
  let c2304_334 : Index := 2304#32
  ![v835.toNat, 128, 2304]
def k0_off110 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v850 : Index := Scalar.indexCast v124
  let c128_339 : Index := 128#32
  let c2432_340 : Index := 2432#32
  ![v850.toNat, 128, 2432]
def k0_off111 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v865 : Index := Scalar.indexCast v124
  let c128_345 : Index := 128#32
  let c2560_346 : Index := 2560#32
  ![v865.toNat, 128, 2560]
def k0_off112 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v880 : Index := Scalar.indexCast v124
  let c128_351 : Index := 128#32
  let c2688_352 : Index := 2688#32
  ![v880.toNat, 128, 2688]
def k0_off113 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v895 : Index := Scalar.indexCast v124
  let c128_357 : Index := 128#32
  let c2816_358 : Index := 2816#32
  ![v895.toNat, 128, 2816]
def k0_off114 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v910 : Index := Scalar.indexCast v124
  let c128_363 : Index := 128#32
  let c2944_364 : Index := 2944#32
  ![v910.toNat, 128, 2944]
def k0_off115 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v925 : Index := Scalar.indexCast v124
  let c128_369 : Index := 128#32
  let c3072_370 : Index := 3072#32
  ![v925.toNat, 128, 3072]
def k0_off116 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v940 : Index := Scalar.indexCast v124
  let c128_375 : Index := 128#32
  let c3200_376 : Index := 3200#32
  ![v940.toNat, 128, 3200]
def k0_off117 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v955 : Index := Scalar.indexCast v124
  let c128_381 : Index := 128#32
  let c3328_382 : Index := 3328#32
  ![v955.toNat, 128, 3328]
def k0_off118 (k0_t1 : Fin k0_t1_loop.trips) : Fin 3 → Nat :=
  let c0_i32_85 : BitVec 32 := 0#32
  let c1_i32_86 : BitVec 32 := 1#32
  let arg15 : BitVec 32 := Scf.iv c0_i32_85 c1_i32_86 k0_t1
  let c2_i32 : BitVec 32 := 2#32
  let c0_i32_88 : BitVec 32 := 0#32
  let v115 : BitVec 1 := Scalar.cmpi .eq c2_i32 c0_i32_88
  let c1_i32_89 : BitVec 32 := 1#32
  let v116 : BitVec 32 := Scalar.select v115 c1_i32_89 c2_i32
  let v117 : BitVec 32 := Scalar.remsi arg15 v116
  let c0_i32_91 : BitVec 32 := 0#32
  let v119 : BitVec 1 := Scalar.cmpi .slt v117 c0_i32_91
  let c0_i32_92 : BitVec 32 := 0#32
  let v120 : BitVec 1 := Scalar.cmpi .slt v116 c0_i32_92
  let v121 : BitVec 1 := Scalar.xori v119 v120
  let c0_i32_90 : BitVec 32 := 0#32
  let v118 : BitVec 1 := Scalar.cmpi .ne v117 c0_i32_90
  let v122 : BitVec 1 := Scalar.andi v121 v118
  let v123 : BitVec 32 := Scalar.addi v117 v116
  let v124 : BitVec 32 := Scalar.select v122 v123 v117
  let v970 : Index := Scalar.indexCast v124
  let c128_387 : Index := 128#32
  let c3456_388 : Index := 3456#32
  ![v970.toNat, 128, 3456]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult3 (k0_t2 : Fin k0_t2_loop.trips) : BitVec 32 :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  v109
def k0_off119 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v111 : Index := Scalar.indexCast v110
  let c0_79 : Index := 0#32
  ![v111.toNat, 0]
def k0_off120 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v129 : Index := Scalar.indexCast v110
  let c0_85 : Index := 0#32
  ![v129.toNat, 0]
def k0_off121 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v214 : Index := Scalar.indexCast v110
  let c0_101 : Index := 0#32
  ![v214.toNat, 0]
def k0_off122 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v224 : Index := Scalar.indexCast v110
  let c128 : Index := 128#32
  ![v224.toNat, 128]
def k0_off123 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v309 : Index := Scalar.indexCast v110
  let c1 : Index := 1#32
  ![v309.toNat, 1]
def k0_off124 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v319 : Index := Scalar.indexCast v110
  let c256 : Index := 256#32
  ![v319.toNat, 256]
def k0_off125 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v404 : Index := Scalar.indexCast v110
  let c2 : Index := 2#32
  ![v404.toNat, 2]
def k0_off126 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v414 : Index := Scalar.indexCast v110
  let c384 : Index := 384#32
  ![v414.toNat, 384]
def k0_off127 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v499 : Index := Scalar.indexCast v110
  let c3 : Index := 3#32
  ![v499.toNat, 3]
def k0_off128 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v509 : Index := Scalar.indexCast v110
  let c512_181 : Index := 512#32
  ![v509.toNat, 512]
def k0_off129 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v594 : Index := Scalar.indexCast v110
  let c4 : Index := 4#32
  ![v594.toNat, 4]
def k0_off130 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v604 : Index := Scalar.indexCast v110
  let c640 : Index := 640#32
  ![v604.toNat, 640]
def k0_off131 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v689 : Index := Scalar.indexCast v110
  let c5 : Index := 5#32
  ![v689.toNat, 5]
def k0_off132 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v699 : Index := Scalar.indexCast v110
  let c768 : Index := 768#32
  ![v699.toNat, 768]
def k0_off133 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v784 : Index := Scalar.indexCast v110
  let c6 : Index := 6#32
  ![v784.toNat, 6]
def k0_off134 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v794 : Index := Scalar.indexCast v110
  let c896 : Index := 896#32
  ![v794.toNat, 896]
def k0_off135 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v879 : Index := Scalar.indexCast v110
  let c7 : Index := 7#32
  ![v879.toNat, 7]
def k0_off136 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v889 : Index := Scalar.indexCast v110
  let c1024_286 : Index := 1024#32
  ![v889.toNat, 1024]
def k0_off137 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v974 : Index := Scalar.indexCast v110
  let c8 : Index := 8#32
  ![v974.toNat, 8]
def k0_off138 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v984 : Index := Scalar.indexCast v110
  let c1152 : Index := 1152#32
  ![v984.toNat, 1152]
def k0_off139 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1069 : Index := Scalar.indexCast v110
  let c9 : Index := 9#32
  ![v1069.toNat, 9]
def k0_off140 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1079 : Index := Scalar.indexCast v110
  let c1280 : Index := 1280#32
  ![v1079.toNat, 1280]
def k0_off141 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1164 : Index := Scalar.indexCast v110
  let c10 : Index := 10#32
  ![v1164.toNat, 10]
def k0_off142 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1174 : Index := Scalar.indexCast v110
  let c1408 : Index := 1408#32
  ![v1174.toNat, 1408]
def k0_off143 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1259 : Index := Scalar.indexCast v110
  let c11 : Index := 11#32
  ![v1259.toNat, 11]
def k0_off144 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1269 : Index := Scalar.indexCast v110
  let c1536_391 : Index := 1536#32
  ![v1269.toNat, 1536]
def k0_off145 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1354 : Index := Scalar.indexCast v110
  let c12 : Index := 12#32
  ![v1354.toNat, 12]
def k0_off146 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1364 : Index := Scalar.indexCast v110
  let c1664 : Index := 1664#32
  ![v1364.toNat, 1664]
def k0_off147 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1449 : Index := Scalar.indexCast v110
  let c13 : Index := 13#32
  ![v1449.toNat, 13]
def k0_off148 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1459 : Index := Scalar.indexCast v110
  let c1792 : Index := 1792#32
  ![v1459.toNat, 1792]
def k0_off149 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1544 : Index := Scalar.indexCast v110
  let c14 : Index := 14#32
  ![v1544.toNat, 14]
def k0_off150 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1554 : Index := Scalar.indexCast v110
  let c1920 : Index := 1920#32
  ![v1554.toNat, 1920]
def k0_off151 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1639 : Index := Scalar.indexCast v110
  let c15 : Index := 15#32
  ![v1639.toNat, 15]
def k0_off152 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1649 : Index := Scalar.indexCast v110
  let c2048_496 : Index := 2048#32
  ![v1649.toNat, 2048]
def k0_off153 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1734 : Index := Scalar.indexCast v110
  let c16 : Index := 16#32
  ![v1734.toNat, 16]
def k0_off154 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1744 : Index := Scalar.indexCast v110
  let c2176 : Index := 2176#32
  ![v1744.toNat, 2176]
def k0_off155 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1829 : Index := Scalar.indexCast v110
  let c17 : Index := 17#32
  ![v1829.toNat, 17]
def k0_off156 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1839 : Index := Scalar.indexCast v110
  let c2304 : Index := 2304#32
  ![v1839.toNat, 2304]
def k0_off157 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1924 : Index := Scalar.indexCast v110
  let c18 : Index := 18#32
  ![v1924.toNat, 18]
def k0_off158 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v1934 : Index := Scalar.indexCast v110
  let c2432 : Index := 2432#32
  ![v1934.toNat, 2432]
def k0_off159 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2019 : Index := Scalar.indexCast v110
  let c19 : Index := 19#32
  ![v2019.toNat, 19]
def k0_off160 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2029 : Index := Scalar.indexCast v110
  let c2560_601 : Index := 2560#32
  ![v2029.toNat, 2560]
def k0_off161 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2114 : Index := Scalar.indexCast v110
  let c20 : Index := 20#32
  ![v2114.toNat, 20]
def k0_off162 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2124 : Index := Scalar.indexCast v110
  let c2688 : Index := 2688#32
  ![v2124.toNat, 2688]
def k0_off163 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2209 : Index := Scalar.indexCast v110
  let c21 : Index := 21#32
  ![v2209.toNat, 21]
def k0_off164 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2219 : Index := Scalar.indexCast v110
  let c2816 : Index := 2816#32
  ![v2219.toNat, 2816]
def k0_off165 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2304 : Index := Scalar.indexCast v110
  let c22 : Index := 22#32
  ![v2304.toNat, 22]
def k0_off166 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2314 : Index := Scalar.indexCast v110
  let c2944 : Index := 2944#32
  ![v2314.toNat, 2944]
def k0_off167 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2399 : Index := Scalar.indexCast v110
  let c23 : Index := 23#32
  ![v2399.toNat, 23]
def k0_off168 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2409 : Index := Scalar.indexCast v110
  let c3072_706 : Index := 3072#32
  ![v2409.toNat, 3072]
def k0_off169 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2494 : Index := Scalar.indexCast v110
  let c24 : Index := 24#32
  ![v2494.toNat, 24]
def k0_off170 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2504 : Index := Scalar.indexCast v110
  let c3200 : Index := 3200#32
  ![v2504.toNat, 3200]
def k0_off171 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2589 : Index := Scalar.indexCast v110
  let c25 : Index := 25#32
  ![v2589.toNat, 25]
def k0_off172 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2599 : Index := Scalar.indexCast v110
  let c3328 : Index := 3328#32
  ![v2599.toNat, 3328]
def k0_off173 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2684 : Index := Scalar.indexCast v110
  let c26 : Index := 26#32
  ![v2684.toNat, 26]
def k0_off174 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2694 : Index := Scalar.indexCast v110
  let c3456 : Index := 3456#32
  ![v2694.toNat, 3456]
def k0_off175 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2779 : Index := Scalar.indexCast v110
  let c27 : Index := 27#32
  ![v2779.toNat, 27]
def k0_off176 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2789 : Index := Scalar.indexCast v110
  let c3584 : Index := 3584#32
  ![v2789.toNat, 3584]
def k0_off177 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2874 : Index := Scalar.indexCast v110
  let c28 : Index := 28#32
  ![v2874.toNat, 28]
def k0_off178 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2884 : Index := Scalar.indexCast v110
  let c3712 : Index := 3712#32
  ![v2884.toNat, 3712]
def k0_off179 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2969 : Index := Scalar.indexCast v110
  let c29 : Index := 29#32
  ![v2969.toNat, 29]
def k0_off180 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v2979 : Index := Scalar.indexCast v110
  let c3840 : Index := 3840#32
  ![v2979.toNat, 3840]
def k0_off181 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3064 : Index := Scalar.indexCast v110
  let c30 : Index := 30#32
  ![v3064.toNat, 30]
def k0_off182 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3074 : Index := Scalar.indexCast v110
  let c3968 : Index := 3968#32
  ![v3074.toNat, 3968]
def k0_off183 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3159 : Index := Scalar.indexCast v110
  let c31 : Index := 31#32
  ![v3159.toNat, 31]
def k0_off184 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3169 : Index := Scalar.indexCast v110
  let c4096 : Index := 4096#32
  ![v3169.toNat, 4096]
def k0_off185 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3254 : Index := Scalar.indexCast v110
  let c32 : Index := 32#32
  ![v3254.toNat, 32]
def k0_off186 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3264 : Index := Scalar.indexCast v110
  let c4224 : Index := 4224#32
  ![v3264.toNat, 4224]
def k0_off187 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3349 : Index := Scalar.indexCast v110
  let c33 : Index := 33#32
  ![v3349.toNat, 33]
def k0_off188 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3359 : Index := Scalar.indexCast v110
  let c4352 : Index := 4352#32
  ![v3359.toNat, 4352]
def k0_off189 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3444 : Index := Scalar.indexCast v110
  let c34 : Index := 34#32
  ![v3444.toNat, 34]
def k0_off190 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3454 : Index := Scalar.indexCast v110
  let c4480 : Index := 4480#32
  ![v3454.toNat, 4480]
def k0_off191 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3539 : Index := Scalar.indexCast v110
  let c35 : Index := 35#32
  ![v3539.toNat, 35]
def k0_off192 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3549 : Index := Scalar.indexCast v110
  let c4608 : Index := 4608#32
  ![v3549.toNat, 4608]
def k0_off193 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3634 : Index := Scalar.indexCast v110
  let c36 : Index := 36#32
  ![v3634.toNat, 36]
def k0_off194 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3644 : Index := Scalar.indexCast v110
  let c4736 : Index := 4736#32
  ![v3644.toNat, 4736]
def k0_off195 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3729 : Index := Scalar.indexCast v110
  let c37 : Index := 37#32
  ![v3729.toNat, 37]
def k0_off196 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3739 : Index := Scalar.indexCast v110
  let c4864 : Index := 4864#32
  ![v3739.toNat, 4864]
def k0_off197 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3824 : Index := Scalar.indexCast v110
  let c38 : Index := 38#32
  ![v3824.toNat, 38]
def k0_off198 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3834 : Index := Scalar.indexCast v110
  let c4992 : Index := 4992#32
  ![v3834.toNat, 4992]
def k0_off199 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3919 : Index := Scalar.indexCast v110
  let c39 : Index := 39#32
  ![v3919.toNat, 39]
def k0_off200 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v3929 : Index := Scalar.indexCast v110
  let c5120 : Index := 5120#32
  ![v3929.toNat, 5120]
def k0_off201 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4014 : Index := Scalar.indexCast v110
  let c40 : Index := 40#32
  ![v4014.toNat, 40]
def k0_off202 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4024 : Index := Scalar.indexCast v110
  let c5248 : Index := 5248#32
  ![v4024.toNat, 5248]
def k0_off203 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4109 : Index := Scalar.indexCast v110
  let c41 : Index := 41#32
  ![v4109.toNat, 41]
def k0_off204 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4119 : Index := Scalar.indexCast v110
  let c5376 : Index := 5376#32
  ![v4119.toNat, 5376]
def k0_off205 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4204 : Index := Scalar.indexCast v110
  let c42 : Index := 42#32
  ![v4204.toNat, 42]
def k0_off206 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4214 : Index := Scalar.indexCast v110
  let c5504 : Index := 5504#32
  ![v4214.toNat, 5504]
def k0_off207 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4299 : Index := Scalar.indexCast v110
  let c43 : Index := 43#32
  ![v4299.toNat, 43]
def k0_off208 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4309 : Index := Scalar.indexCast v110
  let c5632 : Index := 5632#32
  ![v4309.toNat, 5632]
def k0_off209 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4394 : Index := Scalar.indexCast v110
  let c44 : Index := 44#32
  ![v4394.toNat, 44]
def k0_off210 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4404 : Index := Scalar.indexCast v110
  let c5760 : Index := 5760#32
  ![v4404.toNat, 5760]
def k0_off211 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4489 : Index := Scalar.indexCast v110
  let c45 : Index := 45#32
  ![v4489.toNat, 45]
def k0_off212 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4499 : Index := Scalar.indexCast v110
  let c5888 : Index := 5888#32
  ![v4499.toNat, 5888]
def k0_off213 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4584 : Index := Scalar.indexCast v110
  let c46 : Index := 46#32
  ![v4584.toNat, 46]
def k0_off214 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4594 : Index := Scalar.indexCast v110
  let c6016 : Index := 6016#32
  ![v4594.toNat, 6016]
def k0_off215 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4679 : Index := Scalar.indexCast v110
  let c47 : Index := 47#32
  ![v4679.toNat, 47]
def k0_off216 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4689 : Index := Scalar.indexCast v110
  let c6144 : Index := 6144#32
  ![v4689.toNat, 6144]
def k0_off217 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4774 : Index := Scalar.indexCast v110
  let c48 : Index := 48#32
  ![v4774.toNat, 48]
def k0_off218 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4784 : Index := Scalar.indexCast v110
  let c6272 : Index := 6272#32
  ![v4784.toNat, 6272]
def k0_off219 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4869 : Index := Scalar.indexCast v110
  let c49 : Index := 49#32
  ![v4869.toNat, 49]
def k0_off220 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4879 : Index := Scalar.indexCast v110
  let c6400 : Index := 6400#32
  ![v4879.toNat, 6400]
def k0_off221 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4964 : Index := Scalar.indexCast v110
  let c50 : Index := 50#32
  ![v4964.toNat, 50]
def k0_off222 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v4974 : Index := Scalar.indexCast v110
  let c6528 : Index := 6528#32
  ![v4974.toNat, 6528]
def k0_off223 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5059 : Index := Scalar.indexCast v110
  let c51 : Index := 51#32
  ![v5059.toNat, 51]
def k0_off224 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5069 : Index := Scalar.indexCast v110
  let c6656 : Index := 6656#32
  ![v5069.toNat, 6656]
def k0_off225 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5154 : Index := Scalar.indexCast v110
  let c52 : Index := 52#32
  ![v5154.toNat, 52]
def k0_off226 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5164 : Index := Scalar.indexCast v110
  let c6784 : Index := 6784#32
  ![v5164.toNat, 6784]
def k0_off227 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5249 : Index := Scalar.indexCast v110
  let c53 : Index := 53#32
  ![v5249.toNat, 53]
def k0_off228 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5259 : Index := Scalar.indexCast v110
  let c6912 : Index := 6912#32
  ![v5259.toNat, 6912]
def k0_off229 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5344 : Index := Scalar.indexCast v110
  let c54 : Index := 54#32
  ![v5344.toNat, 54]
def k0_off230 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5354 : Index := Scalar.indexCast v110
  let c7040 : Index := 7040#32
  ![v5354.toNat, 7040]
def k0_off231 (k0_t2 : Fin k0_t2_loop.trips) : Fin 2 → Nat :=
  let c0_i32_1 : BitVec 32 := 0#32
  let c1_i32 : BitVec 32 := 1#32
  let arg15 : BitVec 32 := Scf.iv c0_i32_1 c1_i32 k0_t2
  let c32_i32 : BitVec 32 := 32#32
  let v109 : BitVec 32 := Scalar.muli arg15 c32_i32
  let v110 : BitVec 32 := v109
  let v5439 : Index := Scalar.indexCast v110
  let c55 : Index := 55#32
  ![v5439.toNat, 55]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S56x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_n" => some ((1 / 7168 : ℝ) : EReal)
  | _ => none
-- ==== ReferenceIdeal.lean ====
abbrev S8x4096x7168 : Shape := ⟨3, ![8, 4096, 7168]⟩
abbrev S8x7168 : Shape := ⟨2, ![8, 7168]⟩
abbrev S8x3584 : Shape := ⟨2, ![8, 3584]⟩
abbrev S7168x3584 : Shape := ⟨2, ![7168, 3584]⟩
abbrev S56x28 : Shape := ⟨2, ![56, 28]⟩
abbrev S3584 : Shape := ⟨1, ![3584]⟩
abbrev S32768x7168 : Shape := ⟨2, ![32768, 7168]⟩
abbrev S8x4096x3584 : Shape := ⟨3, ![8, 4096, 3584]⟩
abbrev S32768x3584 : Shape := ⟨2, ![32768, 3584]⟩
abbrev S1x3584 : Shape := ⟨2, ![1, 3584]⟩
abbrev S32768x56 : Shape := ⟨2, ![32768, 56]⟩
abbrev S56x128x28x128 : Shape := ⟨4, ![56, 128, 28, 128]⟩
abbrev S56x1x28x1 : Shape := ⟨4, ![56, 1, 28, 1]⟩
abbrev S32768 : Shape := ⟨1, ![32768]⟩
abbrev S32768x1 : Shape := ⟨2, ![32768, 1]⟩
abbrev S32768x56x128 : Shape := ⟨3, ![32768, 56, 128]⟩
abbrev S32768x56x1 : Shape := ⟨3, ![32768, 56, 1]⟩

abbrev nBuf : Space → Nat
  | .hbm => 18
  | .vmem => 10
  | .smem => 0
  | _ => 0

abbrev bufTy : (tb : Table) → Fin (tcTables nBuf tb) → BufTy
  | .hbm, ⟨0, _⟩ => ⟨S8x4096x7168, .bf16⟩
  | .hbm, ⟨1, _⟩ => ⟨S8x7168, .bf16⟩
  | .hbm, ⟨2, _⟩ => ⟨S8x7168, .bf16⟩
  | .hbm, ⟨3, _⟩ => ⟨S8x3584, .bf16⟩
  | .hbm, ⟨4, _⟩ => ⟨S7168x3584, .fp8e4m3⟩
  | .hbm, ⟨5, _⟩ => ⟨S56x28, .f32⟩
  | .hbm, ⟨6, _⟩ => ⟨S3584, .bf16⟩
  | .hbm, ⟨7, _⟩ => ⟨S32768x7168, .bf16⟩
  | .hbm, ⟨8, _⟩ => ⟨S8x4096x7168, .bf16⟩
  | .hbm, ⟨9, _⟩ => ⟨S32768x7168, .bf16⟩
  | .hbm, ⟨10, _⟩ => ⟨S8x4096x7168, .bf16⟩
  | .hbm, ⟨11, _⟩ => ⟨S32768x7168, .bf16⟩
  | .hbm, ⟨12, _⟩ => ⟨S8x4096x3584, .bf16⟩
  | .hbm, ⟨13, _⟩ => ⟨S32768x3584, .bf16⟩
  | .hbm, ⟨14, _⟩ => ⟨S1x3584, .bf16⟩
  | .hbm, ⟨15, _⟩ => ⟨S32768x3584, .bf16⟩
  | .hbm, ⟨16, _⟩ => ⟨S32768x7168, .fp8e4m3⟩
  | .hbm, ⟨17, _⟩ => ⟨S32768x56, .f32⟩
  | .local _ .vmem, ⟨0, _⟩ => ⟨S32768x7168, .bf16⟩
  | .local _ .vmem, ⟨1, _⟩ => ⟨S32768x7168, .bf16⟩
  | .local _ .vmem, ⟨2, _⟩ => ⟨S32768x7168, .bf16⟩
  | .local _ .vmem, ⟨3, _⟩ => ⟨S32768x3584, .bf16⟩
  | .local _ .vmem, ⟨4, _⟩ => ⟨S7168x3584, .fp8e4m3⟩
  | .local _ .vmem, ⟨5, _⟩ => ⟨S56x28, .f32⟩
  | .local _ .vmem, ⟨6, _⟩ => ⟨S1x3584, .bf16⟩
  | .local _ .vmem, ⟨7, _⟩ => ⟨S32768x3584, .bf16⟩
  | .local _ .vmem, ⟨8, _⟩ => ⟨S32768x7168, .fp8e4m3⟩
  | .local _ .vmem, ⟨9, _⟩ => ⟨S32768x56, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x56 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Bits.Ring.lean ====
/-
  The weight ring of the kernel body: 28 blocks of 256 rows of the quantised weight come from HBM into the two
  slots of a staging buffer, one transfer ahead of the compute, and every block is scaled tile by tile into the
  carried bf16 weight. Names for the blocks, slots and cells; the slices of the program under those names; what one
  trip holds before and after.
-/
module

public import proofs.«01_k».proof.Defs
public import proofs.«01_k».proof.Proof.Gen.Kernel.Frame
public import proofs.«01_k».proof.Proof.Gen.Kernel.Loops
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the proof: the pipeline's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names -/

/-- The quantised weight in HBM. -/
abbrev wM : Memref sig .tc .hbm S7168x3584 .fp8e4m3 := Memref.whole main_arg4
/-- The carried bf16 weight. -/
abbrev wbM : Memref sig .tc .vmem S7168x3584 .bf16 := Memref.whole cc0_scratch0
/-- The block's dequantised activations. -/
abbrev aM : Memref sig .tc .vmem S128x7168 .bf16 := Memref.whole cc0_scratch1
/-- The two-slot staging buffer. -/
abbrev stM : Memref sig .tc .vmem S2x256x3584 .fp8e4m3 := Memref.whole cc0_scratch2

abbrev blkOff (b : Fin 28) : Fin 2 → Nat := ![256 * b.val, 0]
theorem blkOff_inb (b : Fin 28) : ∀ a, blkOff b a + S256x3584.size a ≤ S7168x3584.size a := by
  have := b.isLt; intro a; fin_cases a
  · show 256 * b.val + 256 ≤ 7168; omega
  · show 0 + 3584 ≤ 3584; omega
abbrev slotOff (s : Fin 2) : Fin 3 → Nat := ![s.val, 0, 0]
theorem slotOff_inb (s : Fin 2) : ∀ a, slotOff s a + S1x256x3584.size a ≤ S2x256x3584.size a := by
  have := s.isLt; intro a; fin_cases a
  · show s.val + 1 ≤ 2; omega
  · show 0 + 256 ≤ 256; omega
  · show 0 + 3584 ≤ 3584; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the weight: rows `256 b` to `256 b + 255`. -/
def blk (b : Fin 28) : Memref sig .tc .hbm S256x3584 .fp8e4m3 :=
  wM.slice (Rect.unit (s := S7168x3584) (blkOff b) S256x3584.size (blkOff_inb b)) (fun _ => rfl)
/-- Slot `s` of the staging buffer. -/
def rslot (s : Fin 2) : Memref sig .tc .vmem S256x3584 .fp8e4m3 :=
  (stM.slice (Rect.unit (s := S2x256x3584) (slotOff s) S1x256x3584.size (slotOff_inb s)) (fun _ => rfl)).squeeze S256x3584 squeezes_S1x256x3584_S256x3584
/-- Slot `s`'s DMA semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 28) : ClosedOff (blkOff b) := ⟨blkOff b, rfl⟩

/-! ## The offsets in closed form -/

theorem off1_eq : ∀ k : Fin k0_t1_loop.trips, k0_off1 k = semOff (Ring.sl 2 (k.val + 1)) := by decide +kernel
theorem off2_eq : ∀ k : Fin k0_t1_loop.trips, k0_off2 k = slotOff (Ring.sl 2 (k.val + 1)) := by decide +kernel
theorem off3_eq : ∀ k : Fin k0_t1_loop.trips, k.val + 1 < 28 → k0_off3 k = blkOff (Ring.bk 28 (k.val + 1)) := by decide +kernel
theorem off4_eq : ∀ k : Fin k0_t1_loop.trips, k0_off4 k = semOff (Ring.sl 2 k.val) := by decide +kernel
theorem off5_eq : ∀ k : Fin k0_t1_loop.trips, k0_off5 k = slotOff (Ring.sl 2 k.val) := by decide +kernel
theorem off6_eq : ∀ k : Fin k0_t1_loop.trips, k0_off6 k = blkOff (Ring.bk 28 k.val) := by decide +kernel
theorem cond2_of_lt : ∀ k : Fin k0_t1_loop.trips, k.val + 1 < 28 → k0_cond2 k = 1#1 := by decide +kernel
theorem cond2_of_not : ∀ k : Fin k0_t1_loop.trips, ¬ k.val + 1 < 28 → ¬ k0_cond2 k = 1#1 := by decide +kernel
theorem trips1 : k0_t1_loop.trips = 28 := by decide +kernel

/-- Trip `k`'s slot number, as the program computes it from the trip's number. -/
def slotWord (k : Fin k0_t1_loop.trips) : BitVec 32 :=
  let v117 : BitVec 32 := Scalar.remsi (Scf.iv 0#32 1#32 k) (Scalar.select (Scalar.cmpi .eq 2#32 0#32) 1#32 2#32)
  let v116 : BitVec 32 := Scalar.select (Scalar.cmpi .eq 2#32 0#32) 1#32 2#32
  Scalar.select (Scalar.andi (Scalar.xori (Scalar.cmpi .slt v117 0#32) (Scalar.cmpi .slt v116 0#32)) (Scalar.cmpi .ne v117 0#32)) (Scalar.addi v117 v116) v117
theorem slotWord_eq : ∀ k : Fin k0_t1_loop.trips, (Scalar.indexCast (slotWord k)).toNat = (Ring.sl 2 k.val).val := by decide +kernel
/-- A tile's place in the staging buffer: the trip's slot, the tile's row and column. -/
def stageOff (k : Fin k0_t1_loop.trips) (h n : Nat) : Fin 3 → Nat := ![(Scalar.indexCast (slotWord k)).toNat, h, n]
theorem stageOff_eq (k : Fin k0_t1_loop.trips) (h n : Nat) : stageOff k h n = ![(Ring.sl 2 k.val).val, h, n] := by
  unfold stageOff; rw [slotWord_eq]

/-! The 56 tile loads of a trip, each at its closed form. -/
instance (k : Fin k0_t1_loop.trips) : ClosedOff (k0_off8 k) := ⟨_, stageOff_eq k 0 0⟩
instance (k : Fin k0_t1_loop.trips) : ClosedOff (k0_off11 k) := ⟨_, stageOff_eq k 0 128⟩
instance (k : Fin k0_t1_loop.trips) : ClosedOff (k0_off14 k) := ⟨_, stageOff_eq k 0 256⟩
instance (k : Fin k0_t1_loop.trips) : ClosedOff (k0_off17 k) := ⟨_, stageOff_eq k 0 384⟩
instance (k : Fin k0_t1_loop.trips) : ClosedOff (k0_off20 k) := ⟨_, stageOff_eq k 0 512⟩
instance (k : Fin k0_t1_loop.trips) : ClosedOff (k0_off23 k) := ⟨_, stageOff_eq k 0 640⟩
instance (k : Fin k0_t1_loop.trips) : ClosedOff (k0_off26 k) := ⟨_, stageOff_eq k 0 768⟩
instance (k : Fin k0_t1_loop.trips) : ClosedOff (k0_off29 k) := ⟨_, stageOff_eq k 0 896⟩
instance (k : Fin k0_t1_loop.trips) : ClosedOff (k0_off32 k) := ⟨_, stageOff_eq k 0 1024⟩
instance (k : Fin k0_t1_loop.trips) : ClosedOff (k0_off35 k) := ⟨_, stageOff_eq k 0 1152⟩
instance (k : Fin k0_t1_loop.trips) : ClosedOff (k0_off38 k) := ⟨_, stageOff_eq k 0 1280⟩
instance (k : Fin k0_t1_loop.trips) : ClosedOff (k0_off41 k) := ⟨_, stageOff_eq k 0 1408⟩
instance (k : Fin k0_t1_loop.trips) : ClosedOff (k0_off44 k) := ⟨_, stageOff_eq k 0 1536⟩
instance (k : Fin k0_t1_loop.trips) : ClosedOff (k0_off47 k) := ⟨_, stageOff_eq k 0 1664⟩
instance (k : Fin k0_t1_loop.trips) : ClosedOff (k0_off50 k) := ⟨_, stageOff_eq k 0 1792⟩
instance (k : Fin k0_t1_loop.trips) : ClosedOff (k0_off53 k) := ⟨_, stageOff_eq k 0 1920⟩
instance (k : Fin k0_t1_loop.trips) : ClosedOff (k0_off56 k) := ⟨_, stageOff_eq k 0 2048⟩
instance (k : Fin k0_t1_loop.trips) : ClosedOff (k0_off59 k) := ⟨_, stageOff_eq k 0 2176⟩
instance (k : Fin k0_t1_loop.trips) : ClosedOff (k0_off62 k) := ⟨_, stageOff_eq k 0 2304⟩
instance (k : Fin k0_t1_loop.trips) : ClosedOff (k0_off65 k) := ⟨_, stageOff_eq k 0 2432⟩
instance (k : Fin k0_t1_loop.trips) : ClosedOff (k0_off68 k) := ⟨_, stageOff_eq k 0 2560⟩
instance (k : Fin k0_t1_loop.trips) : ClosedOff (k0_off71 k) := ⟨_, stageOff_eq k 0 2688⟩
instance (k : Fin k0_t1_loop.trips) : ClosedOff (k0_off74 k) := ⟨_, stageOff_eq k 0 2816⟩
instance (k : Fin k0_t1_loop.trips) : ClosedOff (k0_off77 k) := ⟨_, stageOff_eq k 0 2944⟩
instance (k : Fin k0_t1_loop.trips) : ClosedOff (k0_off80 k) := ⟨_, stageOff_eq k 0 3072⟩
instance (k : Fin k0_t1_loop.trips) : ClosedOff (k0_off83 k) := ⟨_, stageOff_eq k 0 3200⟩
instance (k : Fin k0_t1_loop.trips) : ClosedOff (k0_off86 k) := ⟨_, stageOff_eq k 0 3328⟩
instance (k : Fin k0_t1_loop.trips) : ClosedOff (k0_off89 k) := ⟨_, stageOff_eq k 0 3456⟩
instance (k : Fin k0_t1_loop.trips) : ClosedOff (k0_off91 k) := ⟨_, stageOff_eq k 128 0⟩
instance (k : Fin k0_t1_loop.trips) : ClosedOff (k0_off92 k) := ⟨_, stageOff_eq k 128 128⟩
instance (k : Fin k0_t1_loop.trips) : ClosedOff (k0_off93 k) := ⟨_, stageOff_eq k 128 256⟩
instance (k : Fin k0_t1_loop.trips) : ClosedOff (k0_off94 k) := ⟨_, stageOff_eq k 128 384⟩
instance (k : Fin k0_t1_loop.trips) : ClosedOff (k0_off95 k) := ⟨_, stageOff_eq k 128 512⟩
instance (k : Fin k0_t1_loop.trips) : ClosedOff (k0_off96 k) := ⟨_, stageOff_eq k 128 640⟩
instance (k : Fin k0_t1_loop.trips) : ClosedOff (k0_off97 k) := ⟨_, stageOff_eq k 128 768⟩
instance (k : Fin k0_t1_loop.trips) : ClosedOff (k0_off98 k) := ⟨_, stageOff_eq k 128 896⟩
instance (k : Fin k0_t1_loop.trips) : ClosedOff (k0_off99 k) := ⟨_, stageOff_eq k 128 1024⟩
instance (k : Fin k0_t1_loop.trips) : ClosedOff (k0_off100 k) := ⟨_, stageOff_eq k 128 1152⟩
instance (k : Fin k0_t1_loop.trips) : ClosedOff (k0_off101 k) := ⟨_, stageOff_eq k 128 1280⟩
instance (k : Fin k0_t1_loop.trips) : ClosedOff (k0_off102 k) := ⟨_, stageOff_eq k 128 1408⟩
instance (k : Fin k0_t1_loop.trips) : ClosedOff (k0_off103 k) := ⟨_, stageOff_eq k 128 1536⟩
instance (k : Fin k0_t1_loop.trips) : ClosedOff (k0_off104 k) := ⟨_, stageOff_eq k 128 1664⟩
instance (k : Fin k0_t1_loop.trips) : ClosedOff (k0_off105 k) := ⟨_, stageOff_eq k 128 1792⟩
instance (k : Fin k0_t1_loop.trips) : ClosedOff (k0_off106 k) := ⟨_, stageOff_eq k 128 1920⟩
instance (k : Fin k0_t1_loop.trips) : ClosedOff (k0_off107 k) := ⟨_, stageOff_eq k 128 2048⟩
instance (k : Fin k0_t1_loop.trips) : ClosedOff (k0_off108 k) := ⟨_, stageOff_eq k 128 2176⟩
instance (k : Fin k0_t1_loop.trips) : ClosedOff (k0_off109 k) := ⟨_, stageOff_eq k 128 2304⟩
instance (k : Fin k0_t1_loop.trips) : ClosedOff (k0_off110 k) := ⟨_, stageOff_eq k 128 2432⟩
instance (k : Fin k0_t1_loop.trips) : ClosedOff (k0_off111 k) := ⟨_, stageOff_eq k 128 2560⟩
instance (k : Fin k0_t1_loop.trips) : ClosedOff (k0_off112 k) := ⟨_, stageOff_eq k 128 2688⟩
instance (k : Fin k0_t1_loop.trips) : ClosedOff (k0_off113 k) := ⟨_, stageOff_eq k 128 2816⟩
instance (k : Fin k0_t1_loop.trips) : ClosedOff (k0_off114 k) := ⟨_, stageOff_eq k 128 2944⟩
instance (k : Fin k0_t1_loop.trips) : ClosedOff (k0_off115 k) := ⟨_, stageOff_eq k 128 3072⟩
instance (k : Fin k0_t1_loop.trips) : ClosedOff (k0_off116 k) := ⟨_, stageOff_eq k 128 3200⟩
instance (k : Fin k0_t1_loop.trips) : ClosedOff (k0_off117 k) := ⟨_, stageOff_eq k 128 3328⟩
instance (k : Fin k0_t1_loop.trips) : ClosedOff (k0_off118 k) := ⟨_, stageOff_eq k 128 3456⟩

/-! ## The program's slices under the canonical names -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (stM.slice (Rect.unit (s := S2x256x3584) off S1x256x3584.size hh) hs).squeeze S256x3584 squeezes_S1x256x3584_S256x3584 = rslot s :=
  congrArg (fun M : Memref sig .tc .vmem S1x256x3584 .fp8e4m3 => M.squeeze S256x3584 squeezes_S1x256x3584_S256x3584) (Memref.slice_unit_congr _ e _ _ _ _)
private theorem blk_congr {off : Fin 2 → Nat} {b : Fin 28} (e : off = blkOff b) (hh hs) :
    wM.slice (Rect.unit (s := S7168x3584) off S256x3584.size hh) hs = blk b := Memref.slice_unit_congr _ e _ (blkOff_inb b) _ (fun _ => rfl)

/-! Before the loop: block 0 into slot 0. -/
@[sl_canon] theorem semL0 (hh) : (cc0_scratch3.slice (Rect.unit (s := S2) ![0] S1.size hh)).squeeze S_ squeezes_S1_S_ = csm 0 := csm_congr (by decide) _
@[sl_canon] theorem slotL0 (hh hs) : (stM.slice (Rect.unit (s := S2x256x3584) ![0, 0, 0] S1x256x3584.size hh) hs).squeeze S256x3584 squeezes_S1x256x3584_S256x3584 = rslot 0 := rslot_congr (by decide) _ _
@[sl_canon] theorem blkL0 (hh hs) : wM.slice (Rect.unit (s := S7168x3584) ![0, 0] S256x3584.size hh) hs = blk 0 := blk_congr (by decide) _ _

/-! Trip `k`: block `k` waited for in slot `k % 2`, block `k + 1` sent for into the other slot. -/
@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (stM.slice (Rect.unit (s := S2x256x3584) (k0_off2 k) S1x256x3584.size hh) hs).squeeze S256x3584 squeezes_S1x256x3584_S256x3584 = rslot (Ring.sl 2 (k.val + 1)) := rslot_congr (off2_eq k) _ _
@[sl_canon] theorem blkI (k : Fin k0_t1_loop.trips) (hk : k.val + 1 < 28) (hh hs) :
    wM.slice (Rect.unit (s := S7168x3584) (k0_off3 k) S256x3584.size hh) hs = blk (Ring.bk 28 (k.val + 1)) := blk_congr (off3_eq k hk) _ _
@[sl_canon] theorem semW (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotW (k : Fin k0_t1_loop.trips) (hh hs) :
    (stM.slice (Rect.unit (s := S2x256x3584) (k0_off5 k) S1x256x3584.size hh) hs).squeeze S256x3584 squeezes_S1x256x3584_S256x3584 = rslot (Ring.sl 2 k.val) := rslot_congr (off5_eq k) _ _
@[sl_canon] theorem blkW (k : Fin k0_t1_loop.trips) (hh hs) :
    wM.slice (Rect.unit (s := S7168x3584) (k0_off6 k) S256x3584.size hh) hs = blk (Ring.bk 28 k.val) := blk_congr (off6_eq k) _ _

/-! ## What is held -/

section Pieces
variable (c : Dev nD) (XW : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` at home: its elements of the weight, at the weight's contents. -/
abbrev homeP (b : Fin 28) : sProp 𝕄 := (blk b).view.loc (c : Thread nD τ) ↦[(blk b).view.set]{fullShare} XW
/-- Block `b`'s words, as they arrive in a slot. -/
abbrev payload (b : Fin 28) : S256x3584.Idx → Elt F .fp8e4m3 := ReadAs.same.apply ((blk b).view.read (Elt F) XW)
/-- Slot `s` over earlier contents `f` after block `b` has arrived. -/
abbrev landed (s : Fin 2) (b : Fin 28) (f : Buf (Elt F) ((rslot s).view.loc (c : Thread nD τ))) : Buf (Elt F) ((rslot s).view.loc (c : Thread nD τ)) :=
  (rslot s).view.writes (Elt F) f [⟨Rect.whole S256x3584, payload c XW b⟩]
/-- What a block's transfer counts on its cell. -/
abbrev NN (s : Fin 2) : ℕ := 28672
/-- Slot `s` in flight with block `b`. -/
abbrev flightP (s : Fin 2) (b : Fin 28) (f : Buf (Elt F) ((rslot s).view.loc (c : Thread nD τ))) : sProp 𝕄 :=
  Transfers.Flight countersEmb (c : Thread nD τ) (SemLoc.dma (csm s).sem) () (NN s) iprop(slotP c s (landed c XW s b f) ∗ homeP c XW b)

/-- Before trip `k`: block `k + 1` beside the other blocks at home; -/
theorem homes_here (k : ℕ) (hk : k + 1 < 28) :
    bigSep (Ring.homeSet 1 k) (homeP c XW) = iprop(homeP c XW (Ring.bk 28 (k + 1)) ∗ bigSep ((Ring.homeSet 1 k).erase (Ring.bk 28 (k + 1))) (homeP c XW)) := by
  conv_lhs => rw [Ring.homeSet_out 1 k hk, bigSep_insert (Ring.bkL_not_mem_erase 1 k)]
  rfl
/-- after it, block `k` beside them; -/
theorem homes_next (k : ℕ) (hk : k + 1 < 28) :
    bigSep (Ring.homeSet 1 (k + 1)) (homeP c XW) = iprop(homeP c XW (Ring.bk 28 k) ∗ bigSep ((Ring.homeSet 1 k).erase (Ring.bk 28 (k + 1))) (homeP c XW)) := by
  conv_lhs => rw [Ring.homeSet_succ 1 k hk, bigSep_insert (Ring.bk_not_mem_erase 1 k (by omega) (by decide))]
  rfl
/-- after the last trip, the last block beside all the others. -/
theorem homes_tail (k : ℕ) (h : 28 ≤ k + 1) (hk : k < 28) :
    bigSep (Ring.homeSet 1 (k + 1)) (homeP c XW) = iprop(homeP c XW (Ring.bk 28 k) ∗ bigSep (Ring.homeSet 1 k) (homeP c XW)) := by
  conv_lhs => rw [Ring.homeSet_succ_tail 1 k h hk, bigSep_insert (Ring.bk_not_mem_homeSet 1 k hk (by decide))]
  rfl

omit [FloatOps F] in
theorem sl2_add2 (k : ℕ) : Ring.sl 2 (k + 1 + 1) = Ring.sl 2 k := by rw [show k + 1 + 1 = k + 2 from rfl, Ring.sl_add]

/-- The ring before trip `k`: block `k` in flight and the other slot free, or, past the last trip, both slots free. -/
def ringAt (k : ℕ) : sProp 𝕄 :=
  if k < 28 then iprop((∃ f, flightP c XW (Ring.sl 2 k) (Ring.bk 28 k) f) ∗ (∃ f, slotP c (Ring.sl 2 (k + 1)) f) ∗ cellP c (Ring.sl 2 (k + 1)))
  else iprop((∃ f, slotP c (Ring.sl 2 k) f) ∗ cellP c (Ring.sl 2 k) ∗ (∃ f, slotP c (Ring.sl 2 (k + 1)) f) ∗ cellP c (Ring.sl 2 (k + 1)))

theorem ringAt_lt {k : ℕ} (h : k < 28) : (ringAt c XW k : sProp 𝕄) = iprop((∃ f, flightP c XW (Ring.sl 2 k) (Ring.bk 28 k) f) ∗ (∃ f, slotP c (Ring.sl 2 (k + 1)) f) ∗ cellP c (Ring.sl 2 (k + 1))) := if_pos h
theorem ringAt_ge {k : ℕ} (h : ¬ k < 28) : (ringAt c XW k : sProp 𝕄) = iprop((∃ f, slotP c (Ring.sl 2 k) f) ∗ cellP c (Ring.sl 2 k) ∗ (∃ f, slotP c (Ring.sl 2 (k + 1)) f) ∗ cellP c (Ring.sl 2 (k + 1))) := if_neg h

end Pieces

end Cert.Proof.Kernel
-- ==== Proof.Tiles.lean ====
/-
  What a buffer holds after a run of stores of equal rectangles of a band of rows, each holding the part of one
  function of the whole buffer that lies under it.
-/
module

public import Idealize.ShloMosaic.Lib.Writes
public import Idealize.ShloMosaic.Lib.ValueIdxCore

@[expose] public section

namespace Cert.Proof

open Idealize.ShloMosaic Idealize.ShloMosaic.ValueIdx

section
variable {sig : RefSig} {κ : Kind} {sp : Space} {R C : ℕ} {e : EltTy} {Val : EltTy → Type}

/-- The piece `p` is tile `q` (row `q.1`, column `q.2`, of `th` by `tw` elements) of the band that begins at row
    `base`, and holds what `G` has there. -/
def IsTile (G : (⟨2, ![R, C]⟩ : Shape).Idx → Val e) (base th tw : ℕ) (p : View.Piece Val ⟨2, ![R, C]⟩ e) (q : ℕ × ℕ) : Prop :=
  (∀ y : (⟨2, ![R, C]⟩ : Shape).Idx, y ∈ p.1.set ↔
      (base + th * q.1 ≤ (y 0).val ∧ (y 0).val < base + th * q.1 + th) ∧ (tw * q.2 ≤ (y 1).val ∧ (y 1).val < tw * q.2 + tw))
    ∧ ∀ x, p.2 x = G (p.1.emb x)

theorem IsTile.unit {G : (⟨2, ![R, C]⟩ : Shape).Idx → Val e} {base th tw : ℕ} {q : ℕ × ℕ} {off : Fin 2 → ℕ}
    {inb : ∀ a, off a + (⟨2, ![th, tw]⟩ : Shape).size a ≤ (⟨2, ![R, C]⟩ : Shape).size a}
    {w : (Rect.unit (s := ⟨2, ![R, C]⟩) off (⟨2, ![th, tw]⟩ : Shape).size inb).shape.Idx → Val e}
    (ho : off = ![base + th * q.1, tw * q.2])
    (hw : ∀ x, w x = G ((Rect.unit (s := ⟨2, ![R, C]⟩) off (⟨2, ![th, tw]⟩ : Shape).size inb).emb x)) :
    IsTile G base th tw ⟨Rect.unit off (⟨2, ![th, tw]⟩ : Shape).size inb, w⟩ q := by
  refine ⟨fun y => ?_, hw⟩
  subst ho
  rw [Rect.mem_set_unit, Fin.forall_fin_two]
  rfl

/-- The list of tiles `idx` covers the band: whatever the order of the stores, the band holds `G` after them and the
    other rows hold what they held before. -/
theorem read_of_tiles (v : View sig κ sp ⟨2, ![R, C]⟩ e) (f : v.ty.Contents Val) (G : (⟨2, ![R, C]⟩ : Shape).Idx → Val e)
    {base th tw H N : ℕ} {L : List (View.Piece Val ⟨2, ![R, C]⟩ e)} {idx : List (ℕ × ℕ)}
    (hL : List.Forall₂ (IsTile G base th tw) L idx) (hcov : ∀ h < H, ∀ n < N, (h, n) ∈ idx) (hin : ∀ q ∈ idx, q.1 < H)
    (hC : C ≤ tw * N) (y : (⟨2, ![R, C]⟩ : Shape).Idx) :
    v.read Val (v.writes Val f L) y = if base ≤ (y 0).val ∧ (y 0).val < base + th * H then G y else v.read Val f y := by
  have h1 : (y 1).val < C := (y 1).isLt
  split
  · rename_i hb
    have hth : 0 < th := by rcases Nat.eq_zero_or_pos th with h | h; · subst h; omega
                            · exact h
    have htw : 0 < tw := by rcases Nat.eq_zero_or_pos tw with h | h; · subst h; omega
                            · exact h
    refine View.read_writes_apply_of_pieces v f G L ?_ y ?_
    · intro p hp x
      obtain ⟨i, hi, rfl⟩ := List.getElem_of_mem hp
      exact (hL.get hi (by rw [← hL.length_eq]; exact hi)).2 x
    · have hh : ((y 0).val - base) / th < H := (Nat.div_lt_iff_lt_mul hth).mpr (by rw [Nat.mul_comm]; omega)
      have hn : (y 1).val / tw < N := (Nat.div_lt_iff_lt_mul htw).mpr (by rw [Nat.mul_comm]; omega)
      obtain ⟨i, hi, he⟩ := List.getElem_of_mem (hcov _ hh _ hn)
      have hi' : i < L.length := by rw [hL.length_eq]; exact hi
      refine ⟨L[i], List.getElem_mem hi', ?_⟩
      have ht := (hL.get hi' hi).1 y
      simp only [List.get_eq_getElem] at ht
      rw [ht, he]
      have a0 := Nat.div_add_mod ((y 0).val - base) th
      have a1 := Nat.mod_lt ((y 0).val - base) hth
      have b0 := Nat.div_add_mod (y 1).val tw
      have b1 := Nat.mod_lt (y 1).val htw
      dsimp only
      omega
  · rename_i hb
    refine View.read_writes_apply_of_forall_not_mem v f y L ?_
    intro p hp hy
    obtain ⟨i, hi, rfl⟩ := List.getElem_of_mem hp
    have hi' : i < idx.length := by rw [← hL.length_eq]; exact hi
    have ht := (hL.get hi hi').1 y
    simp only [List.get_eq_getElem] at ht
    rw [ht] at hy
    have hq := hin _ (List.getElem_mem hi')
    have : th * (idx[i]).1 + th ≤ th * H := by rw [← Nat.mul_succ]; exact Nat.mul_le_mul_left _ hq
    omega
end
end Cert.Proof
-- ==== Proof.Bits.Tile1.lean ====
/-
  The tiles a trip of the weight ring stores.
-/
module

public import proofs.«01_k».proof.Proof.Bits.Ring
public import proofs.«01_k».proof.Proof.Tiles
public import Idealize.ShloMosaic.Lib.Pipeline.Value
public import Idealize.ShloMosaic.Lib.ValueIdxCore
public import Idealize.ShloMosaic.Lib.Pointwise.ElementwiseCore

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 broadcast_apply)

variable {F : FTy → Type} [FloatOps F]

local notation "𝕄" => MT nD τ sig Unit (Elt F) ℕ (UU nD τ) ℕ

section Tile
variable (c : Dev nD) (XW : Buf (Elt F) (wM.view.loc (c : Thread nD τ)))
  (arg6 : Memref sig .tc .smem S56x28 .f32)
  (X6 : Buf (Elt F) (arg6.view.loc (c : Thread nD τ)))

/-! ## What a trip writes -/

/-- A slot over which block `b` has arrived reads the weight's rows `256 b` on. -/
theorem landed_read (s : Fin 2) (b : Fin 28) (g : Buf (Elt F) ((rslot s).view.loc (c : Thread nD τ))) (x : S2x256x3584.Idx) (y : S7168x3584.Idx)
    (h0 : (x 0).val = s.val) (h1 : (y 0).val = 256 * b.val + (x 1).val) (h2 : (y 1).val = (x 2).val) :
    stM.view.read (Elt F) (landed c XW s b g) x = wM.view.read (Elt F) XW y := by
  let z : S256x3584.Idx := ix2 (x 1) (x 2)
  have hx : x = (Rect.unit (s := S2x256x3584) (slotOff s) S1x256x3584.size (slotOff_inb s)).emb (Fin.cons ⟨0, Nat.one_pos⟩ z) := by
    funext a; refine Fin.ext ?_; rw [Rect.emb_apply]
    fin_cases a
    · show (x 0).val = s.val + 1 * 0; omega
    · show (x 1).val = 0 + 1 * (x 1).val; omega
    · show (x 2).val = 0 + 1 * (x 2).val; omega
  have hy : y = (Rect.unit (s := S7168x3584) (blkOff b) S256x3584.size (blkOff_inb b)).emb z := by
    funext a; refine Fin.ext ?_; rw [Rect.emb_apply]
    fin_cases a
    · show (y 0).val = 256 * b.val + 1 * (x 1).val; omega
    · show (y 1).val = 0 + 1 * (x 2).val; omega
  have e1 : (rslot s).view.read (Elt F) (landed c XW s b g) z = payload c XW b z := by
    have := View.read_writes_cons_emb (rslot s).view g (Rect.whole S256x3584) (payload c XW b) [] z
    have hz : (Rect.whole S256x3584).emb z = z := by
      funext a; refine Fin.ext ?_; rw [Rect.emb_apply]; show 0 + 1 * (z a).val = (z a).val; omega
    rw [hz] at this; exact this
  have e2 : (rslot s).view.read (Elt F) (landed c XW s b g) z
      = stM.view.read (Elt F) (landed c XW s b g) ((Rect.unit (s := S2x256x3584) (slotOff s) S1x256x3584.size (slotOff_inb s)).emb (Shape.reshapeEquiv (squeezes_S1x256x3584_S256x3584).numel_eq z)) := rfl
  rw [Shape.reshapeEquiv_cons_one] at e2
  rw [hx, ← e2, e1, hy]
  rfl

/-- The scaled weight at row and column `y`: the quantised weight there times the scale of its 128-square block. -/
def Wd (y : S7168x3584.Idx) : F .bf16 :=
  FloatOps.mulf (FloatOps.extf .bf16 (by decide) (wM.view.read (Elt F) XW y) : F .bf16)
    (FloatOps.truncf .bf16 (by decide) (arg6.view.read (Elt F) X6 (ix2 ⟨(y 0).val / 128, by have := (y 0).isLt; show _ < 56; change (y 0).val < 7168 at this; omega⟩
      ⟨(y 1).val / 128, by have := (y 1).isLt; show _ < 28; change (y 1).val < 3584 at this; omega⟩)))

/-- One tile of a trip: the slot's tile times its scale is the scaled weight under the tile. -/
theorem tile_ok (k : ℕ) (b : Fin 28) (hb : b.val = k) (h nb : ℕ) {o11 : Fin 2 → ℕ} {o13 : Fin 3 → ℕ} {o6 : Fin 2 → ℕ}
    (e11 : o11 = ![256 * k + 128 * h, 128 * nb]) (e13 : o13 = ![(Ring.sl 2 k).val, 128 * h, 128 * nb]) (e6 : o6 = ![2 * k + h, nb])
    (hh : h < 2)
    (inb11 : ∀ a, o11 a + S128x128.size a ≤ S7168x3584.size a) (inb13 : ∀ a, o13 a + S1x128x128.size a ≤ S2x256x3584.size a)
    (inb6 : ∀ a, o6 a + S1x1.size a ≤ S56x28.size a)
    (g : Buf (Elt F) ((rslot (Ring.sl 2 k)).view.loc (c : Thread nD τ)))
    (hs1 : S1x128x128.ShapeCasts S128x128) (hs2 : S128x128.ShapeCasts S128x128) (hp : 0 < (Rect.unit (s := S56x28) o6 S1x1.size inb6).shape.numel) :
    IsTile (Wd c XW arg6 X6) (256 * k) 128 128
      (⟨Rect.unit o11 S128x128.size inb11,
        shapeCast S128x128 (mulf (extf .bf16 (shapeCast S128x128 (View.readAt (Elt F) stM.view (Rect.unit (s := S2x256x3584) o13 S1x128x128.size inb13).toLoadRect
            (landed c XW (Ring.sl 2 k) b g)) hs1))
          (truncf .bf16 (broadcast S128x128 (View.readAt (Elt F) arg6.view (Rect.unit (s := S56x28) o6 S1x1.size inb6).toLoadRect X6 (Shape.Idx.first hp))))) hs2⟩ :
        View.Piece (Elt F) S7168x3584 .bf16) (h, nb) := by
  refine IsTile.unit (q := (h, nb)) e11 fun x => ?_
  subst e13 e6
  have hx0 : (x 0).val < 128 := (x 0).isLt
  have hx1 : (x 1).val < 128 := (x 1).isLt
  have y0 : ((Rect.unit (s := S7168x3584) o11 S128x128.size inb11).emb x 0).val = 256 * k + 128 * h + (x 0).val := by
    rw [Rect.emb_apply]; show o11 0 + 1 * (x 0).val = _; have := congrFun e11 0; change o11 0 = 256 * k + 128 * h at this; omega
  have y1 : ((Rect.unit (s := S7168x3584) o11 S128x128.size inb11).emb x 1).val = 128 * nb + (x 1).val := by
    rw [Rect.emb_apply]; show o11 1 + 1 * (x 1).val = _; have := congrFun e11 1; change o11 1 = 128 * nb at this; omega
  generalize (Rect.unit (s := S7168x3584) o11 S128x128.size inb11).emb x = y at y0 y1 ⊢
  rw [shapeCast_self, mulf_apply, extf_apply, truncf_apply]
  unfold Wd
  refine congrArg₂ _ (congrArg _ ?_) (congrArg _ ?_)
  · rw [shapeCast_dropUnit_apply]
    refine landed_read c XW _ b g ((Rect.unit (s := S2x256x3584) ![(Ring.sl 2 k).val, 128 * h, 128 * nb] S1x128x128.size inb13).toLoadRect.idx (Fin.cons ⟨0, Nat.one_pos⟩ x)) y ?_ ?_ ?_
    · show (Ring.sl 2 k).val + 1 * 0 = _; omega
    · rw [y0, hb]
      show _ = 256 * k + (128 * h + 1 * (x 0).val); omega
    · rw [y1]; show _ = 128 * nb + 1 * (x 1).val; omega
  · rw [broadcast_apply]
    show arg6.view.read (Elt F) X6 _ = _
    congr 1
    funext a
    refine Fin.ext ?_
    have h00 : ∀ z : (Rect.unit (s := S56x28) ![2 * k + h, nb] S1x1.size inb6).shape.Idx, ∀ a, (z a).val = 0 := fun z a => by
      have := (z a).isLt
      have h1 : (Rect.unit (s := S56x28) ![2 * k + h, nb] S1x1.size inb6).shape.size a = 1 := by fin_cases a <;> rfl
      omega
    have := h00 (Shape.Idx.first hp) a
    fin_cases a
    · show 2 * k + h + 1 * (Shape.Idx.first hp 0).val = (y 0).val / 128
      change (Shape.Idx.first hp 0).val = 0 at this
      omega
    · show nb + 1 * (Shape.Idx.first hp 1).val = (y 1).val / 128
      change (Shape.Idx.first hp 1).val = 0 at this
      omega
end Tile
end Cert.Proof.Kernel
-- ==== Proof.Bits.Trip1.lean ====
/-
  One trip of the weight ring.
-/
module

public import proofs.«01_k».proof.Proof.Bits.Tile1

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UU nD τ) ℕ

section Trip
variable (c : Dev nD) (XW : Buf (Elt F) (wM.view.loc (c : Thread nD τ))) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole) (k0_h1 : k0_cond1 i = 1#1)
  (X6 : Buf (Elt F) (arg6.view.loc (c : Thread nD τ)))

abbrev tripG (k : Fin k0_t1_loop.trips) : Prog (TpuEff nD τ sig (Elt F) Λ₀ .tc) Unit :=
  k0_t1_body (F := F) i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 k0_h1 k ()

abbrev wbP (f : Buf (Elt F) (wbM.view.loc (c : Thread nD τ))) : sProp 𝕄 := wbM.view.loc (c : Thread nD τ) ↦[wbM.view.set]{fullShare} f
abbrev wsP : sProp 𝕄 := arg6.view.loc (c : Thread nD τ) ↦[arg6.view.set]{fullShare} X6

/-- What trip `k` finds, the carried weight at `f`. -/
def resAt (k : ℕ) (f : Buf (Elt F) (wbM.view.loc (c : Thread nD τ))) : sProp 𝕄 :=
  iprop(wbP c f ∗ wsP c arg6 X6 ∗ (∃ W, owes (c : Thread nD τ) 0 W) ∗ bigSep (Ring.homeSet 1 k) (homeP c XW) ∗ ringAt c XW k)

set_option backward.proofsInPublic true in
def tripRun (k : Fin k0_t1_loop.trips) (hk : k.val + 1 < 28) :
    { L : List (View.Piece (Elt F) S7168x3584 .bf16) // ∀ f,
      resAt c XW arg6 X6 k f ⊢ wp frame (wpE (defs₀ (F := F)) 𝒱₀ (c : Thread nD τ) none) Set.univ (tripG i arg1 harg1 arg2 harg2 arg3 harg3 arg4 harg4 arg6 harg6 arg7 harg7 arg8 harg8 arg9 harg9 arg10 harg10 k0_h1 k)
        (fun _ => resAt c XW arg6 X6 (k.val + 1) (wbM.view.writes (Elt F) f L)) } := by
  refine ⟨?_, fun f => ?run⟩
  case run =>
    have hk28 : k.val < 28 := by omega
    have hc : k0_cond2 k = 1#1 := cond2_of_lt k hk
    unfold resAt
    rw [ringAt_lt c XW hk28, ringAt_lt c XW hk, homes_here c XW k.val hk, homes_next c XW k.val hk, sl2_add2]
    iintro ⟨HO, Hws, ⟨%W, HW⟩, ⟨Hg, Hrest⟩, ⟨%f0, HF0⟩, ⟨%f1, HS⟩, HC⟩
    dsimp only [tripG]
    sl_unfold [k0_t1_body]
    sl_exec
    sl_step
    isplitl [HO]; · iexact HO
    isplitl [Hws]; · iexact Hws
    isplitl [HW]; · iexists _; iexact HW
    isplitl [HF0_src Hrest]
    · isplitl [HF0_src]; · iexact HF0_src
      iexact Hrest
    isplitl [HC]; · iexists f1; iexact HC
    isplitl [HF0_dst]; · iexists _; iexact HF0_dst
    iexact HF0

set_option backward.proofsInPublic true in
/-- The last trip: nothing further to start. -/
def tripLast (k : Fin k0_t1_loop.trips) (hk : ¬ k.val + 1 < 28) :
    { L : List (View.Piece (Elt F) S7168x3584 .bf16) // ∀ f,
      resAt c XW arg6 X6 k f ⊢ wp frame (wpE (defs₀ (F := F)) 𝒱₀ (c : Thread nD τ) none) Set.univ (tripG i arg1 harg1 arg2 harg2 arg3 harg3 arg4 harg4 arg6 harg6 arg7 harg7 arg8 harg8 arg9 harg9 arg10 harg10 k0_h1 k)
        (fun _ => resAt c XW arg6 X6 (k.val + 1) (wbM.view.writes (Elt F) f L)) } := by
  refine ⟨?_, fun f => ?run⟩
  case run =>
    have hk28 : k.val < 28 := lt_of_lt_of_eq k.isLt trips1
    have hc : ¬ k0_cond2 k = 1#1 := cond2_of_not k hk
    unfold resAt
    rw [ringAt_lt c XW hk28, ringAt_ge c XW hk, homes_tail c XW k.val (by omega) hk28, sl2_add2]
    iintro ⟨HO, Hws, ⟨%W, HW⟩, Hrest, ⟨%f0, HF0⟩, ⟨%f1, HS⟩, HC⟩
    dsimp only [tripG]
    sl_unfold [k0_t1_body]
    sl_exec
    sl_step
    isplitl [HO]; · iexact HO
    isplitl [Hws]; · iexact Hws
    isplitl [HW]; · iexists _; iexact HW
    isplitl [HF0_src Hrest]
    · isplitl [HF0_src]; · iexact HF0_src
      iexact Hrest
    isplitl [HS]; · iexists f1; iexact HS
    isplitl [HC]; · iexact HC
    isplitl [HF0_dst]; · iexists _; iexact HF0_dst
    iexact HF0

/-- The tiles of a trip, in the order a run lists them: last store first. -/
def tileIdx : List (ℕ × ℕ) := [(1,27),(1,26),(1,25),(1,24),(1,23),(1,22),(1,21),(1,20),(1,19),(1,18),(1,17),(1,16),(1,15),(1,14),(1,13),(1,12),(1,11),(1,10),(1,9),(1,8),(1,7),(1,6),(1,5),(1,4),(1,3),(1,2),(1,1),(1,0),
  (0,27),(0,26),(0,25),(0,24),(0,23),(0,22),(0,21),(0,20),(0,19),(0,18),(0,17),(0,16),(0,15),(0,14),(0,13),(0,12),(0,11),(0,10),(0,9),(0,8),(0,7),(0,6),(0,5),(0,4),(0,3),(0,2),(0,1),(0,0)]

theorem bk_val (k : ℕ) (hk : k < 28) : (Ring.bk 28 k).val = k := Nat.mod_eq_of_lt hk

theorem tripRun_tiles (k : Fin k0_t1_loop.trips) (hk : k.val + 1 < 28) :
    List.Forall₂ (IsTile (Wd c XW arg6 X6) (256 * k.val) 128 128)
      (tripRun c XW i arg1 harg1 arg2 harg2 arg3 harg3 arg4 harg4 arg6 harg6 arg7 harg7 arg8 harg8 arg9 harg9 arg10 harg10 k0_h1 X6 k hk).1 tileIdx := by
  have hb := bk_val k.val (lt_of_lt_of_eq k.isLt trips1)
  unfold tripRun tileIdx
  dsimp only
  repeat' first
    | exact List.Forall₂.nil
    | refine List.Forall₂.cons (tile_ok c XW arg6 X6 k.val _ hb _ _ (ClosedOff.eq) (ClosedOff.eq) (ClosedOff.eq) (by decide) _ _ _ _ _ _ _) ?_

theorem tripLast_tiles (k : Fin k0_t1_loop.trips) (hk : ¬ k.val + 1 < 28) :
    List.Forall₂ (IsTile (Wd c XW arg6 X6) (256 * k.val) 128 128)
      (tripLast c XW i arg1 harg1 arg2 harg2 arg3 harg3 arg4 harg4 arg6 harg6 arg7 harg7 arg8 harg8 arg9 harg9 arg10 harg10 k0_h1 X6 k hk).1 tileIdx := by
  have hb := bk_val k.val (lt_of_lt_of_eq k.isLt trips1)
  unfold tripLast tileIdx
  dsimp only
  repeat' first
    | exact List.Forall₂.nil
    | refine List.Forall₂.cons (tile_ok c XW arg6 X6 k.val _ hb _ _ (ClosedOff.eq) (ClosedOff.eq) (ClosedOff.eq) (by decide) _ _ _ _ _ _ _) ?_
end Trip
end Cert.Proof.Kernel
-- ==== Proof.Bits.Rows.lean ====
/-
  What the loop over a block's rows stores, as functions of what it reads: 32 rows at a time the mean and the
  reciprocal deviation, and for each group of 128 columns the modulated rows, the scale's word, the codes, the scale and
  the dequantised activations.
-/
module

public import proofs.«01_k».proof.Proof.Bits.Ring
public import proofs.«01_k».proof.Proof.Tiles
public import Idealize.ShloMosaic.Lib.Pipeline.Value

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

/-! ## One group of a chunk of 32 rows, in the program's operations -/

/-- The chunk's mean, a column; -/
def meanV (v : Vec F S32x7168 .bf16) : FVec F S32x1 .f32 :=
  mulf (shapeCast S32x1 (multiReduction .add [1] S32 (extf .f32 (shapeCast S32x7168 v shapeCasts_S32x7168_S32x7168) bitsLt_bf16_f32) 0x00000000#32 reduces_S32x7168_S32 (.inl rfl) rfl) shapeCasts_S32_S32x1)
    (broadcast S32x1 (Scalar.ofBits .f32 0x39124925#32))
/-- the centred chunk; -/
def centreV (v : Vec F S32x7168 .bf16) : FVec F S32x7168 .f32 :=
  subf (extf .f32 (shapeCast S32x7168 v shapeCasts_S32x7168_S32x7168) bitsLt_bf16_f32) (broadcastTo S32x7168 (meanV v) broadcasts_S32x1_S32x7168)
/-- the reciprocal deviation, a column. -/
def rstdV (v : Vec F S32x7168 .bf16) : FVec F S32x1 .f32 :=
  rsqrt (addf (mulf (shapeCast S32x1 (multiReduction .add [1] S32 (mulf (centreV v) (centreV v)) 0x00000000#32 reduces_S32x7168_S32 (.inl rfl) rfl) shapeCasts_S32_S32x1)
      (broadcast S32x1 (Scalar.ofBits .f32 0x39124925#32)))
    (broadcast S32x1 (Scalar.ofBits .f32 0x358637BD#32)))
/-- The modulated group: chunk `v`, the group's rows `g`, the two modulation vectors' parts. -/
def modV (v : Vec F S32x7168 .bf16) (g : Vec F S32x128 .bf16) (sc sh : Vec F S1x1x128 .bf16) : FVec F S32x128 .f32 :=
  addf (mulf (mulf (subf (extf .f32 (shapeCast S32x128 g shapeCasts_S32x128_S32x128) bitsLt_bf16_f32) (broadcastTo S32x128 (meanV v) broadcasts_S32x1_S32x128))
        (broadcastTo S32x128 (rstdV v) broadcasts_S32x1_S32x128))
      (broadcastTo S32x128 (addf (broadcast S1x128 (Scalar.ofBits .f32 0x3F800000#32)) (extf .f32 (shapeCast S1x128 sc shapeCasts_S1x1x128_S1x128) bitsLt_bf16_f32)) broadcasts_S1x128_S32x128))
    (broadcastTo S32x128 (extf .f32 (shapeCast S1x128 sh shapeCasts_S1x1x128_S1x128) bitsLt_bf16_f32) broadcasts_S1x128_S32x128)
/-- A group's largest magnitude times 1/448, a column. -/
def stepV (h : FVec F S32x128 .f32) : FVec F S32x1 .f32 :=
  mulf (shapeCast S32x1 (multiReduction .maximumf [1] S32 (absf h) 0xFF800000#32 reduces_S32x128_S32 (.inl rfl) rfl) shapeCasts_S32_S32x1)
    (broadcast S32x1 (Scalar.ofBits .f32 0x3B124925#32))
/-- One step of the search for a float's exponent field: set bit `b` if the word with it set is a float at most `t`. -/
def setBit (t : FVec F S32x1 .f32) (b : BitVec 32) (w : IVec S32x1 32) : IVec S32x1 32 :=
  select (cmpf .oge t (bitcastToFloat .f32 (ori w (broadcast S32x1 b)))) (ori w (broadcast S32x1 b)) w
/-- The exponent field, its eight bits from the highest. -/
def fieldV (t : FVec F S32x1 .f32) : IVec S32x1 32 :=
  setBit t 8388608#32 (setBit t 16777216#32 (setBit t 33554432#32 (setBit t 67108864#32 (setBit t 134217728#32 (setBit t 268435456#32
    (setBit t 536870912#32 (setBit t 1073741824#32 (broadcast S32x1 0#32))))))))
/-- The scale's word: the next exponent, or 1 for a field of zero. -/
def wordV (t : FVec F S32x1 .f32) : IVec S32x1 32 :=
  select (cmpi .sgt (addi (fieldV t) (broadcast S32x1 8388608#32)) (broadcast S32x1 8388608#32)) (addi (fieldV t) (broadcast S32x1 8388608#32)) (broadcast S32x1 1065353216#32)
/-- The group's scale. -/
def scaleV (h : FVec F S32x128 .f32) : FVec F S32x1 .f32 := bitcastToFloat .f32 (wordV (stepV h))
/-- The group's codes. -/
def codesV (h : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf h (broadcastTo S32x128 (bitcastToFloat .f32 (subi (broadcast S32x1 2130706432#32) (wordV (stepV h)))) broadcasts_S32x1_S32x128)))) bitsLt_fp8e4m3_f32
/-- The dequantised group. -/
def actV (h : FVec F S32x128 .f32) : FVec F S32x128 .bf16 :=
  mulf (extf .bf16 (codesV h) bitsLt_fp8e4m3_bf16) (broadcastTo S32x128 (truncf .bf16 (scaleV h) bitsLt_bf16_f32) broadcasts_S32x1_S32x128)

/-! ## The same by the element -/

/-- Chunk `k` of a block of 128 rows. -/
def chunkV (x1 : S128x7168.Idx → F .bf16) (k : Fin 4) : Vec F S32x7168 .bf16 := fun z => x1 (ix2 ⟨32 * k.val + (z 0).val, by have := (z 0).isLt; change (z 0).val < 32 at this; have := k.isLt; show _ < 128; omega⟩ (z 1))
/-- Group `g` of a chunk. -/
def groupV (x1 : S128x7168.Idx → F .bf16) (k : Fin 4) (g : Fin 56) : Vec F S32x128 .bf16 := fun z => x1 (ix2 ⟨32 * k.val + (z 0).val, by have := (z 0).isLt; change (z 0).val < 32 at this; have := k.isLt; show _ < 128; omega⟩
  ⟨128 * g.val + (z 1).val, by have := (z 1).isLt; change (z 1).val < 128 at this; have := g.isLt; show _ < 7168; omega⟩)
/-- Group `g` of a modulation vector. -/
def partV (x : S1x1x7168.Idx → F .bf16) (g : Fin 56) : Vec F S1x1x128 .bf16 := fun z => x (ix3 0 0
  ⟨128 * g.val + (z 2).val, by have := (z 2).isLt; change (z 2).val < 128 at this; have := g.isLt; show _ < 7168; omega⟩)
/-- Group `g` of chunk `k`, modulated: rows `x1`, shift `x2`, scale `x3`. -/
def hV (x1 : S128x7168.Idx → F .bf16) (x2 x3 : S1x1x7168.Idx → F .bf16) (k : Fin 4) (g : Fin 56) : FVec F S32x128 .f32 :=
  modV (chunkV x1 k) (groupV x1 k g) (partV x3 g) (partV x2 g)

def chunkOf {n : ℕ} (y : (⟨2, ![128, n]⟩ : Shape).Idx) : Fin 4 := ⟨(y 0).val / 32, by have := (y 0).isLt; change (y 0).val < 128 at this; omega⟩
def groupOf {m : ℕ} (y : (⟨2, ![m, 7168]⟩ : Shape).Idx) : Fin 56 := ⟨(y 1).val / 128, by have := (y 1).isLt; change (y 1).val < 7168 at this; omega⟩
def inTile {m : ℕ} (y : (⟨2, ![m, 7168]⟩ : Shape).Idx) : S32x128.Idx := ix2 ⟨(y 0).val % 32, Nat.mod_lt _ (by decide)⟩ ⟨(y 1).val % 128, Nat.mod_lt _ (by decide)⟩

/-- The block's codes. -/
def codesB (x1 : S128x7168.Idx → F .bf16) (x2 x3 : S1x1x7168.Idx → F .bf16) (y : S128x7168.Idx) : F .fp8e4m3 :=
  codesV (hV x1 x2 x3 (chunkOf y) (groupOf y)) (inTile y)
/-- The block's dequantised activations. -/
def actB (x1 : S128x7168.Idx → F .bf16) (x2 x3 : S1x1x7168.Idx → F .bf16) (y : S128x7168.Idx) : F .bf16 :=
  actV (hV x1 x2 x3 (chunkOf y) (groupOf y)) (inTile y)
/-- The block's scales. -/
def scaleB (x1 : S128x7168.Idx → F .bf16) (x2 x3 : S1x1x7168.Idx → F .bf16) (y : S128x56.Idx) : F .f32 :=
  scaleV (hV x1 x2 x3 (chunkOf y) (y 1)) (ix2 ⟨(y 0).val % 32, Nat.mod_lt _ (by decide)⟩ 0)

section Tile
variable (c : Dev nD)
  (arg1 : Memref sig .tc .vmem S128x7168 .bf16) (arg2 : Memref sig .tc .vmem S1x1x7168 .bf16) (arg3 : Memref sig .tc .vmem S1x1x7168 .bf16)
  (X1 : Buf (Elt F) (arg1.view.loc (c : Thread nD τ))) (X2 : Buf (Elt F) (arg2.view.loc (c : Thread nD τ))) (X3 : Buf (Elt F) (arg3.view.loc (c : Thread nD τ)))

theorem read_chunk (k : Fin 4) {o : Fin 2 → ℕ} (e : o = ![32 * k.val, 0]) (inb : ∀ a, o a + S32x7168.size a ≤ S128x7168.size a) :
    View.readAt (Elt F) arg1.view (Rect.unit (s := S128x7168) o S32x7168.size inb).toLoadRect X1 = chunkV (arg1.view.read (Elt F) X1) k := by
  subst e
  funext z
  show arg1.view.read (Elt F) X1 _ = arg1.view.read (Elt F) X1 _
  congr 1; funext a; refine Fin.ext ?_
  fin_cases a
  · show 32 * k.val + 1 * (z 0).val = 32 * k.val + (z 0).val; omega
  · show 0 + 1 * (z 1).val = (z 1).val; omega

theorem read_group (k : Fin 4) (g : Fin 56) {o : Fin 2 → ℕ} (e : o = ![32 * k.val, 128 * g.val]) (inb : ∀ a, o a + S32x128.size a ≤ S128x7168.size a) :
    View.readAt (Elt F) arg1.view (Rect.unit (s := S128x7168) o S32x128.size inb).toLoadRect X1 = groupV (arg1.view.read (Elt F) X1) k g := by
  subst e
  funext z
  show arg1.view.read (Elt F) X1 _ = arg1.view.read (Elt F) X1 _
  congr 1; funext a; refine Fin.ext ?_
  fin_cases a
  · show 32 * k.val + 1 * (z 0).val = 32 * k.val + (z 0).val; omega
  · show 128 * g.val + 1 * (z 1).val = 128 * g.val + (z 1).val; omega

theorem read_part (g : Fin 56) {o : Fin 3 → ℕ} (e : o = ![0, 0, 128 * g.val]) (inb : ∀ a, o a + S1x1x128.size a ≤ S1x1x7168.size a) :
    View.readAt (Elt F) arg2.view (Rect.unit (s := S1x1x7168) o S1x1x128.size inb).toLoadRect X2 = partV (arg2.view.read (Elt F) X2) g := by
  subst e
  funext z
  show arg2.view.read (Elt F) X2 _ = arg2.view.read (Elt F) X2 _
  have h0 : (z 0).val < 1 := (z 0).isLt
  have h1 : (z 1).val < 1 := (z 1).isLt
  congr 1; funext a; refine Fin.ext ?_
  fin_cases a
  · show 0 + 1 * (z 0).val = 0; omega
  · show 0 + 1 * (z 1).val = 0; omega
  · show 128 * g.val + 1 * (z 2).val = 128 * g.val + (z 2).val; omega

/-- A tile of 32 rows and 128 columns lies under its chunk and group. -/
theorem tile_at (k : Fin 4) (g : Fin 56) {o : Fin 2 → ℕ} (e : o = ![32 * k.val, 128 * g.val]) (inb : ∀ a, o a + S32x128.size a ≤ S128x7168.size a) (x : S32x128.Idx) :
    chunkOf ((Rect.unit (s := S128x7168) o S32x128.size inb).emb x) = k ∧ groupOf ((Rect.unit (s := S128x7168) o S32x128.size inb).emb x) = g ∧ inTile ((Rect.unit (s := S128x7168) o S32x128.size inb).emb x) = x := by
  subst e
  have h0 : (x 0).val < 32 := (x 0).isLt
  have h1 : (x 1).val < 128 := (x 1).isLt
  have e0 : ((Rect.unit (s := S128x7168) ![32 * k.val, 128 * g.val] S32x128.size inb).emb x 0).val = 32 * k.val + (x 0).val := by
    rw [Rect.emb_apply]; show 32 * k.val + 1 * (x 0).val = _; omega
  have e1 : ((Rect.unit (s := S128x7168) ![32 * k.val, 128 * g.val] S32x128.size inb).emb x 1).val = 128 * g.val + (x 1).val := by
    rw [Rect.emb_apply]; show 128 * g.val + 1 * (x 1).val = _; omega
  refine ⟨Fin.ext ?_, Fin.ext ?_, ?_⟩
  · show _ / 32 = k.val; rw [e0]; omega
  · show _ / 128 = g.val; rw [e1]; omega
  · funext a; refine Fin.ext ?_
    fin_cases a
    · show _ % 32 = (x 0).val; rw [e0]; omega
    · show _ % 128 = (x 1).val; rw [e1]; omega

variable (k : Fin 4) (g : Fin 56) {o orow : Fin 2 → ℕ} {ov : Fin 3 → ℕ} (e : o = ![32 * k.val, 128 * g.val]) (er : orow = ![32 * k.val, 0])
  (ev : ov = ![0, 0, 128 * g.val]) (inb : ∀ a, o a + S32x128.size a ≤ S128x7168.size a) (inbr : ∀ a, orow a + S32x7168.size a ≤ S128x7168.size a)
  (inbv : ∀ a, ov a + S1x1x128.size a ≤ S1x1x7168.size a)

/-- The group as a trip computes it from its loads. -/
abbrev hL : FVec F S32x128 .f32 :=
  modV (View.readAt (Elt F) arg1.view (Rect.unit (s := S128x7168) orow S32x7168.size inbr).toLoadRect X1) (View.readAt (Elt F) arg1.view (Rect.unit (s := S128x7168) o S32x128.size inb).toLoadRect X1)
    (View.readAt (Elt F) arg3.view (Rect.unit (s := S1x1x7168) ov S1x1x128.size inbv).toLoadRect X3) (View.readAt (Elt F) arg2.view (Rect.unit (s := S1x1x7168) ov S1x1x128.size inbv).toLoadRect X2)

include e er ev in
theorem hL_eq : hL c arg1 arg2 arg3 X1 X2 X3 inb inbr inbv = hV (arg1.view.read (Elt F) X1) (arg2.view.read (Elt F) X2) (arg3.view.read (Elt F) X3) k g := by
  unfold hL hV
  rw [read_chunk c arg1 X1 k er, read_group c arg1 X1 k g e, read_part c arg3 X3 g ev, read_part c arg2 X2 g ev]

include e er ev in
theorem codes_ok : IsTile (codesB (arg1.view.read (Elt F) X1) (arg2.view.read (Elt F) X2) (arg3.view.read (Elt F) X3)) (32 * k.val) 32 128
    (⟨Rect.unit o S32x128.size inb, codesV (hL c arg1 arg2 arg3 X1 X2 X3 inb inbr inbv)⟩ : View.Piece (Elt F) S128x7168 .fp8e4m3) (0, g.val) := by
  refine IsTile.unit (q := (0, g.val)) e fun x => ?_
  obtain ⟨h1, h2, h3⟩ := tile_at k g e inb x
  rw [hL_eq c arg1 arg2 arg3 X1 X2 X3 k g e er ev]
  unfold codesB
  rw [h1, h2, h3]

include e er ev in
theorem act_ok : IsTile (actB (arg1.view.read (Elt F) X1) (arg2.view.read (Elt F) X2) (arg3.view.read (Elt F) X3)) (32 * k.val) 32 128
    (⟨Rect.unit o S32x128.size inb, shapeCast S32x128 (actV (hL c arg1 arg2 arg3 X1 X2 X3 inb inbr inbv)) shapeCasts_S32x128_S32x128⟩ : View.Piece (Elt F) S128x7168 .bf16) (0, g.val) := by
  refine IsTile.unit (q := (0, g.val)) e fun x => ?_
  obtain ⟨h1, h2, h3⟩ := tile_at k g e inb x
  rw [hL_eq c arg1 arg2 arg3 X1 X2 X3 k g e er ev, shapeCast_self]
  unfold actB
  rw [h1, h2, h3]

include e er ev in
theorem scale_ok {os : Fin 2 → ℕ} (es : os = ![32 * k.val, g.val]) (inbs : ∀ a, os a + S32x1.size a ≤ S128x56.size a) :
    IsTile (scaleB (arg1.view.read (Elt F) X1) (arg2.view.read (Elt F) X2) (arg3.view.read (Elt F) X3)) (32 * k.val) 32 1
    (⟨Rect.unit os S32x1.size inbs, scaleV (hL c arg1 arg2 arg3 X1 X2 X3 inb inbr inbv)⟩ : View.Piece (Elt F) S128x56 .f32) (0, g.val) := by
  refine IsTile.unit (q := (0, g.val)) (by rw [es]; show _ = ![_, 1 * g.val]; rw [Nat.one_mul]; rfl) fun x => ?_
  rw [hL_eq c arg1 arg2 arg3 X1 X2 X3 k g e er ev]
  subst es
  have h0 : (x 0).val < 32 := (x 0).isLt
  have h1 : (x 1).val < 1 := (x 1).isLt
  have e0 : ((Rect.unit (s := S128x56) ![32 * k.val, g.val] S32x1.size inbs).emb x 0).val = 32 * k.val + (x 0).val := by
    rw [Rect.emb_apply]; show 32 * k.val + 1 * (x 0).val = _; omega
  have e1 : ((Rect.unit (s := S128x56) ![32 * k.val, g.val] S32x1.size inbs).emb x 1) = g := by
    refine Fin.ext ?_; rw [Rect.emb_apply]; show g.val + 1 * (x 1).val = _; omega
  unfold scaleB
  have a1 : chunkOf ((Rect.unit (s := S128x56) ![32 * k.val, g.val] S32x1.size inbs).emb x) = k := by
    refine Fin.ext ?_; show _ / 32 = k.val; rw [e0]; omega
  rw [a1, e1]
  congr 1; funext a; refine Fin.ext ?_
  fin_cases a
  · show (x 0).val = _ % 32; rw [e0]; omega
  · show (x 1).val = 0; omega
end Tile

/-! ## A trip's tiles -/

/-- The offsets of a trip's groups of columns, in the program's words; -/
def groupOff (k : Fin k0_t2_loop.trips) : Fin 56 → Fin 2 → ℕ :=
  ![k0_off120 k, k0_off122 k, k0_off124 k, k0_off126 k, k0_off128 k, k0_off130 k, k0_off132 k, k0_off134 k, k0_off136 k, k0_off138 k, k0_off140 k, k0_off142 k, k0_off144 k, k0_off146 k, k0_off148 k, k0_off150 k, k0_off152 k, k0_off154 k, k0_off156 k, k0_off158 k, k0_off160 k, k0_off162 k, k0_off164 k, k0_off166 k, k0_off168 k, k0_off170 k, k0_off172 k, k0_off174 k, k0_off176 k, k0_off178 k, k0_off180 k, k0_off182 k, k0_off184 k, k0_off186 k, k0_off188 k, k0_off190 k, k0_off192 k, k0_off194 k, k0_off196 k, k0_off198 k, k0_off200 k, k0_off202 k, k0_off204 k, k0_off206 k, k0_off208 k, k0_off210 k, k0_off212 k, k0_off214 k, k0_off216 k, k0_off218 k, k0_off220 k, k0_off222 k, k0_off224 k, k0_off226 k, k0_off228 k, k0_off230 k]
theorem groupOff_eq : ∀ (k : Fin k0_t2_loop.trips) (g : Fin 56), groupOff k g = ![32 * k.val, 128 * g.val] := by decide +kernel
theorem groupOff_inb (k : Fin k0_t2_loop.trips) (g : Fin 56) : ∀ a, groupOff k g a + S32x128.size a ≤ S128x7168.size a := by
  have h := Nat.lt_of_lt_of_le k.isLt k0_t2_abs.2.1
  have := g.isLt
  rw [groupOff_eq]; intro a; fin_cases a
  · show 32 * k.val + 32 ≤ 128; omega
  · show 128 * g.val + 128 ≤ 7168; omega
theorem part_inb (g : Fin 56) : ∀ a, (![0, 0, 128 * g.val] : Fin 3 → ℕ) a + S1x1x128.size a ≤ S1x1x7168.size a := by
  have := g.isLt
  intro a; fin_cases a
  · show 0 + 1 ≤ 1; omega
  · show 0 + 1 ≤ 1; omega
  · show 128 * g.val + 128 ≤ 7168; omega
theorem trips2 : k0_t2_loop.trips = 4 := by decide +kernel

section At
variable (c : Dev nD)
  (arg1 : Memref sig .tc .vmem S128x7168 .bf16) (arg2 : Memref sig .tc .vmem S1x1x7168 .bf16) (arg3 : Memref sig .tc .vmem S1x1x7168 .bf16)
  (X1 : Buf (Elt F) (arg1.view.loc (c : Thread nD τ))) (X2 : Buf (Elt F) (arg2.view.loc (c : Thread nD τ))) (X3 : Buf (Elt F) (arg3.view.loc (c : Thread nD τ)))
  (k : Fin k0_t2_loop.trips) (g : Fin 56)

def CodesTile (p : View.Piece (Elt F) S128x7168 .fp8e4m3) : Prop :=
  IsTile (codesB (arg1.view.read (Elt F) X1) (arg2.view.read (Elt F) X2) (arg3.view.read (Elt F) X3)) (32 * k.val) 32 128 p (0, g.val)
def ActTile (p : View.Piece (Elt F) S128x7168 .bf16) : Prop :=
  IsTile (actB (arg1.view.read (Elt F) X1) (arg2.view.read (Elt F) X2) (arg3.view.read (Elt F) X3)) (32 * k.val) 32 128 p (0, g.val)
def ScaleTile (p : View.Piece (Elt F) S128x56 .f32) : Prop :=
  IsTile (scaleB (arg1.view.read (Elt F) X1) (arg2.view.read (Elt F) X2) (arg3.view.read (Elt F) X3)) (32 * k.val) 32 1 p (0, g.val)

/-- The group of a trip, from the trip's loads. -/
abbrev hAt : FVec F S32x128 .f32 :=
  hL c arg1 arg2 arg3 X1 X2 X3 (o := groupOff k g) (orow := k0_off119 k) (ov := ![0, 0, 128 * g.val]) (groupOff_inb k g) (k0_off119_inb k) (part_inb g)

theorem codes_at : CodesTile c arg1 arg2 arg3 X1 X2 X3 k g ⟨Rect.unit (groupOff k g) S32x128.size (groupOff_inb k g), codesV (hAt c arg1 arg2 arg3 X1 X2 X3 k g)⟩ :=
  codes_ok c arg1 arg2 arg3 X1 X2 X3 (k.cast trips2) g (groupOff_eq k g) (k0_off119_eq k) rfl _ _ _
theorem act_at : ActTile c arg1 arg2 arg3 X1 X2 X3 k g ⟨Rect.unit (groupOff k g) S32x128.size (groupOff_inb k g),
    shapeCast S32x128 (actV (hAt c arg1 arg2 arg3 X1 X2 X3 k g)) shapeCasts_S32x128_S32x128⟩ :=
  act_ok c arg1 arg2 arg3 X1 X2 X3 (k.cast trips2) g (groupOff_eq k g) (k0_off119_eq k) rfl _ _ _
theorem scale_at {os : Fin 2 → ℕ} (inbs : ∀ a, os a + S32x1.size a ≤ S128x56.size a) (es : os = ![32 * k.val, g.val]) :
    ScaleTile c arg1 arg2 arg3 X1 X2 X3 k g ⟨Rect.unit os S32x1.size inbs, scaleV (hAt c arg1 arg2 arg3 X1 X2 X3 k g)⟩ :=
  scale_ok c arg1 arg2 arg3 X1 X2 X3 (k.cast trips2) g (groupOff_eq k g) (k0_off119_eq k) rfl _ _ _ es inbs
end At

/-- The groups of a trip, in the order a run lists its stores: the last first. -/
def groupIdx : List (Fin 56) :=
  [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
end Cert.Proof.Kernel
-- ==== Proof.Bits.Trip2.lean ====
/-
  One trip of the loop over the block's rows: 32 rows normalised, modulated and quantised, 128 columns at a time.
-/
module

public import proofs.«01_k».proof.Proof.Bits.Rows

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Trip
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (arg12 : Memref sig .tc .vmem S128x7168 .bf16) (harg12 : arg12.IsWhole)
  (X1 : Buf (Elt F) (arg1.view.loc (c : Thread nD τ))) (X2 : Buf (Elt F) (arg2.view.loc (c : Thread nD τ))) (X3 : Buf (Elt F) (arg3.view.loc (c : Thread nD τ)))

abbrev rowsG (k : Fin k0_t2_loop.trips) : Prog (TpuEff nD τ sig (Elt F) Λ₀ .tc) Unit :=
  k0_t2_body (F := F) i arg1 harg1 arg2 harg2 arg3 harg3 arg4 harg4 wM (Memref.isWhole_whole _) arg6 harg6 arg7 harg7 arg8 harg8 arg9 harg9 arg10 harg10 wbM (Memref.isWhole_whole _) arg12 harg12 stM (Memref.isWhole_whole _) cc0_scratch3 k PUnit.unit

/-- What a trip holds: the rows and the two modulation vectors as they are, the three arrays it stores into. -/
def rowsAt (f9 : Buf (Elt F) (arg9.view.loc (c : Thread nD τ))) (f10 : Buf (Elt F) (arg10.view.loc (c : Thread nD τ))) (f12 : Buf (Elt F) (arg12.view.loc (c : Thread nD τ))) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg9.view.loc (c : Thread nD τ) ↦[arg9.view.set]{fullShare} f9)
    ∗ (arg10.view.loc (c : Thread nD τ) ↦[arg10.view.set]{fullShare} f10) ∗ (arg12.view.loc (c : Thread nD τ) ↦[arg12.view.set]{fullShare} f12))

set_option backward.proofsInPublic true in
def rowsRun (k : Fin k0_t2_loop.trips) :
    Σ' (L9 : List (View.Piece (Elt F) S128x7168 .fp8e4m3)) (L10 : List (View.Piece (Elt F) S128x56 .f32)),
      { L12 : List (View.Piece (Elt F) S128x7168 .bf16) // ∀ f9 f10 f12,
        rowsAt c arg1 arg2 arg3 arg9 arg10 arg12 X1 X2 X3 f9 f10 f12
          ⊢ wp frame (wpE (defs₀ (F := F)) 𝒱₀ (c : Thread nD τ) none) Set.univ (rowsG i arg1 harg1 arg2 harg2 arg3 harg3 arg4 harg4 arg6 harg6 arg7 harg7 arg8 harg8 arg9 harg9 arg10 harg10 arg12 harg12 k)
            (fun _ => rowsAt c arg1 arg2 arg3 arg9 arg10 arg12 X1 X2 X3 (arg9.view.writes (Elt F) f9 L9) (arg10.view.writes (Elt F) f10 L10) (arg12.view.writes (Elt F) f12 L12)) } := by
  have hk : k.val < 4 := Nat.lt_of_lt_of_le k.isLt k0_t2_abs.2.1
  refine ⟨?_, ?_, ?_, fun f9 f10 f12 => ?run⟩
  case run =>
    unfold rowsAt
    iintro ⟨HR1, HR2, HR3, HW9, HW10, HW12⟩
    dsimp only [rowsG]
    sl_unfold [k0_t2_body]
    sl_exec
    sl_step
    isplitl [HR1]; · iexact HR1
    isplitl [HR2]; · iexact HR2
    isplitl [HR3]; · iexact HR3
    isplitl [HW9]; · iexact HW9
    isplitl [HW10]; · iexact HW10
    iexact HW12

/-- The codes a trip stores, group by group. -/
theorem rowsRun_codes (k : Fin k0_t2_loop.trips) :
    List.Forall₂ (fun p g => CodesTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).1 groupIdx := by
  unfold rowsRun groupIdx
  dsimp only
  repeat' first
    | exact List.Forall₂.nil
    | refine List.Forall₂.cons (codes_at c arg1 arg2 arg3 X1 X2 X3 k _) ?_

/-- The scales a trip stores, group by group. -/
theorem rowsRun_scale (k : Fin k0_t2_loop.trips) :
    List.Forall₂ (fun p g => ScaleTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).2.1 groupIdx := by
  unfold rowsRun groupIdx
  dsimp only
  repeat' first
    | exact List.Forall₂.nil
    | refine List.Forall₂.cons (scale_at c arg1 arg2 arg3 X1 X2 X3 k _ _ ClosedOff.eq) ?_

/-- The dequantised activations a trip stores, group by group. -/
theorem rowsRun_act (k : Fin k0_t2_loop.trips) :
    List.Forall₂ (fun p g => ActTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).2.2.1 groupIdx := by
  unfold rowsRun groupIdx
  dsimp only
  repeat' first
    | exact List.Forall₂.nil
    | refine List.Forall₂.cons (act_at c arg1 arg2 arg3 X1 X2 X3 k _) ?_

end Trip
end Cert.Proof.Kernel
-- ==== Proof.Bits.LoopInv.lean ====
/-
  The two loops of the kernel body by their invariants: the weight ring, and the block's rows.
-/
module

public import proofs.«01_k».proof.Proof.Bits.Trip1
public import proofs.«01_k».proof.Proof.Bits.Trip2

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UU nD τ) ℕ

theorem tileIdx_cov : ∀ h < 2, ∀ n < 28, (h, n) ∈ tileIdx := by decide +kernel
theorem tileIdx_lt : ∀ q ∈ tileIdx, q.1 < 2 := by decide +kernel
theorem groupIdx_cov : ∀ h < 1, ∀ n < 56, (h, n) ∈ groupIdx.map (fun g => (0, g.val)) := by decide +kernel
theorem groupIdx_lt : ∀ q ∈ groupIdx.map (fun g => ((0 : ℕ), g.val)), q.1 < 1 := by decide +kernel

section Ring
variable (c : Dev nD) (XW : Buf (Elt F) (wM.view.loc (c : Thread nD τ))) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole) (k0_h1 : k0_cond1 i = 1#1)
  (X6 : Buf (Elt F) (arg6.view.loc (c : Thread nD τ)))

/-- Rows `0` to `256 k - 1` of the carried weight are scaled. -/
def WidenedTo (k : ℕ) (f : Buf (Elt F) (wbM.view.loc (c : Thread nD τ))) : Prop :=
  ∀ y : S7168x3584.Idx, (y 0).val < 256 * k → wbM.view.read (Elt F) f y = Wd c XW arg6 X6 y

/-- A trip's 56 tiles scale 256 further rows. -/
theorem widened_step (k : ℕ) {L : List (View.Piece (Elt F) S7168x3584 .bf16)} (hL : List.Forall₂ (IsTile (Wd c XW arg6 X6) (256 * k) 128 128) L tileIdx)
    (f : Buf (Elt F) (wbM.view.loc (c : Thread nD τ))) (h : WidenedTo c XW arg6 X6 k f) : WidenedTo c XW arg6 X6 (k + 1) (wbM.view.writes (Elt F) f L) := by
  intro y hy
  rw [read_of_tiles wbM.view f _ hL tileIdx_cov tileIdx_lt (by decide) y]
  split
  · rfl
  · exact h y (by omega)

/-- The carried weight, its first `256 k` rows scaled. -/
def wdP (k : ℕ) : sProp 𝕄 := iprop(∃ f, ⌜WidenedTo c XW arg6 X6 k f⌝ ∗ wbP c f)

set_option warn.classDefReducibility false in
/-- The ring: before trip `k` the rows before block `k` are scaled and block `k` is in flight. -/
def loopRing :
    LoopInvTy_k0_t1 (F := F) Unit ℕ (UU nD τ) ℕ 𝒱₀ c none Set.univ i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 k0_h1 where
  inv k _ := iprop(wdP c XW arg6 X6 k ∗ wsP c arg6 X6 ∗ (∃ W, owes (c : Thread nD τ) 0 W) ∗ bigSep (Ring.homeSet 1 k) (homeP c XW) ∗ ringAt c XW k)
  step k _ := by
    unfold wdP
    iintro ⟨⟨%f, %hf, Hw⟩, H⟩
    by_cases hk : k.val + 1 < 28
    · iapply (wp_wand_r Idealize.ShloMosaic.frame (wpE (defs₀ (F := F)) 𝒱₀ (c : Thread nD τ) none) Set.univ)
      isplitl [Hw H]
      · iapply ((tripRun c XW i arg1 harg1 arg2 harg2 arg3 harg3 arg4 harg4 arg6 harg6 arg7 harg7 arg8 harg8 arg9 harg9 arg10 harg10 k0_h1 X6 k hk).2 f)
        unfold resAt
        isplitl [Hw]; · iexact Hw
        iexact H
      · unfold resAt
        iintro %_ ⟨Hw', H'⟩
        isplitl [Hw']
        · iexists _
          isplitr
          · ipureintro
            exact widened_step c XW arg6 X6 k.val (tripRun_tiles c XW i arg1 harg1 arg2 harg2 arg3 harg3 arg4 harg4 arg6 harg6 arg7 harg7 arg8 harg8 arg9 harg9 arg10 harg10 k0_h1 X6 k hk) f hf
          · iexact Hw'
        · iexact H'
    · iapply (wp_wand_r Idealize.ShloMosaic.frame (wpE (defs₀ (F := F)) 𝒱₀ (c : Thread nD τ) none) Set.univ)
      isplitl [Hw H]
      · iapply ((tripLast c XW i arg1 harg1 arg2 harg2 arg3 harg3 arg4 harg4 arg6 harg6 arg7 harg7 arg8 harg8 arg9 harg9 arg10 harg10 k0_h1 X6 k hk).2 f)
        unfold resAt
        isplitl [Hw]; · iexact Hw
        iexact H
      · unfold resAt
        iintro %_ ⟨Hw', H'⟩
        isplitl [Hw']
        · iexists _
          isplitr
          · ipureintro
            exact widened_step c XW arg6 X6 k.val (tripLast_tiles c XW i arg1 harg1 arg2 harg2 arg3 harg3 arg4 harg4 arg6 harg6 arg7 harg7 arg8 harg8 arg9 harg9 arg10 harg10 k0_h1 X6 k hk) f hf
          · iexact Hw'
        · iexact H'
end Ring

section Rows
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (X1 : Buf (Elt F) (arg1.view.loc (c : Thread nD τ))) (X2 : Buf (Elt F) (arg2.view.loc (c : Thread nD τ))) (X3 : Buf (Elt F) (arg3.view.loc (c : Thread nD τ)))

/-- Rows `0` to `32 k - 1` of the block are done: codes, scales and dequantised activations. -/
def DoneTo (k : ℕ) (f9 : Buf (Elt F) (arg9.view.loc (c : Thread nD τ))) (f10 : Buf (Elt F) (arg10.view.loc (c : Thread nD τ))) (f12 : Buf (Elt F) (aM.view.loc (c : Thread nD τ))) : Prop :=
  (∀ y : S128x7168.Idx, (y 0).val < 32 * k → arg9.view.read (Elt F) f9 y = codesB (arg1.view.read (Elt F) X1) (arg2.view.read (Elt F) X2) (arg3.view.read (Elt F) X3) y)
    ∧ (∀ y : S128x56.Idx, (y 0).val < 32 * k → arg10.view.read (Elt F) f10 y = scaleB (arg1.view.read (Elt F) X1) (arg2.view.read (Elt F) X2) (arg3.view.read (Elt F) X3) y)
    ∧ (∀ y : S128x7168.Idx, (y 0).val < 32 * k → aM.view.read (Elt F) f12 y = actB (arg1.view.read (Elt F) X1) (arg2.view.read (Elt F) X2) (arg3.view.read (Elt F) X3) y)

/-- A trip's groups finish 32 further rows. -/
theorem done_step (k : Fin k0_t2_loop.trips) {L9 L10 L12} (h9 : List.Forall₂ (fun p g => CodesTile c arg1 arg2 arg3 X1 X2 X3 k g p) L9 groupIdx)
    (h10 : List.Forall₂ (fun p g => ScaleTile c arg1 arg2 arg3 X1 X2 X3 k g p) L10 groupIdx) (h12 : List.Forall₂ (fun p g => ActTile c arg1 arg2 arg3 X1 X2 X3 k g p) L12 groupIdx)
    (f9) (f10) (f12) (h : DoneTo c arg1 arg2 arg3 arg9 arg10 X1 X2 X3 k.val f9 f10 f12) :
    DoneTo c arg1 arg2 arg3 arg9 arg10 X1 X2 X3 (k.val + 1) (arg9.view.writes (Elt F) f9 L9) (arg10.view.writes (Elt F) f10 L10) (aM.view.writes (Elt F) f12 L12) := by
  refine ⟨fun y hy => ?_, fun y hy => ?_, fun y hy => ?_⟩
  · rw [read_of_tiles arg9.view f9 _ (List.forall₂_map_right_iff.mpr h9) groupIdx_cov groupIdx_lt (by decide) y]
    split
    · rfl
    · exact h.1 y (by omega)
  · rw [read_of_tiles arg10.view f10 _ (List.forall₂_map_right_iff.mpr h10) groupIdx_cov groupIdx_lt (by decide) y]
    split
    · rfl
    · exact h.2.1 y (by omega)
  · rw [read_of_tiles aM.view f12 _ (List.forall₂_map_right_iff.mpr h12) groupIdx_cov groupIdx_lt (by decide) y]
    split
    · rfl
    · exact h.2.2 y (by omega)

/-- What the rows' loop holds before trip `k`: the rows before chunk `k` done. -/
def rowsP (k : ℕ) : sProp 𝕄 := iprop(∃ f9 f10 f12, ⌜DoneTo c arg1 arg2 arg3 arg9 arg10 X1 X2 X3 k f9 f10 f12⌝ ∗ rowsAt c arg1 arg2 arg3 arg9 arg10 aM X1 X2 X3 f9 f10 f12)

set_option warn.classDefReducibility false in
/-- The rows: before trip `k` the rows before chunk `k` are done. -/
def loopRows :
    LoopInvTy_k0_t2 (F := F) Unit ℕ (UU nD τ) ℕ 𝒱₀ c none Set.univ i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 where
  inv k _ := rowsP c arg1 arg2 arg3 arg9 arg10 X1 X2 X3 k
  step k _ := by
    unfold rowsP
    iintro ⟨%f9, %f10, %f12, %hf, H⟩
    iapply (wp_wand_r Idealize.ShloMosaic.frame (wpE (defs₀ (F := F)) 𝒱₀ (c : Thread nD τ) none) Set.univ)
    isplitl [H]
    · iapply ((rowsRun c i arg1 harg1 arg2 harg2 arg3 harg3 arg4 harg4 arg6 harg6 arg7 harg7 arg8 harg8 arg9 harg9 arg10 harg10 aM (Memref.isWhole_whole _) X1 X2 X3 k).2.2.2 f9 f10 f12); iexact H
    · iintro %_ H'
      iexists _; iexists _; iexists _
      isplitr
      · ipureintro
        exact done_step c arg1 arg2 arg3 arg9 arg10 X1 X2 X3 k
          (rowsRun_codes c i arg1 harg1 arg2 harg2 arg3 harg3 arg4 harg4 arg6 harg6 arg7 harg7 arg8 harg8 arg9 harg9 arg10 harg10 aM (Memref.isWhole_whole _) X1 X2 X3 k)
          (rowsRun_scale c i arg1 harg1 arg2 harg2 arg3 harg3 arg4 harg4 arg6 harg6 arg7 harg7 arg8 harg8 arg9 harg9 arg10 harg10 aM (Memref.isWhole_whole _) X1 X2 X3 k)
          (rowsRun_act c i arg1 harg1 arg2 harg2 arg3 harg3 arg4 harg4 arg6 harg6 arg7 harg7 arg8 harg8 arg9 harg9 arg10 harg10 aM (Memref.isWhole_whole _) X1 X2 X3 k) f9 f10 f12 hf
      · iexact H'
end Rows
end Cert.Proof.Kernel
-- ==== Proof.Bits.Panel.lean ====
/-
  The seven column panels of the product: what each store of the output block is, tile by tile.
-/
module

public import proofs.«01_k».proof.Proof.Bits.LoopInv

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

/-- One panel: the product with 512 columns of the weight, the bias added, the gate multiplied in. -/
def panelV (a : FVec F S128x7168 .bf16) (w : FVec F S7168x512 .bf16) (b : FVec F S1x512 .bf16) (g : FVec F S1x1x512 .bf16) : FVec F S128x512 .bf16 :=
  truncf .bf16 (mulf (addf (matmul dot_S128x7168_S7168x512_S128x512_1_0_0_1_n_n none a w (constant S128x512 .f32 0x00000000#32))
      (broadcastTo S128x512 (extf .f32 (shapeCast S1x512 b shapeCasts_S1x512_S1x512) bitsLt_bf16_f32) broadcasts_S1x512_S128x512))
    (broadcastTo S128x512 (extf .f32 (shapeCast S1x512 g shapeCasts_S1x1x512_S1x512) bitsLt_bf16_f32) broadcasts_S1x512_S128x512)) bitsLt_bf16_f32

/-- Panel `n`'s columns of the weight, of the bias, of the gate. -/
def wPart (w : S7168x3584.Idx → F .bf16) (n : Fin 7) : FVec F S7168x512 .bf16 := fun z => w (ix2 (z 0) ⟨512 * n.val + (z 1).val, by have : (z 1).val < 512 := (z 1).isLt; have := n.isLt; omega⟩)
def bPart (b : S1x3584.Idx → F .bf16) (n : Fin 7) : FVec F S1x512 .bf16 := fun z => b (ix2 0 ⟨512 * n.val + (z 1).val, by have : (z 1).val < 512 := (z 1).isLt; have := n.isLt; omega⟩)
def gPart (g : S1x1x3584.Idx → F .bf16) (n : Fin 7) : FVec F S1x1x512 .bf16 := fun z => g (ix3 0 0 ⟨512 * n.val + (z 2).val, by have : (z 2).val < 512 := (z 2).isLt; have := n.isLt; omega⟩)

def panelOf (y : S128x3584.Idx) : Fin 7 := ⟨(y 1).val / 512, by have : (y 1).val < 3584 := (y 1).isLt; omega⟩
def inPanel (y : S128x3584.Idx) : S128x512.Idx := ix2 (y 0) ⟨(y 1).val % 512, Nat.mod_lt _ (by decide)⟩

/-- The output block from the activations, the weight, the bias and the gate. -/
def yB (a : S128x7168.Idx → F .bf16) (w : S7168x3584.Idx → F .bf16) (b : S1x3584.Idx → F .bf16) (g : S1x1x3584.Idx → F .bf16) (y : S128x3584.Idx) : F .bf16 :=
  panelV a (wPart w (panelOf y)) (bPart b (panelOf y)) (gPart g (panelOf y)) (inPanel y)

section Panel
variable (c : Dev nD) (arg4 : Memref sig .tc .vmem S1x1x3584 .bf16) (arg7 : Memref sig .tc .vmem S1x3584 .bf16)
  (f12 : Buf (Elt F) (aM.view.loc (c : Thread nD τ))) (fw : Buf (Elt F) (wbM.view.loc (c : Thread nD τ)))
  (X4 : Buf (Elt F) (arg4.view.loc (c : Thread nD τ))) (X7 : Buf (Elt F) (arg7.view.loc (c : Thread nD τ)))

theorem read_act (inb : ∀ a, (![0, 0] : Fin 2 → ℕ) a + S128x7168.size a ≤ S128x7168.size a) :
    View.readAt (Elt F) aM.view (Rect.unit (s := S128x7168) ![0, 0] S128x7168.size inb).toLoadRect f12 = aM.view.read (Elt F) f12 := by
  funext z
  show aM.view.read (Elt F) f12 _ = aM.view.read (Elt F) f12 _
  congr 1; funext a; refine Fin.ext ?_
  fin_cases a
  · show 0 + 1 * (z 0).val = (z 0).val; omega
  · show 0 + 1 * (z 1).val = (z 1).val; omega
theorem read_wPart (n : Fin 7) (inb : ∀ a, (![0, 512 * n.val] : Fin 2 → ℕ) a + S7168x512.size a ≤ S7168x3584.size a) :
    View.readAt (Elt F) wbM.view (Rect.unit (s := S7168x3584) ![0, 512 * n.val] S7168x512.size inb).toLoadRect fw = wPart (wbM.view.read (Elt F) fw) n := by
  funext z
  show wbM.view.read (Elt F) fw _ = wbM.view.read (Elt F) fw _
  congr 1; funext a; refine Fin.ext ?_
  fin_cases a
  · show 0 + 1 * (z 0).val = (z 0).val; omega
  · show 512 * n.val + 1 * (z 1).val = 512 * n.val + (z 1).val; omega
theorem read_bPart (n : Fin 7) (inb : ∀ a, (![0, 512 * n.val] : Fin 2 → ℕ) a + S1x512.size a ≤ S1x3584.size a) :
    View.readAt (Elt F) arg7.view (Rect.unit (s := S1x3584) ![0, 512 * n.val] S1x512.size inb).toLoadRect X7 = bPart (arg7.view.read (Elt F) X7) n := by
  funext z
  show arg7.view.read (Elt F) X7 _ = arg7.view.read (Elt F) X7 _
  have h0 : (z 0).val < 1 := (z 0).isLt
  congr 1; funext a; refine Fin.ext ?_
  fin_cases a
  · show 0 + 1 * (z 0).val = 0; omega
  · show 512 * n.val + 1 * (z 1).val = 512 * n.val + (z 1).val; omega
theorem read_gPart (n : Fin 7) (inb : ∀ a, (![0, 0, 512 * n.val] : Fin 3 → ℕ) a + S1x1x512.size a ≤ S1x1x3584.size a) :
    View.readAt (Elt F) arg4.view (Rect.unit (s := S1x1x3584) ![0, 0, 512 * n.val] S1x1x512.size inb).toLoadRect X4 = gPart (arg4.view.read (Elt F) X4) n := by
  funext z
  show arg4.view.read (Elt F) X4 _ = arg4.view.read (Elt F) X4 _
  have h0 : (z 0).val < 1 := (z 0).isLt
  have h1 : (z 1).val < 1 := (z 1).isLt
  congr 1; funext a; refine Fin.ext ?_
  fin_cases a
  · show 0 + 1 * (z 0).val = 0; omega
  · show 0 + 1 * (z 1).val = 0; omega
  · show 512 * n.val + 1 * (z 2).val = 512 * n.val + (z 2).val; omega

/-- Panel `n`'s store is a tile of the output block. -/
def PanelTile (n : Fin 7) (p : View.Piece (Elt F) S128x3584 .bf16) : Prop :=
  IsTile (yB (aM.view.read (Elt F) f12) (wbM.view.read (Elt F) fw) (arg7.view.read (Elt F) X7) (arg4.view.read (Elt F) X4)) 0 128 512 p (0, n.val)

theorem panel_at (n : Fin 7) (inb : ∀ a, (![0, 512 * n.val] : Fin 2 → ℕ) a + S128x512.size a ≤ S128x3584.size a)
    (inba : ∀ a, (![0, 0] : Fin 2 → ℕ) a + S128x7168.size a ≤ S128x7168.size a)
    (inbw : ∀ a, (![0, 512 * n.val] : Fin 2 → ℕ) a + S7168x512.size a ≤ S7168x3584.size a)
    (inbb : ∀ a, (![0, 512 * n.val] : Fin 2 → ℕ) a + S1x512.size a ≤ S1x3584.size a)
    (inbg : ∀ a, (![0, 0, 512 * n.val] : Fin 3 → ℕ) a + S1x1x512.size a ≤ S1x1x3584.size a) :
    PanelTile c arg4 arg7 f12 fw X4 X7 n ⟨Rect.unit (s := S128x3584) ![0, 512 * n.val] S128x512.size inb,
      panelV (View.readAt (Elt F) aM.view (Rect.unit (s := S128x7168) ![0, 0] S128x7168.size inba).toLoadRect f12)
        (View.readAt (Elt F) wbM.view (Rect.unit (s := S7168x3584) ![0, 512 * n.val] S7168x512.size inbw).toLoadRect fw)
        (View.readAt (Elt F) arg7.view (Rect.unit (s := S1x3584) ![0, 512 * n.val] S1x512.size inbb).toLoadRect X7)
        (View.readAt (Elt F) arg4.view (Rect.unit (s := S1x1x3584) ![0, 0, 512 * n.val] S1x1x512.size inbg).toLoadRect X4)⟩ := by
  rw [read_act, read_wPart, read_bPart, read_gPart]
  refine IsTile.unit (q := (0, n.val)) rfl fun x => ?_
  have h0 : (x 0).val < 128 := (x 0).isLt
  have h1 : (x 1).val < 512 := (x 1).isLt
  have e0 : ((Rect.unit (s := S128x3584) ![0, 512 * n.val] S128x512.size inb).emb x 0).val = (x 0).val := by
    rw [Rect.emb_apply]; show 0 + 1 * (x 0).val = _; omega
  have e1 : ((Rect.unit (s := S128x3584) ![0, 512 * n.val] S128x512.size inb).emb x 1).val = 512 * n.val + (x 1).val := by
    rw [Rect.emb_apply]; show 512 * n.val + 1 * (x 1).val = _; omega
  have a1 : panelOf ((Rect.unit (s := S128x3584) ![0, 512 * n.val] S128x512.size inb).emb x) = n := by
    refine Fin.ext ?_; show _ / 512 = n.val; rw [e1]; omega
  have a2 : inPanel ((Rect.unit (s := S128x3584) ![0, 512 * n.val] S128x512.size inb).emb x) = x := by
    funext a; refine Fin.ext ?_
    fin_cases a
    · show _ = (x 0).val; exact e0
    · show _ % 512 = (x 1).val; rw [e1]; omega
  unfold yB
  rw [a1, a2]

theorem inb_a : ∀ a, (![0, 0] : Fin 2 → ℕ) a + S128x7168.size a ≤ S128x7168.size a := by decide
theorem inb_o (n : Fin 7) : ∀ a, (![0, 512 * n.val] : Fin 2 → ℕ) a + S128x512.size a ≤ S128x3584.size a := by
  have := n.isLt; intro a; fin_cases a
  · show 0 + 128 ≤ 128; omega
  · show 512 * n.val + 512 ≤ 3584; omega
theorem inb_w (n : Fin 7) : ∀ a, (![0, 512 * n.val] : Fin 2 → ℕ) a + S7168x512.size a ≤ S7168x3584.size a := by
  have := n.isLt; intro a; fin_cases a
  · show 0 + 7168 ≤ 7168; omega
  · show 512 * n.val + 512 ≤ 3584; omega
theorem inb_b (n : Fin 7) : ∀ a, (![0, 512 * n.val] : Fin 2 → ℕ) a + S1x512.size a ≤ S1x3584.size a := by
  have := n.isLt; intro a; fin_cases a
  · show 0 + 1 ≤ 1; omega
  · show 512 * n.val + 512 ≤ 3584; omega
theorem inb_g (n : Fin 7) : ∀ a, (![0, 0, 512 * n.val] : Fin 3 → ℕ) a + S1x1x512.size a ≤ S1x1x3584.size a := by
  have := n.isLt; intro a; fin_cases a
  · show 0 + 1 ≤ 1; omega
  · show 0 + 1 ≤ 1; omega
  · show 512 * n.val + 512 ≤ 3584; omega
end Panel

/-- The panels in the order a run lists their stores: the last first. -/
def panelIdx : List (Fin 7) := [6, 5, 4, 3, 2, 1, 0]
theorem panelIdx_cov : ∀ h < 1, ∀ n < 7, (h, n) ∈ panelIdx.map (fun g => ((0 : ℕ), g.val)) := by decide
theorem panelIdx_lt : ∀ q ∈ panelIdx.map (fun g => ((0 : ℕ), g.val)), q.1 < 1 := by decide

end Cert.Proof.Kernel
-- ==== Proof.Bits.Body.lean ====
/-
  The kernel body at one grid point, at the first point (the weight ring runs) and at a later one (the carried weight is there).
-/
module

public import proofs.«01_k».proof.Proof.Bits.Panel

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

theorem rows_trips : k0_t2_loop.trips = 4 := by decide +kernel

section Body
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (X1 : Buf (Elt F) (arg1.view.loc (c : Thread nD τ))) (X2 : Buf (Elt F) (arg2.view.loc (c : Thread nD τ))) (X3 : Buf (Elt F) (arg3.view.loc (c : Thread nD τ)))
  (X4 : Buf (Elt F) (arg4.view.loc (c : Thread nD τ))) (X6 : Buf (Elt F) (arg6.view.loc (c : Thread nD τ))) (X7 : Buf (Elt F) (arg7.view.loc (c : Thread nD τ)))

abbrev bodyG : Prog (TpuEff nD τ sig (Elt F) Λ₀ .tc) PUnit :=
  cc0__body (F := F) i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3

/-- The output block's buffer holds the product with the carried weight `w`. -/
def outP (w : S7168x3584.Idx → F .bf16) : sProp 𝕄 :=
  iprop(∃ f, ⌜arg8.view.read (Elt F) f = yB (actB (arg1.view.read (Elt F) X1) (arg2.view.read (Elt F) X2) (arg3.view.read (Elt F) X3)) w (arg7.view.read (Elt F) X7) (arg4.view.read (Elt F) X4)⌝ ∗ (arg8.view.loc (c : Thread nD τ) ↦[arg8.view.set]{fullShare} f))

/-- The seven stores leave the product, the activations being done. -/
theorem panels_read (f8 : Buf (Elt F) (arg8.view.loc (c : Thread nD τ))) (f9 f10 f12) (fw : Buf (Elt F) (wbM.view.loc (c : Thread nD τ)))
    (hd : DoneTo c arg1 arg2 arg3 arg9 arg10 X1 X2 X3 4 f9 f10 f12) {L : List (View.Piece (Elt F) S128x3584 .bf16)}
    (hL : List.Forall₂ (fun p n => PanelTile c arg4 arg7 f12 fw X4 X7 n p) L panelIdx) :
    arg8.view.read (Elt F) (arg8.view.writes (Elt F) f8 L)
      = yB (actB (arg1.view.read (Elt F) X1) (arg2.view.read (Elt F) X2) (arg3.view.read (Elt F) X3)) (wbM.view.read (Elt F) fw) (arg7.view.read (Elt F) X7) (arg4.view.read (Elt F) X4) := by
  have ha : aM.view.read (Elt F) f12 = actB (arg1.view.read (Elt F) X1) (arg2.view.read (Elt F) X2) (arg3.view.read (Elt F) X3) :=
    funext fun y => hd.2.2 y (by have : (y 0).val < 128 := (y 0).isLt; omega)
  rw [← ha]
  funext y
  rw [read_of_tiles arg8.view f8 _ (List.forall₂_map_right_iff.mpr hL) panelIdx_cov panelIdx_lt (by decide) y]
  have : (y 0).val < 128 := (y 0).isLt
  rw [if_pos (by omega)]

theorem bodyLater (hc : ¬ k0_cond1 i = 1#1) (f8) (fw) :
    iprop(rowsP c arg1 arg2 arg3 arg9 arg10 X1 X2 X3 0 ∗ (arg4.view.loc (c : Thread nD τ) ↦[arg4.view.set]{fullShare} X4) ∗ (arg7.view.loc (c : Thread nD τ) ↦[arg7.view.set]{fullShare} X7)
        ∗ (arg8.view.loc (c : Thread nD τ) ↦[arg8.view.set]{fullShare} f8) ∗ wbP c fw)
      ⊢ wp frame (wpE (defs₀ (F := F)) 𝒱₀ (c : Thread nD τ) none) Set.univ (bodyG i arg1 harg1 arg2 harg2 arg3 harg3 arg4 harg4 arg6 harg6 arg7 harg7 arg8 harg8 arg9 harg9 arg10 harg10)
        (fun _ => iprop(rowsP c arg1 arg2 arg3 arg9 arg10 X1 X2 X3 4 ∗ (arg4.view.loc (c : Thread nD τ) ↦[arg4.view.set]{fullShare} X4) ∗ (arg7.view.loc (c : Thread nD τ) ↦[arg7.view.set]{fullShare} X7)
          ∗ outP c arg1 arg2 arg3 arg4 arg7 arg8 X1 X2 X3 X4 X7 (wbM.view.read (Elt F) fw) ∗ wbP c fw)) := by
  iintro ⟨HR, H4, H7, H8, HW⟩
  dsimp only [bodyG]
  sl_unfold [cc0__body]
  sl_exec
  iapply (exec_loop Idealize.ShloMosaic.frame (wpE (defs₀ (F := F)) 𝒱₀ (c : Thread nD τ) none) Set.univ k0_t2_loop.lb k0_t2_loop.ub k0_t2_loop.st k0_t2_ok PUnit.unit _ (loopRows c i arg1 harg1 arg2 harg2 arg3 harg3 arg4 harg4 arg6 harg6 arg7 harg7 arg8 harg8 arg9 harg9 arg10 harg10 X1 X2 X3)) $$ [HR]
  · unfold loopRows; dsimp only; iexact HR
  iintro %_ HR
  unfold loopRows
  dsimp only
  rw [show Scf.trips k0_t2_loop.lb k0_t2_loop.ub k0_t2_loop.st = 4 from rows_trips]
  unfold rowsP
  icases HR with ⟨%f9, %f10, %f12, %hf, HR⟩
  unfold rowsAt
  icases HR with ⟨HR1, HR2, HR3, HR9, HR10, HR12⟩
  sl_exec
  sl_step
  isplitl [HR1 HR2 HR3 HR9 HR10 HR12]
  · iexists f9; iexists f10; iexists f12
    isplitr; · ipureintro; exact hf
    isplitl [HR1]; · iexact HR1
    isplitl [HR2]; · iexact HR2
    isplitl [HR3]; · iexact HR3
    isplitl [HR9]; · iexact HR9
    isplitl [HR10]; · iexact HR10
    iexact HR12
  isplitl [H4]; · iexact H4
  isplitl [H7]; · iexact H7
  isplitl [H8]
  · unfold outP
    iexists _
    isplitr
    rotate_left
    · iexact H8
    ipureintro
    refine panels_read c arg1 arg2 arg3 arg4 arg7 arg8 arg9 arg10 X1 X2 X3 X4 X7 f8 f9 f10 f12 fw hf ?_
    refine .cons (panel_at c arg4 arg7 f12 fw X4 X7 6 (inb_o 6) inb_a (inb_w 6) (inb_b 6) (inb_g 6)) ?_
    refine .cons (panel_at c arg4 arg7 f12 fw X4 X7 5 (inb_o 5) inb_a (inb_w 5) (inb_b 5) (inb_g 5)) ?_
    refine .cons (panel_at c arg4 arg7 f12 fw X4 X7 4 (inb_o 4) inb_a (inb_w 4) (inb_b 4) (inb_g 4)) ?_
    refine .cons (panel_at c arg4 arg7 f12 fw X4 X7 3 (inb_o 3) inb_a (inb_w 3) (inb_b 3) (inb_g 3)) ?_
    refine .cons (panel_at c arg4 arg7 f12 fw X4 X7 2 (inb_o 2) inb_a (inb_w 2) (inb_b 2) (inb_g 2)) ?_
    refine .cons (panel_at c arg4 arg7 f12 fw X4 X7 1 (inb_o 1) inb_a (inb_w 1) (inb_b 1) (inb_g 1)) ?_
    exact .cons (panel_at c arg4 arg7 f12 fw X4 X7 0 (inb_o 0) inb_a (inb_w 0) (inb_b 0) (inb_g 0)) .nil
  iexact HW

/-- Before the first trip: block 0 in flight into slot 0, slot 1 free. -/
theorem ring_zero (XW : Buf (Elt F) (wM.view.loc (c : Thread nD τ))) (f0) : iprop(flightP c XW 0 0 f0 ∗ (∃ f, slotP c 1 f) ∗ cellP c 1) ⊢ (ringAt c XW 0 : sProp 𝕄) := by
  rw [ringAt_lt c XW (by decide : 0 < 28)]
  iintro ⟨H0, H1, H2⟩
  isplitl [H0]; · iexists f0; iexact H0
  isplitl [H1]; · iexact H1
  iexact H2
/-- After the last: both slots free. -/
theorem ring_end (XW : Buf (Elt F) (wM.view.loc (c : Thread nD τ))) : (ringAt c XW 28 : sProp 𝕄) ⊢ iprop((∃ f, slotP c 0 f) ∗ cellP c 0 ∗ (∃ f, slotP c 1 f) ∗ cellP c 1) := by
  rw [ringAt_ge c XW (by decide : ¬ 28 < 28)]
  exact .rfl
theorem homes_zero (XW : Buf (Elt F) (wM.view.loc (c : Thread nD τ))) :
    bigSep Finset.univ (homeP c XW) = iprop(homeP c XW 0 ∗ bigSep (Ring.homeSet 1 0) (homeP c XW)) := by
  have e : (Finset.univ : Finset (Fin 28)) = insert 0 (Ring.homeSet (NB := 28) 1 0) := by
    ext b; simp only [Finset.mem_univ, Finset.mem_insert, Ring.mem_homeSet, true_iff, Fin.ext_iff]; have := b.isLt; omega
  rw [e, bigSep_insert (by simp [Ring.mem_homeSet])]; rfl
theorem homes_end (XW : Buf (Elt F) (wM.view.loc (c : Thread nD τ))) :
    bigSep (Ring.homeSet 1 28) (homeP c XW) = bigSep Finset.univ (homeP c XW) := by
  have e : (Ring.homeSet (NB := 28) 1 28) = (Finset.univ : Finset (Fin 28)) := by
    ext b; simp only [Finset.mem_univ, Ring.mem_homeSet, iff_true]; have := b.isLt; omega
  rw [e]

theorem bodyFirst (hc : k0_cond1 i = 1#1) (XW : Buf (Elt F) (wM.view.loc (c : Thread nD τ))) (f8) (f0) (f1) (fw) (W) :
    iprop(rowsP c arg1 arg2 arg3 arg9 arg10 X1 X2 X3 0 ∗ (arg4.view.loc (c : Thread nD τ) ↦[arg4.view.set]{fullShare} X4) ∗ (arg7.view.loc (c : Thread nD τ) ↦[arg7.view.set]{fullShare} X7)
        ∗ (arg8.view.loc (c : Thread nD τ) ↦[arg8.view.set]{fullShare} f8) ∗ wbP c fw ∗ wsP c arg6 X6 ∗ owes (c : Thread nD τ) 0 W
        ∗ bigSep Finset.univ (homeP c XW) ∗ slotP c 0 f0 ∗ cellP c 0 ∗ slotP c 1 f1 ∗ cellP c 1)
      ⊢ wp frame (wpE (defs₀ (F := F)) 𝒱₀ (c : Thread nD τ) none) Set.univ (bodyG i arg1 harg1 arg2 harg2 arg3 harg3 arg4 harg4 arg6 harg6 arg7 harg7 arg8 harg8 arg9 harg9 arg10 harg10)
        (fun _ => iprop(rowsP c arg1 arg2 arg3 arg9 arg10 X1 X2 X3 4 ∗ (arg4.view.loc (c : Thread nD τ) ↦[arg4.view.set]{fullShare} X4) ∗ (arg7.view.loc (c : Thread nD τ) ↦[arg7.view.set]{fullShare} X7)
          ∗ outP c arg1 arg2 arg3 arg4 arg7 arg8 X1 X2 X3 X4 X7 (Wd c XW arg6 X6) ∗ (∃ fw', ⌜wbM.view.read (Elt F) fw' = Wd c XW arg6 X6⌝ ∗ wbP c fw') ∗ wsP c arg6 X6 ∗ (∃ W', owes (c : Thread nD τ) 0 W')
          ∗ bigSep Finset.univ (homeP c XW) ∗ (∃ f, slotP c 0 f) ∗ cellP c 0 ∗ (∃ f, slotP c 1 f) ∗ cellP c 1)) := by
  rw [homes_zero]
  iintro ⟨HR, H4, H7, H8, HW, Hws, HO, ⟨Hh0, Hh⟩, Hs0, Hc0, Hs1, Hc1⟩
  dsimp only [bodyG]
  sl_unfold [cc0__body]
  sl_exec
  iapply (exec_loop Idealize.ShloMosaic.frame (wpE (defs₀ (F := F)) 𝒱₀ (c : Thread nD τ) none) Set.univ k0_t1_loop.lb k0_t1_loop.ub k0_t1_loop.st (k0_t1_ok i hc) PUnit.unit _ (loopRing c XW i arg1 harg1 arg2 harg2 arg3 harg3 arg4 harg4 arg6 harg6 arg7 harg7 arg8 harg8 arg9 harg9 arg10 harg10 hc X6)) $$ [HW Hws HO Hh Hs1 Hc1 Hc0]
  · unfold loopRing; dsimp only
    isplitl [HW]
    · unfold wdP
      iexists fw
      isplitr; · ipureintro; exact fun y hy => absurd hy (by omega)
      iexact HW
    isplitl [Hws]; · iexact Hws
    isplitl [HO]; · iexists _; iexact HO
    isplitl [Hh]; · iexact Hh
    iapply (ring_zero c XW f0)
    isplitl [Hc0]; · iexact Hc0
    isplitl [Hs1]; · iexists f1; iexact Hs1
    iexact Hc1
  iintro %_ HG
  unfold loopRing
  dsimp only
  rw [show Scf.trips k0_t1_loop.lb k0_t1_loop.ub k0_t1_loop.st = 28 from trips1]
  icases HG with ⟨HW, Hws, HO, Hh, HG⟩
  unfold wdP
  icases HW with ⟨%fw', %hw', HW⟩
  have hwd : wbM.view.read (Elt F) fw' = Wd c XW arg6 X6 := funext fun y => hw' y (by have : (y 0).val < 7168 := (y 0).isLt; omega)
  ihave HG' := (ring_end c XW) $$ HG
  icases HG' with ⟨Hs0, Hc0, Hs1, Hc1⟩
  iapply (exec_loop Idealize.ShloMosaic.frame (wpE (defs₀ (F := F)) 𝒱₀ (c : Thread nD τ) none) Set.univ k0_t2_loop.lb k0_t2_loop.ub k0_t2_loop.st k0_t2_ok PUnit.unit _ (loopRows c i arg1 harg1 arg2 harg2 arg3 harg3 arg4 harg4 arg6 harg6 arg7 harg7 arg8 harg8 arg9 harg9 arg10 harg10 X1 X2 X3)) $$ [HR]
  · unfold loopRows; dsimp only; iexact HR
  iintro %_ HR
  unfold loopRows
  dsimp only
  rw [show Scf.trips k0_t2_loop.lb k0_t2_loop.ub k0_t2_loop.st = 4 from rows_trips]
  unfold rowsP
  icases HR with ⟨%f9, %f10, %f12, %hf, HR⟩
  unfold rowsAt
  icases HR with ⟨HR1, HR2, HR3, HR9, HR10, HR12⟩
  sl_exec
  sl_step
  isplitl [HR1 HR2 HR3 HR9 HR10 HR12]
  · iexists f9; iexists f10; iexists f12
    isplitr; · ipureintro; exact hf
    isplitl [HR1]; · iexact HR1
    isplitl [HR2]; · iexact HR2
    isplitl [HR3]; · iexact HR3
    isplitl [HR9]; · iexact HR9
    isplitl [HR10]; · iexact HR10
    iexact HR12
  isplitl [H4]; · iexact H4
  isplitl [H7]; · iexact H7
  isplitl [H8]
  · unfold outP
    iexists _
    isplitr
    rotate_left
    · iexact H8
    ipureintro
    rw [← hwd]
    refine panels_read c arg1 arg2 arg3 arg4 arg7 arg8 arg9 arg10 X1 X2 X3 X4 X7 f8 f9 f10 f12 fw' hf ?_
    refine .cons (panel_at c arg4 arg7 f12 fw' X4 X7 6 (inb_o 6) inb_a (inb_w 6) (inb_b 6) (inb_g 6)) ?_
    refine .cons (panel_at c arg4 arg7 f12 fw' X4 X7 5 (inb_o 5) inb_a (inb_w 5) (inb_b 5) (inb_g 5)) ?_
    refine .cons (panel_at c arg4 arg7 f12 fw' X4 X7 4 (inb_o 4) inb_a (inb_w 4) (inb_b 4) (inb_g 4)) ?_
    refine .cons (panel_at c arg4 arg7 f12 fw' X4 X7 3 (inb_o 3) inb_a (inb_w 3) (inb_b 3) (inb_g 3)) ?_
    refine .cons (panel_at c arg4 arg7 f12 fw' X4 X7 2 (inb_o 2) inb_a (inb_w 2) (inb_b 2) (inb_g 2)) ?_
    refine .cons (panel_at c arg4 arg7 f12 fw' X4 X7 1 (inb_o 1) inb_a (inb_w 1) (inb_b 1) (inb_g 1)) ?_
    exact .cons (panel_at c arg4 arg7 f12 fw' X4 X7 0 (inb_o 0) inb_a (inb_w 0) (inb_b 0) (inb_g 0)) .nil
  isplitl [HW]
  · iexists fw'
    isplitr; · ipureintro; exact hwd
    iexact HW
  isplitl [Hws]; · iexact Hws
  isplitl [HO]; · iexact HO
  isplitl [Hh]
  · iapply (entails_of_eq ((homes_end c XW).trans (homes_zero c XW)))
    iexact Hh
  isplitl [Hs0]; · iexact Hs0
  isplitl [Hc0]; · iexact Hc0
  isplitl [Hs1]; · iexact Hs1
  iexact Hc1
end Body
end Cert.Proof.Kernel
-- ==== Proof.Bits.Dats.lean ====
/-
  The run of the whole kernel: the carried buffers between points, the body at every point, the launch.
-/
module

public import proofs.«01_k».proof.Proof.Bits.Body

@[expose] public section

set_option maxRecDepth 16384
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx (ix2 ix3)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The two slots and the weight's blocks -/

abbrev osem : Fin 2 → SemLoc sig := fun s => .dma (csm s).sem
theorem ownSemFacts : Pipeline.OwnSemFacts spec0 osem := by decide

abbrev B28 (b : Fin 28) : Finset S7168x3584.Idx := (Rect.unit (s := S7168x3584) (blkOff b) S256x3584.size (blkOff_inb b)).set
abbrev T2 (s : Fin 2) : Finset S2x256x3584.Idx := (Rect.unit (s := S2x256x3584) (slotOff s) S1x256x3584.size (slotOff_inb s)).set

theorem blk_set (b : Fin 28) : (blk b).view.set = B28 b := View.set_slice_whole _ _
theorem rslot_set (s : Fin 2) : (rslot s).view.set = T2 s := (View.set_reshape _ _).trans (View.set_slice_whole _ _)

theorem mem_B28 (b : Fin 28) (y : S7168x3584.Idx) : y ∈ B28 b ↔ (y 0).val / 256 = b.val := by
  rw [Rect.mem_set_unit]
  have h1 : (y 1).val < 3584 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 3584; omega
theorem mem_T2 (s : Fin 2) (y : S2x256x3584.Idx) : y ∈ T2 s ↔ (y 0).val = s.val := by
  rw [Rect.mem_set_unit]
  have h1 : (y 1).val < 256 := (y 1).isLt
  have h2 : (y 2).val < 3584 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 3584; omega
theorem B28_disjoint : ∀ b b' : Fin 28, b ≠ b' → Disjoint (B28 b) (B28 b') := by
  intro b b' hne; rw [Finset.disjoint_left]; intro y hy hy'; rw [mem_B28] at hy hy'; exact hne (Fin.ext (hy.symm.trans hy'))
theorem B28_cover : (Finset.univ : Finset (Fin 28)).biUnion B28 = Finset.univ := by
  ext y; simp only [Finset.mem_biUnion, Finset.mem_univ, true_and, iff_true]
  exact ⟨⟨(y 0).val / 256, by have : (y 0).val < 7168 := (y 0).isLt; omega⟩, by rw [mem_B28]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨⟨(y 0).val, (y 0).isLt⟩, by rw [mem_T2]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weight whole is its 28 blocks at home. -/
theorem w_eq (c : Dev nD) (X : Buf (Elt F) ((c : Thread nD τ).loc main_arg4)) :
    (((c : Thread nD τ).loc main_arg4) ↦{fullShare} X : sProp 𝕄) = bigSep Finset.univ (homeP c X) := by
  rw [Ring.pointsTo_blocks (ℓ := (c : Thread nD τ).loc main_arg4) B28 B28_disjoint B28_cover]
  exact bigSep_congr fun b _ => by rw [← blk_set]; rfl

theorem slotP_eq (c : Dev nD) (s : Fin 2) (f) : slotP c s f = (((c : Thread nD τ).loc cc0_scratch2) ↦[T2 s]{fullShare} f : sProp 𝕄) :=
  congrArg (fun S => (_ ↦[S]{fullShare} f : sProp 𝕄)) (rslot_set s)
/-- The staging buffer whole is its two slots, and back. -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) T2 T2_disjoint T2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) T2 T2_disjoint T2_cover f0)
  irw [bigSep_fin2]
  isplitl [H0]
  · iexists f0; iapply (entails_of_eq (slotP_eq c 0 f0)); iexact H0
  · iexists f1; iapply (entails_of_eq (slotP_eq c 1 f1)); iexact H1
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]
theorem wb_set : (Memref.whole cc0_scratch0 : Memref sig .tc .vmem S7168x3584 .bf16).view.set = Finset.univ := View.set_whole _
theorem wb_eq (c : Dev nD) (f : Buf (Elt F) ((c : Thread nD τ).loc cc0_scratch0)) : (((c : Thread nD τ).loc cc0_scratch0) ↦{fullShare} f : sProp 𝕄) = wbP c f := by
  unfold wbP; rw [wb_set]
def aP (c : Dev nD) (f : Buf (Elt F) (aM.view.loc (c : Thread nD τ))) : sProp 𝕄 := aM.view.loc (c : Thread nD τ) ↦[aM.view.set]{fullShare} f
theorem a_set : (Memref.whole cc0_scratch1 : Memref sig .tc .vmem S128x7168 .bf16).view.set = Finset.univ := View.set_whole _
theorem a_eq (c : Dev nD) (f : Buf (Elt F) ((c : Thread nD τ).loc cc0_scratch1)) : (((c : Thread nD τ).loc cc0_scratch1) ↦{fullShare} f : sProp 𝕄) = aP c f := by
  unfold aP; rw [a_set]

/-! ## The values -/

/-- The scaled weight from the quantised weight and the block scales. -/
def scaledW (w : S7168x3584.Idx → F .fp8e4m3) (s : S56x28.Idx → F .f32) (y : S7168x3584.Idx) : F .bf16 :=
  FloatOps.mulf (FloatOps.extf .bf16 (by decide) (w y) : F .bf16)
    (FloatOps.truncf .bf16 (by decide) (s (ix2 ⟨(y 0).val / 128, by have := (y 0).isLt; show _ < 56; change (y 0).val < 7168 at this; omega⟩
      ⟨(y 1).val / 128, by have := (y 1).isLt; show _ < 28; change (y 1).val < 3584 at this; omega⟩)))

abbrev x1 (c : Dev nD) (t : Fin cfg0.N) : S128x7168.Idx → F .bf16 := iblk m c 0 t
abbrev x2 (c : Dev nD) (t : Fin cfg0.N) : S1x1x7168.Idx → F .bf16 := iblk m c 1 t
abbrev x3 (c : Dev nD) (t : Fin cfg0.N) : S1x1x7168.Idx → F .bf16 := iblk m c 2 t
abbrev x4 (c : Dev nD) (t : Fin cfg0.N) : S1x1x3584.Idx → F .bf16 := iblk m c 3 t
abbrev x7 (c : Dev nD) (t : Fin cfg0.N) : S1x3584.Idx → F .bf16 := iblk m c 5 t
/-- The carried weight. -/
abbrev wf (c : Dev nD) : S7168x3584.Idx → F .bf16 := scaledW (V m c main_arg4) (V m c main_arg5)

/-- The block scales are one block: every point reads them whole. -/
theorem ws_block (c : Dev nD) (t : Fin cfg0.N) : iblk m c 4 t = (V m c main_arg5 : S56x28.Idx → F .f32) := by
  funext j
  unfold iblk
  show V m c main_arg5 _ = V m c main_arg5 _
  congr 1
  funext a; refine Fin.ext ?_
  fin_cases a
  · show 0 * 56 + 1 * (j 0).val = (j 0).val; omega
  · show 0 * 28 + 1 * (j 1).val = (j 1).val; omega

def yAt (c : Dev nD) (t : Fin cfg0.N) : S128x3584.Idx → F .bf16 := yB (actB (x1 m c t) (x2 m c t) (x3 m c t)) (wf m c) (x7 m c t) (x4 m c t)
def codesAt (c : Dev nD) (t : Fin cfg0.N) : S128x7168.Idx → F .fp8e4m3 := codesB (x1 m c t) (x2 m c t) (x3 m c t)
def scalesAt (c : Dev nD) (t : Fin cfg0.N) : S128x56.Idx → F .f32 := scaleB (x1 m c t) (x2 m c t) (x3 m c t)

/-! ## The proof data -/

/-- Between points: the carried weight scaled (after the first point), the other scratch at anything, both cells at
    zero, the quantised weight at home. -/
def Φ (c : Dev nD) (n : ℕ) : sProp 𝕄 :=
  iprop((∃ f, ⌜n ≠ 0 → wbM.view.read (Elt F) f = wf m c⌝ ∗ wbP c f) ∗ (∃ f, aP c f) ∗ (∃ f, slotP c 0 f) ∗ cellP c 0 ∗ (∃ f, slotP c 1 f) ∗ cellP c 1
    ∗ bigSep Finset.univ (homeP c (V m c main_arg4)) ∗ (∃ r, prngReg c r))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => codesAt m c t
    | ⟨8, _⟩ => scalesAt m c t
  Φ t := Φ m c t.val
  q _ := fullShare
  owed _ := 0

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = yAt m c t := by dsimp only [dats]
theorem after7 (c : Dev nD) (t : Fin cfg0.N) : (dats m 0 c).after 7 t = codesAt m c t := by dsimp only [dats]
theorem after8 (c : Dev nD) (t : Fin cfg0.N) : (dats m 0 c).after 8 t = scalesAt m c t := by dsimp only [dats]

theorem cond1_iff : ∀ t : Fin grid0.N, k0_cond1 (grid0.coords t) = 1#1 ↔ t.val = 0 := by decide +kernel

end Cert.Proof.Kernel
-- ==== Proof.Bits.Launch.lean ====
/-
  The body at every point and the run of the whole kernel.
-/
module

public import proofs.«01_k».proof.Proof.Bits.Dats

@[expose] public section

set_option maxRecDepth 16384
set_option maxHeartbeats 4000000
set_option sl_exec.skeleton false
set_option maxHeartbeats 4000000
set_option sl_exec.skeleton false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx (ix2 ix3)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev st1 (t : Fin cfg0.N) : Memref sig .tc .vmem S128x7168 .bf16 := win0_0.stage (cfg0.slots t 0)
abbrev st2 (t : Fin cfg0.N) : Memref sig .tc .vmem S1x1x7168 .bf16 := win0_1.stage (cfg0.slots t 1)
abbrev st3 (t : Fin cfg0.N) : Memref sig .tc .vmem S1x1x7168 .bf16 := win0_2.stage (cfg0.slots t 2)
abbrev st4 (t : Fin cfg0.N) : Memref sig .tc .vmem S1x1x3584 .bf16 := win0_3.stage (cfg0.slots t 3)
abbrev st6 (t : Fin cfg0.N) : Memref sig .tc .smem S56x28 .f32 := win0_4.stage (cfg0.slots t 4)
abbrev st7 (t : Fin cfg0.N) : Memref sig .tc .vmem S1x3584 .bf16 := win0_5.stage (cfg0.slots t 5)
abbrev st8 (t : Fin cfg0.N) : Memref sig .tc .vmem S128x3584 .bf16 := win0_6.stage (cfg0.slots t 6)
abbrev st9 (t : Fin cfg0.N) : Memref sig .tc .vmem S128x7168 .fp8e4m3 := win0_7.stage (cfg0.slots t 7)
abbrev st10 (t : Fin cfg0.N) : Memref sig .tc .vmem S128x56 .f32 := win0_8.stage (cfg0.slots t 8)
abbrev h1 (t : Fin cfg0.N) : (st1 t).IsWhole := hstage0_0 ((cfg0.slots t 0).cast nbuf0_0)
abbrev h2 (t : Fin cfg0.N) : (st2 t).IsWhole := hstage0_1 ((cfg0.slots t 1).cast nbuf0_1)
abbrev h3 (t : Fin cfg0.N) : (st3 t).IsWhole := hstage0_2 ((cfg0.slots t 2).cast nbuf0_2)
abbrev h4 (t : Fin cfg0.N) : (st4 t).IsWhole := hstage0_3 ((cfg0.slots t 3).cast nbuf0_3)
abbrev h6 (t : Fin cfg0.N) : (st6 t).IsWhole := hstage0_4 ((cfg0.slots t 4).cast nbuf0_4)
abbrev h7 (t : Fin cfg0.N) : (st7 t).IsWhole := hstage0_5 ((cfg0.slots t 5).cast nbuf0_5)
abbrev h8 (t : Fin cfg0.N) : (st8 t).IsWhole := hstage0_6 ((cfg0.slots t 6).cast nbuf0_6)
abbrev h9 (t : Fin cfg0.N) : (st9 t).IsWhole := hstage0_7 ((cfg0.slots t 7).cast nbuf0_7)
abbrev h10 (t : Fin cfg0.N) : (st10 t).IsWhole := hstage0_8 ((cfg0.slots t 8).cast nbuf0_8)

abbrev bodyT (t : Fin cfg0.N) : Prog (TpuEff nD τ sig (Elt F) Λ₀ .tc) PUnit :=
  bodyG (grid0.coords t) (st1 t) (h1 t) (st2 t) (h2 t) (st3 t) (h3 t) (st4 t) (h4 t) (st6 t) (h6 t) (st7 t) (h7 t) (st8 t) (h8 t) (st9 t) (h9 t) (st10 t) (h10 t)

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4))
      (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7))
      (win0_8.stage (a.2 8)) (hstage0_8 ((a.2 8).cast nbuf0_8)) := rfl
theorem prog_eq (t : Fin cfg0.N) : (defs₀ (F := F)) .tc cfg0.body (cfg0.bodyArgs t (cfg0.slots t)) = bodyT t :=
  (congrFun defs_tc _).trans rfl

/-- The rows' resources before any row. -/
theorem rows_start (c : Dev nD) (t : Fin cfg0.N) (X1 X2 X3 f9 f10 f12) :
    iprop(((st1 t).view.loc (c : Thread nD τ) ↦[(st1 t).view.set]{fullShare} X1) ∗ ((st2 t).view.loc (c : Thread nD τ) ↦[(st2 t).view.set]{fullShare} X2)
      ∗ ((st3 t).view.loc (c : Thread nD τ) ↦[(st3 t).view.set]{fullShare} X3) ∗ ((st9 t).view.loc (c : Thread nD τ) ↦[(st9 t).view.set]{fullShare} f9)
      ∗ ((st10 t).view.loc (c : Thread nD τ) ↦[(st10 t).view.set]{fullShare} f10) ∗ aP c f12)
    ⊢ (rowsP c (st1 t) (st2 t) (st3 t) (st9 t) (st10 t) X1 X2 X3 0 : sProp 𝕄) := by
  unfold rowsP rowsAt aP
  iintro H
  iexists f9; iexists f10; iexists f12
  isplitr
  · ipureintro; exact ⟨fun y hy => absurd hy (by omega), fun y hy => absurd hy (by omega), fun y hy => absurd hy (by omega)⟩
  iexact H

/-- All rows done: the input blocks, the codes and the scales, and the activations' buffer at anything. -/
theorem rows_done (c : Dev nD) (t : Fin cfg0.N) (X1 X2 X3) :
    (rowsP c (st1 t) (st2 t) (st3 t) (st9 t) (st10 t) X1 X2 X3 4 : sProp 𝕄) ⊢
    iprop(((st1 t).view.loc (c : Thread nD τ) ↦[(st1 t).view.set]{fullShare} X1) ∗ ((st2 t).view.loc (c : Thread nD τ) ↦[(st2 t).view.set]{fullShare} X2)
      ∗ ((st3 t).view.loc (c : Thread nD τ) ↦[(st3 t).view.set]{fullShare} X3)
      ∗ (∃ f9, ⌜(st9 t).view.read (Elt F) f9 = codesB ((st1 t).view.read (Elt F) X1) ((st2 t).view.read (Elt F) X2) ((st3 t).view.read (Elt F) X3)⌝ ∗ ((st9 t).view.loc (c : Thread nD τ) ↦[(st9 t).view.set]{fullShare} f9))
      ∗ (∃ f10, ⌜(st10 t).view.read (Elt F) f10 = scaleB ((st1 t).view.read (Elt F) X1) ((st2 t).view.read (Elt F) X2) ((st3 t).view.read (Elt F) X3)⌝ ∗ ((st10 t).view.loc (c : Thread nD τ) ↦[(st10 t).view.set]{fullShare} f10))
      ∗ (∃ f12, aP c f12)) := by
  unfold rowsP rowsAt aP
  iintro ⟨%f9, %f10, %f12, %hd, H1, H2, H3, H9, H10, H12⟩
  isplitl [H1]; · iexact H1
  isplitl [H2]; · iexact H2
  isplitl [H3]; · iexact H3
  isplitl [H9]
  · iexists f9; isplitr
    · ipureintro; exact funext fun y => hd.1 y (by have : (y 0).val < 128 := (y 0).isLt; omega)
    iexact H9
  isplitl [H10]
  · iexists f10; isplitr
    · ipureintro; exact funext fun y => hd.2.1 y (by have : (y 0).val < 128 := (y 0).isLt; omega)
    iexact H10
  iexists f12; iexact H12

theorem Wd_eq (c : Dev nD) (t : Fin cfg0.N) : Wd c (V m c main_arg4) (st6 t) ((st6 t).view.rep (iblk m c 4 t)) = wf m c := by
  have e : (st6 t).view.read (Elt F) ((st6 t).view.rep (iblk m c 4 t)) = (V m c main_arg5 : S56x28.Idx → F .f32) := (View.read_rep _ _).trans (ws_block m c t)
  unfold wf scaledW
  rw [← e]
  rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before0, before1, before2, before3, before4, before5, after0, after1, after2, after3, after4, after5, after6, after7, after8]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨⟨%fw, %hfw, Hw⟩, ⟨%fa, Ha⟩, ⟨%s0, Hs0⟩, Hc0, ⟨%s1, Hs1⟩, Hc1, Hh, Hp⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, -, H6⟩, ⟨%d7, %g7, -, H7⟩, ⟨%d8, %g8, -, H8⟩⟩
  ihave K0 := (pointsTo_rep_entails (c : Thread nD τ) (st1 t) g0 fullShare) $$ H0
  ihave K1 := (pointsTo_rep_entails (c : Thread nD τ) (st2 t) g1 fullShare) $$ H1
  ihave K2 := (pointsTo_rep_entails (c : Thread nD τ) (st3 t) g2 fullShare) $$ H2
  ihave K3 := (pointsTo_rep_entails (c : Thread nD τ) (st4 t) g3 fullShare) $$ H3
  ihave K4 := (pointsTo_rep_entails (c : Thread nD τ) (st6 t) g4 fullShare) $$ H4
  ihave K5 := (pointsTo_rep_entails (c : Thread nD τ) (st7 t) g5 fullShare) $$ H5
  rw [e0, e1, e2, e3, e4, e5]
  sl_rw [prog_eq t]
  simp only [Nat.succ_ne_zero, ne_eq, not_false_eq_true, true_implies]
  by_cases ht : t.val = 0
  · have hc : k0_cond1 (grid0.coords t) = 1#1 := (cond1_iff t).2 ht
    iapply (wp_wand_r frame)
    isplitl [K0 K1 K2 K3 K4 K5 H6 H7 H8 Hw Ha Hs0 Hs1 Hc0 Hc1 Hh HW]
    · iapply (bodyFirst c (grid0.coords t) (st1 t) (h1 t) (st2 t) (h2 t) (st3 t) (h3 t) (st4 t) (h4 t) (st6 t) (h6 t) (st7 t) (h7 t) (st8 t) (h8 t) (st9 t) (h9 t) (st10 t) (h10 t)
        ((st1 t).view.rep (iblk m c 0 t)) ((st2 t).view.rep (iblk m c 1 t)) ((st3 t).view.rep (iblk m c 2 t)) ((st4 t).view.rep (iblk m c 3 t)) ((st6 t).view.rep (iblk m c 4 t)) ((st7 t).view.rep (iblk m c 5 t))
        hc (V m c main_arg4) g6 s0 s1 fw W)
      isplitl [K0 K1 K2 H7 H8 Ha]
      · iapply (rows_start c t _ _ _ g7 g8 fa)
        isplitl [K0]; · iexact K0
        isplitl [K1]; · iexact K1
        isplitl [K2]; · iexact K2
        isplitl [H7]; · iexact H7
        isplitl [H8]; · iexact H8
        iexact Ha
      isplitl [K3]; · iexact K3
      isplitl [K5]; · iexact K5
      isplitl [H6]; · iexact H6
      isplitl [Hw]; · iexact Hw
      isplitl [K4]; · iexact K4
      isplitl [HW]; · iexact HW
      isplitl [Hh]; · iexact Hh
      isplitl [Hs0]; · iexact Hs0
      isplitl [Hc0]; · iexact Hc0
      isplitl [Hs1]; · iexact Hs1
      iexact Hc1
    · iintro %_ ⟨HR, K3, K5, HY, ⟨%fw', %hw', Hw⟩, K4, ⟨%W', HW⟩, Hh, Hs0, Hc0, Hs1, Hc1⟩
      unfold outP
      icases HY with ⟨%f8, %hf8, HY⟩
      ihave HD := (rows_done c t _ _ _) $$ HR
      icases HD with ⟨H0, H1, H2, ⟨%f9, %h9', H7⟩, ⟨%f10, %h10', H8⟩, Ha⟩
      isplitl [Hw Ha Hs0 Hs1 Hc0 Hc1 Hh Hp]
      · isplitl [Hw]
        · iexists fw'; isplitr; · ipureintro; exact hw'.trans (Wd_eq m c t)
          iexact Hw
        isplitl [Ha]; · iexact Ha
        isplitl [Hs0]; · iexact Hs0
        isplitl [Hc0]; · iexact Hc0
        isplitl [Hs1]; · iexact Hs1
        isplitl [Hc1]; · iexact Hc1
        isplitl [Hh]; · iexact Hh
        iexact Hp
      isplitl [HW]
      · iexists W'; isplitr; · ipureintro; exact fun _ _ => Or.inl trivial
        iexact HW
      isplitl [H0]
      · iexists _; isplitr; · ipureintro; exact View.read_rep _ _
        iexact H0
      isplitl [H1]
      · iexists _; isplitr; · ipureintro; exact View.read_rep _ _
        iexact H1
      isplitl [H2]
      · iexists _; isplitr; · ipureintro; exact View.read_rep _ _
        iexact H2
      isplitl [K3]
      · iexists _; isplitr; · ipureintro; exact View.read_rep _ _
        iexact K3
      isplitl [K4]
      · iexists _; isplitr; · ipureintro; exact View.read_rep _ _
        iexact K4
      isplitl [K5]
      · iexists _; isplitr; · ipureintro; exact View.read_rep _ _
        iexact K5
      isplitl [HY]
      · iexists f8; isplitr
        · ipureintro; rw [hf8]; simp only [View.read_rep]; rw [Wd_eq]; rfl
        iexact HY
      isplitl [H7]
      · iexists f9; isplitr
        · ipureintro; rw [h9']; simp only [View.read_rep]; rfl
        iexact H7
      iexists f10; isplitr
      · ipureintro; rw [h10']; simp only [View.read_rep]; rfl
      iexact H8
  · have hc : ¬ k0_cond1 (grid0.coords t) = 1#1 := fun h => ht ((cond1_iff t).1 h)
    iapply (wp_wand_r frame)
    isplitl [K0 K1 K2 K3 K5 H6 H7 H8 Hw Ha]
    · iapply (bodyLater c (grid0.coords t) (st1 t) (h1 t) (st2 t) (h2 t) (st3 t) (h3 t) (st4 t) (h4 t) (st6 t) (h6 t) (st7 t) (h7 t) (st8 t) (h8 t) (st9 t) (h9 t) (st10 t) (h10 t)
        ((st1 t).view.rep (iblk m c 0 t)) ((st2 t).view.rep (iblk m c 1 t)) ((st3 t).view.rep (iblk m c 2 t)) ((st4 t).view.rep (iblk m c 3 t)) ((st7 t).view.rep (iblk m c 5 t))
        hc g6 fw)
      isplitl [K0 K1 K2 H7 H8 Ha]
      · iapply (rows_start c t _ _ _ g7 g8 fa)
        isplitl [K0]; · iexact K0
        isplitl [K1]; · iexact K1
        isplitl [K2]; · iexact K2
        isplitl [H7]; · iexact H7
        isplitl [H8]; · iexact H8
        iexact Ha
      isplitl [K3]; · iexact K3
      isplitl [K5]; · iexact K5
      isplitl [H6]; · iexact H6
      iexact Hw
    · iintro %_ ⟨HR, K3, K5, HY, Hw⟩
      unfold outP
      icases HY with ⟨%f8, %hf8, HY⟩
      ihave HD := (rows_done c t _ _ _) $$ HR
      icases HD with ⟨H0, H1, H2, ⟨%f9, %h9', H7⟩, ⟨%f10, %h10', H8⟩, Ha⟩
      isplitl [Hw Ha Hs0 Hs1 Hc0 Hc1 Hh Hp]
      · isplitl [Hw]
        · iexists fw; isplitr; · ipureintro; exact hfw ht
          iexact Hw
        isplitl [Ha]; · iexact Ha
        isplitl [Hs0]; · iexists s0; iexact Hs0
        isplitl [Hc0]; · iexact Hc0
        isplitl [Hs1]; · iexists s1; iexact Hs1
        isplitl [Hc1]; · iexact Hc1
        isplitl [Hh]; · iexact Hh
        iexact Hp
      isplitl [HW]
      · iexists W; isplitr; · ipureintro; exact fun _ _ => Or.inl trivial
        iexact HW
      isplitl [H0]
      · iexists _; isplitr; · ipureintro; exact View.read_rep _ _
        iexact H0
      isplitl [H1]
      · iexists _; isplitr; · ipureintro; exact View.read_rep _ _
        iexact H1
      isplitl [H2]
      · iexists _; isplitr; · ipureintro; exact View.read_rep _ _
        iexact H2
      isplitl [K3]
      · iexists _; isplitr; · ipureintro; exact View.read_rep _ _
        iexact K3
      isplitl [K4]
      · iexists _; isplitr; · ipureintro; exact View.read_rep _ _
        iexact K4
      isplitl [K5]
      · iexists _; isplitr; · ipureintro; exact View.read_rep _ _
        iexact K5
      isplitl [HY]
      · iexists f8; isplitr
        · ipureintro; rw [hf8]; simp only [View.read_rep]; rw [hfw ht]; rfl
        iexact HY
      isplitl [H7]
      · iexists f9; isplitr
        · ipureintro; rw [h9']; simp only [View.read_rep]; rfl
        iexact H7
      iexists f10; isplitr
      · ipureintro; rw [h10']; simp only [View.read_rep]; rfl
      iexact H8

/-! ## The run -/

theorem hmainU (𝒱₁ : Variants) : Pipeline.HMain (Ix := Unit) (Name := ℕ) (U := UU nD τ) (Lvl := ℕ) cfgs (0 : Fin 1) (defs₀ (F := F)) 𝒱₁ m main (V m) :=
  Pipeline.hmain_prefix cfgs 0 defs₀ 𝒱₁ m main hostOps0 hostOps0_sub hostOps0_fresh main_chain

def H0 : Finset (Ref sig .tc) := {main_arg4}
theorem H0_sub : H0 ⊆ Pipeline.restRefs sig spec0 := by decide

/-- From any memory with zero counters: every weakly fair execution of @main terminates, every final state has the
    windows' arrays at the blocks' contents, the other arrays as launched, every counter at zero. -/
theorem run_main : θ_run defs (onTc (τ := τ) (main (F := F))) (s₀ m ρ) (fun r => Pipeline.FramePost cfgs (dats m) (0 : Fin 1) (V m) r ∧ r.2.sem = fun _ => 0) :=
  Pipeline.θ_run_frame_dma cfgs (dats m) (0 : Fin 1) launch0 osem defs₀ 𝒱₀ ownSemFacts H0 H0_sub m ρ main
    (hbody := fun c => (body_obligation m c).loose) (hshare := fun c => (dats m 0 c).share_full fun _ => rfl) (howed := fun _ _ => rfl)
    (V := V m) (hmain := hmainU m 𝒱₀) (hA := fun _ _ => rfl)
    (hin := fun c => by
      unfold Pipeline.ΦD
      rw [show (Pipeline.scopedRest (cfgs 0).spec c : sProp 𝕄) = _ from scopedRest0_eq c, show (dats m 0 c).Φ 0 = Φ m c 0 from rfl, ownSems0_eq]
      unfold Φ H0
      rw [bigSep_singleton, w_eq c]
      iintro ⟨⟨⟨%f0, B0⟩, ⟨%f1, B1⟩, B2⟩, Hp, ⟨Hc0, Hc1⟩, Hh⟩
      ihave Hs := (buf_split c) $$ B2
      icases Hs with ⟨Hs0, Hs1⟩
      isplitl [B0]
      · iexists f0; isplitr; · ipureintro; exact fun h => absurd rfl h
        iapply (entails_of_eq (wb_eq c f0)); iexact B0
      isplitl [B1]; · iexists f1; iapply (entails_of_eq (a_eq c f1)); iexact B1
      isplitl [Hs0]; · iexact Hs0
      isplitl [Hc0]; · iexact Hc0
      isplitl [Hs1]; · iexact Hs1
      isplitl [Hc1]; · iexact Hc1
      isplitl [Hh]; · iexact Hh
      iexact Hp)
    (hout := fun c => by
      unfold Pipeline.ΦD
      rw [show (Pipeline.scopedRest (cfgs 0).spec c : sProp 𝕄) = _ from scopedRest0_eq c, show (dats m 0 c).Φ (Fin.last cfg0.N) = Φ m c cfg0.N from rfl, ownSems0_eq]
      unfold Φ H0
      rw [bigSep_singleton, w_eq c]
      iintro ⟨⟨%fw, -, Hw⟩, ⟨%fa, Ha⟩, Hs0, Hc0, Hs1, Hc1, Hh, Hp⟩
      isplitl [Hw Ha Hs0 Hs1]
      · isplitl [Hw]; · iexists fw; iapply (entails_of_eq (wb_eq c fw).symm); iexact Hw
        isplitl [Ha]; · iexists fa; iapply (entails_of_eq (a_eq c fa).symm); iexact Ha
        iapply (buf_join c)
        isplitl [Hs0]; · iexact Hs0
        iexact Hs1
      isplitl [Hp]; · iexact Hp
      isplitl [Hc0 Hc1]
      · isplitl [Hc0]; · iexact Hc0
        iexact Hc1
      iexact Hh)
    (Q' := _) (hQ' := fun _ h => h)

/-- The arguments' arrays end as launched. -/
theorem args_of (r : PUnit × MemSt nD τ sig (Elt F)) (h : Pipeline.FramePost cfgs (dats m) (0 : Fin 1) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans (V_main_arg5 m c)),
      ((h c).2 main_arg6 (Pipeline.mem_restRefs_of main_arg6 (by decide) (by decide))).trans (V_main_arg6 m c)⟩

end Cert.Proof.Kernel
-- ==== Proof.Ring.lean ====
/-
  The weight ring of the kernel body: 28 blocks of 256 rows of the quantised weight come from HBM into the two
  slots of a staging buffer, one transfer ahead of the compute, and every block is scaled tile by tile into the
  carried bf16 weight. Names for the blocks, slots and cells; the slices of the program under those names; what one
  trip holds before and after.
-/
module

public import proofs.«01_k».proof.Defs
public import proofs.«01_k».proof.Proof.Gen.KernelIdeal.Frame
public import proofs.«01_k».proof.Proof.Gen.KernelIdeal.Loops
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The algebra of the proof: the pipeline's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

/-! ## Canonical names -/

/-- The quantised weight in HBM. -/
abbrev wM : Memref sig .tc .hbm S7168x3584 .fp8e4m3 := Memref.whole main_arg4
/-- The carried bf16 weight. -/
abbrev wbM : Memref sig .tc .vmem S7168x3584 .bf16 := Memref.whole cc0_scratch0
/-- The block's dequantised activations. -/
abbrev aM : Memref sig .tc .vmem S128x7168 .bf16 := Memref.whole cc0_scratch1
/-- The two-slot staging buffer. -/
abbrev stM : Memref sig .tc .vmem S2x256x3584 .fp8e4m3 := Memref.whole cc0_scratch2

abbrev blkOff (b : Fin 28) : Fin 2 → Nat := ![256 * b.val, 0]
theorem blkOff_inb (b : Fin 28) : ∀ a, blkOff b a + S256x3584.size a ≤ S7168x3584.size a := by
  have := b.isLt; intro a; fin_cases a
  · show 256 * b.val + 256 ≤ 7168; omega
  · show 0 + 3584 ≤ 3584; omega
abbrev slotOff (s : Fin 2) : Fin 3 → Nat := ![s.val, 0, 0]
theorem slotOff_inb (s : Fin 2) : ∀ a, slotOff s a + S1x256x3584.size a ≤ S2x256x3584.size a := by
  have := s.isLt; intro a; fin_cases a
  · show s.val + 1 ≤ 2; omega
  · show 0 + 256 ≤ 256; omega
  · show 0 + 3584 ≤ 3584; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the weight: rows `256 b` to `256 b + 255`. -/
def blk (b : Fin 28) : Memref sig .tc .hbm S256x3584 .fp8e4m3 :=
  wM.slice (Rect.unit (s := S7168x3584) (blkOff b) S256x3584.size (blkOff_inb b)) (fun _ => rfl)
/-- Slot `s` of the staging buffer. -/
def rslot (s : Fin 2) : Memref sig .tc .vmem S256x3584 .fp8e4m3 :=
  (stM.slice (Rect.unit (s := S2x256x3584) (slotOff s) S1x256x3584.size (slotOff_inb s)) (fun _ => rfl)).squeeze S256x3584 squeezes_S1x256x3584_S256x3584
/-- Slot `s`'s DMA semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 28) : ClosedOff (blkOff b) := ⟨blkOff b, rfl⟩

/-! ## The offsets in closed form -/

theorem off1_eq : ∀ k : Fin k0_t1_loop.trips, k0_off1 k = semOff (Ring.sl 2 (k.val + 1)) := by decide +kernel
theorem off2_eq : ∀ k : Fin k0_t1_loop.trips, k0_off2 k = slotOff (Ring.sl 2 (k.val + 1)) := by decide +kernel
theorem off3_eq : ∀ k : Fin k0_t1_loop.trips, k.val + 1 < 28 → k0_off3 k = blkOff (Ring.bk 28 (k.val + 1)) := by decide +kernel
theorem off4_eq : ∀ k : Fin k0_t1_loop.trips, k0_off4 k = semOff (Ring.sl 2 k.val) := by decide +kernel
theorem off5_eq : ∀ k : Fin k0_t1_loop.trips, k0_off5 k = slotOff (Ring.sl 2 k.val) := by decide +kernel
theorem off6_eq : ∀ k : Fin k0_t1_loop.trips, k0_off6 k = blkOff (Ring.bk 28 k.val) := by decide +kernel
theorem cond2_of_lt : ∀ k : Fin k0_t1_loop.trips, k.val + 1 < 28 → k0_cond2 k = 1#1 := by decide +kernel
theorem cond2_of_not : ∀ k : Fin k0_t1_loop.trips, ¬ k.val + 1 < 28 → ¬ k0_cond2 k = 1#1 := by decide +kernel
theorem trips1 : k0_t1_loop.trips = 28 := by decide +kernel

/-- Trip `k`'s slot number, as the program computes it from the trip's number. -/
def slotWord (k : Fin k0_t1_loop.trips) : BitVec 32 :=
  let v117 : BitVec 32 := Scalar.remsi (Scf.iv 0#32 1#32 k) (Scalar.select (Scalar.cmpi .eq 2#32 0#32) 1#32 2#32)
  let v116 : BitVec 32 := Scalar.select (Scalar.cmpi .eq 2#32 0#32) 1#32 2#32
  Scalar.select (Scalar.andi (Scalar.xori (Scalar.cmpi .slt v117 0#32) (Scalar.cmpi .slt v116 0#32)) (Scalar.cmpi .ne v117 0#32)) (Scalar.addi v117 v116) v117
theorem slotWord_eq : ∀ k : Fin k0_t1_loop.trips, (Scalar.indexCast (slotWord k)).toNat = (Ring.sl 2 k.val).val := by decide +kernel
/-- A tile's place in the staging buffer: the trip's slot, the tile's row and column. -/
def stageOff (k : Fin k0_t1_loop.trips) (h n : Nat) : Fin 3 → Nat := ![(Scalar.indexCast (slotWord k)).toNat, h, n]
theorem stageOff_eq (k : Fin k0_t1_loop.trips) (h n : Nat) : stageOff k h n = ![(Ring.sl 2 k.val).val, h, n] := by
  unfold stageOff; rw [slotWord_eq]

/-! The 56 tile loads of a trip, each at its closed form. -/
instance (k : Fin k0_t1_loop.trips) : ClosedOff (k0_off8 k) := ⟨_, stageOff_eq k 0 0⟩
instance (k : Fin k0_t1_loop.trips) : ClosedOff (k0_off11 k) := ⟨_, stageOff_eq k 0 128⟩
instance (k : Fin k0_t1_loop.trips) : ClosedOff (k0_off14 k) := ⟨_, stageOff_eq k 0 256⟩
instance (k : Fin k0_t1_loop.trips) : ClosedOff (k0_off17 k) := ⟨_, stageOff_eq k 0 384⟩
instance (k : Fin k0_t1_loop.trips) : ClosedOff (k0_off20 k) := ⟨_, stageOff_eq k 0 512⟩
instance (k : Fin k0_t1_loop.trips) : ClosedOff (k0_off23 k) := ⟨_, stageOff_eq k 0 640⟩
instance (k : Fin k0_t1_loop.trips) : ClosedOff (k0_off26 k) := ⟨_, stageOff_eq k 0 768⟩
instance (k : Fin k0_t1_loop.trips) : ClosedOff (k0_off29 k) := ⟨_, stageOff_eq k 0 896⟩
instance (k : Fin k0_t1_loop.trips) : ClosedOff (k0_off32 k) := ⟨_, stageOff_eq k 0 1024⟩
instance (k : Fin k0_t1_loop.trips) : ClosedOff (k0_off35 k) := ⟨_, stageOff_eq k 0 1152⟩
instance (k : Fin k0_t1_loop.trips) : ClosedOff (k0_off38 k) := ⟨_, stageOff_eq k 0 1280⟩
instance (k : Fin k0_t1_loop.trips) : ClosedOff (k0_off41 k) := ⟨_, stageOff_eq k 0 1408⟩
instance (k : Fin k0_t1_loop.trips) : ClosedOff (k0_off44 k) := ⟨_, stageOff_eq k 0 1536⟩
instance (k : Fin k0_t1_loop.trips) : ClosedOff (k0_off47 k) := ⟨_, stageOff_eq k 0 1664⟩
instance (k : Fin k0_t1_loop.trips) : ClosedOff (k0_off50 k) := ⟨_, stageOff_eq k 0 1792⟩
instance (k : Fin k0_t1_loop.trips) : ClosedOff (k0_off53 k) := ⟨_, stageOff_eq k 0 1920⟩
instance (k : Fin k0_t1_loop.trips) : ClosedOff (k0_off56 k) := ⟨_, stageOff_eq k 0 2048⟩
instance (k : Fin k0_t1_loop.trips) : ClosedOff (k0_off59 k) := ⟨_, stageOff_eq k 0 2176⟩
instance (k : Fin k0_t1_loop.trips) : ClosedOff (k0_off62 k) := ⟨_, stageOff_eq k 0 2304⟩
instance (k : Fin k0_t1_loop.trips) : ClosedOff (k0_off65 k) := ⟨_, stageOff_eq k 0 2432⟩
instance (k : Fin k0_t1_loop.trips) : ClosedOff (k0_off68 k) := ⟨_, stageOff_eq k 0 2560⟩
instance (k : Fin k0_t1_loop.trips) : ClosedOff (k0_off71 k) := ⟨_, stageOff_eq k 0 2688⟩
instance (k : Fin k0_t1_loop.trips) : ClosedOff (k0_off74 k) := ⟨_, stageOff_eq k 0 2816⟩
instance (k : Fin k0_t1_loop.trips) : ClosedOff (k0_off77 k) := ⟨_, stageOff_eq k 0 2944⟩
instance (k : Fin k0_t1_loop.trips) : ClosedOff (k0_off80 k) := ⟨_, stageOff_eq k 0 3072⟩
instance (k : Fin k0_t1_loop.trips) : ClosedOff (k0_off83 k) := ⟨_, stageOff_eq k 0 3200⟩
instance (k : Fin k0_t1_loop.trips) : ClosedOff (k0_off86 k) := ⟨_, stageOff_eq k 0 3328⟩
instance (k : Fin k0_t1_loop.trips) : ClosedOff (k0_off89 k) := ⟨_, stageOff_eq k 0 3456⟩
instance (k : Fin k0_t1_loop.trips) : ClosedOff (k0_off91 k) := ⟨_, stageOff_eq k 128 0⟩
instance (k : Fin k0_t1_loop.trips) : ClosedOff (k0_off92 k) := ⟨_, stageOff_eq k 128 128⟩
instance (k : Fin k0_t1_loop.trips) : ClosedOff (k0_off93 k) := ⟨_, stageOff_eq k 128 256⟩
instance (k : Fin k0_t1_loop.trips) : ClosedOff (k0_off94 k) := ⟨_, stageOff_eq k 128 384⟩
instance (k : Fin k0_t1_loop.trips) : ClosedOff (k0_off95 k) := ⟨_, stageOff_eq k 128 512⟩
instance (k : Fin k0_t1_loop.trips) : ClosedOff (k0_off96 k) := ⟨_, stageOff_eq k 128 640⟩
instance (k : Fin k0_t1_loop.trips) : ClosedOff (k0_off97 k) := ⟨_, stageOff_eq k 128 768⟩
instance (k : Fin k0_t1_loop.trips) : ClosedOff (k0_off98 k) := ⟨_, stageOff_eq k 128 896⟩
instance (k : Fin k0_t1_loop.trips) : ClosedOff (k0_off99 k) := ⟨_, stageOff_eq k 128 1024⟩
instance (k : Fin k0_t1_loop.trips) : ClosedOff (k0_off100 k) := ⟨_, stageOff_eq k 128 1152⟩
instance (k : Fin k0_t1_loop.trips) : ClosedOff (k0_off101 k) := ⟨_, stageOff_eq k 128 1280⟩
instance (k : Fin k0_t1_loop.trips) : ClosedOff (k0_off102 k) := ⟨_, stageOff_eq k 128 1408⟩
instance (k : Fin k0_t1_loop.trips) : ClosedOff (k0_off103 k) := ⟨_, stageOff_eq k 128 1536⟩
instance (k : Fin k0_t1_loop.trips) : ClosedOff (k0_off104 k) := ⟨_, stageOff_eq k 128 1664⟩
instance (k : Fin k0_t1_loop.trips) : ClosedOff (k0_off105 k) := ⟨_, stageOff_eq k 128 1792⟩
instance (k : Fin k0_t1_loop.trips) : ClosedOff (k0_off106 k) := ⟨_, stageOff_eq k 128 1920⟩
instance (k : Fin k0_t1_loop.trips) : ClosedOff (k0_off107 k) := ⟨_, stageOff_eq k 128 2048⟩
instance (k : Fin k0_t1_loop.trips) : ClosedOff (k0_off108 k) := ⟨_, stageOff_eq k 128 2176⟩
instance (k : Fin k0_t1_loop.trips) : ClosedOff (k0_off109 k) := ⟨_, stageOff_eq k 128 2304⟩
instance (k : Fin k0_t1_loop.trips) : ClosedOff (k0_off110 k) := ⟨_, stageOff_eq k 128 2432⟩
instance (k : Fin k0_t1_loop.trips) : ClosedOff (k0_off111 k) := ⟨_, stageOff_eq k 128 2560⟩
instance (k : Fin k0_t1_loop.trips) : ClosedOff (k0_off112 k) := ⟨_, stageOff_eq k 128 2688⟩
instance (k : Fin k0_t1_loop.trips) : ClosedOff (k0_off113 k) := ⟨_, stageOff_eq k 128 2816⟩
instance (k : Fin k0_t1_loop.trips) : ClosedOff (k0_off114 k) := ⟨_, stageOff_eq k 128 2944⟩
instance (k : Fin k0_t1_loop.trips) : ClosedOff (k0_off115 k) := ⟨_, stageOff_eq k 128 3072⟩
instance (k : Fin k0_t1_loop.trips) : ClosedOff (k0_off116 k) := ⟨_, stageOff_eq k 128 3200⟩
instance (k : Fin k0_t1_loop.trips) : ClosedOff (k0_off117 k) := ⟨_, stageOff_eq k 128 3328⟩
instance (k : Fin k0_t1_loop.trips) : ClosedOff (k0_off118 k) := ⟨_, stageOff_eq k 128 3456⟩

/-! ## The program's slices under the canonical names -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (stM.slice (Rect.unit (s := S2x256x3584) off S1x256x3584.size hh) hs).squeeze S256x3584 squeezes_S1x256x3584_S256x3584 = rslot s :=
  congrArg (fun M : Memref sig .tc .vmem S1x256x3584 .fp8e4m3 => M.squeeze S256x3584 squeezes_S1x256x3584_S256x3584) (Memref.slice_unit_congr _ e _ _ _ _)
private theorem blk_congr {off : Fin 2 → Nat} {b : Fin 28} (e : off = blkOff b) (hh hs) :
    wM.slice (Rect.unit (s := S7168x3584) off S256x3584.size hh) hs = blk b := Memref.slice_unit_congr _ e _ (blkOff_inb b) _ (fun _ => rfl)

/-! Before the loop: block 0 into slot 0. -/
@[sl_canon] theorem semL0 (hh) : (cc0_scratch3.slice (Rect.unit (s := S2) ![0] S1.size hh)).squeeze S_ squeezes_S1_S_ = csm 0 := csm_congr (by decide) _
@[sl_canon] theorem slotL0 (hh hs) : (stM.slice (Rect.unit (s := S2x256x3584) ![0, 0, 0] S1x256x3584.size hh) hs).squeeze S256x3584 squeezes_S1x256x3584_S256x3584 = rslot 0 := rslot_congr (by decide) _ _
@[sl_canon] theorem blkL0 (hh hs) : wM.slice (Rect.unit (s := S7168x3584) ![0, 0] S256x3584.size hh) hs = blk 0 := blk_congr (by decide) _ _

/-! Trip `k`: block `k` waited for in slot `k % 2`, block `k + 1` sent for into the other slot. -/
@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (stM.slice (Rect.unit (s := S2x256x3584) (k0_off2 k) S1x256x3584.size hh) hs).squeeze S256x3584 squeezes_S1x256x3584_S256x3584 = rslot (Ring.sl 2 (k.val + 1)) := rslot_congr (off2_eq k) _ _
@[sl_canon] theorem blkI (k : Fin k0_t1_loop.trips) (hk : k.val + 1 < 28) (hh hs) :
    wM.slice (Rect.unit (s := S7168x3584) (k0_off3 k) S256x3584.size hh) hs = blk (Ring.bk 28 (k.val + 1)) := blk_congr (off3_eq k hk) _ _
@[sl_canon] theorem semW (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotW (k : Fin k0_t1_loop.trips) (hh hs) :
    (stM.slice (Rect.unit (s := S2x256x3584) (k0_off5 k) S1x256x3584.size hh) hs).squeeze S256x3584 squeezes_S1x256x3584_S256x3584 = rslot (Ring.sl 2 k.val) := rslot_congr (off5_eq k) _ _
@[sl_canon] theorem blkW (k : Fin k0_t1_loop.trips) (hh hs) :
    wM.slice (Rect.unit (s := S7168x3584) (k0_off6 k) S256x3584.size hh) hs = blk (Ring.bk 28 k.val) := blk_congr (off6_eq k) _ _

/-! ## What is held -/

section Pieces
variable (c : Dev nD) (XW : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` at home: its elements of the weight, at the weight's contents. -/
abbrev homeP (b : Fin 28) : sProp 𝕄 := (blk b).view.loc (c : Thread nD τ) ↦[(blk b).view.set]{fullShare} XW
/-- Block `b`'s words, as they arrive in a slot. -/
abbrev payload (b : Fin 28) : S256x3584.Idx → Elt F .fp8e4m3 := ReadAs.same.apply ((blk b).view.read (Elt F) XW)
/-- Slot `s` over earlier contents `f` after block `b` has arrived. -/
abbrev landed (s : Fin 2) (b : Fin 28) (f : Buf (Elt F) ((rslot s).view.loc (c : Thread nD τ))) : Buf (Elt F) ((rslot s).view.loc (c : Thread nD τ)) :=
  (rslot s).view.writes (Elt F) f [⟨Rect.whole S256x3584, payload c XW b⟩]
/-- What a block's transfer counts on its cell. -/
abbrev NN (s : Fin 2) : ℕ := 28672
/-- Slot `s` in flight with block `b`. -/
abbrev flightP (s : Fin 2) (b : Fin 28) (f : Buf (Elt F) ((rslot s).view.loc (c : Thread nD τ))) : sProp 𝕄 :=
  Transfers.Flight countersEmb (c : Thread nD τ) (SemLoc.dma (csm s).sem) () (NN s) iprop(slotP c s (landed c XW s b f) ∗ homeP c XW b)

/-- Before trip `k`: block `k + 1` beside the other blocks at home; -/
theorem homes_here (k : ℕ) (hk : k + 1 < 28) :
    bigSep (Ring.homeSet 1 k) (homeP c XW) = iprop(homeP c XW (Ring.bk 28 (k + 1)) ∗ bigSep ((Ring.homeSet 1 k).erase (Ring.bk 28 (k + 1))) (homeP c XW)) := by
  conv_lhs => rw [Ring.homeSet_out 1 k hk, bigSep_insert (Ring.bkL_not_mem_erase 1 k)]
  rfl
/-- after it, block `k` beside them; -/
theorem homes_next (k : ℕ) (hk : k + 1 < 28) :
    bigSep (Ring.homeSet 1 (k + 1)) (homeP c XW) = iprop(homeP c XW (Ring.bk 28 k) ∗ bigSep ((Ring.homeSet 1 k).erase (Ring.bk 28 (k + 1))) (homeP c XW)) := by
  conv_lhs => rw [Ring.homeSet_succ 1 k hk, bigSep_insert (Ring.bk_not_mem_erase 1 k (by omega) (by decide))]
  rfl
/-- after the last trip, the last block beside all the others. -/
theorem homes_tail (k : ℕ) (h : 28 ≤ k + 1) (hk : k < 28) :
    bigSep (Ring.homeSet 1 (k + 1)) (homeP c XW) = iprop(homeP c XW (Ring.bk 28 k) ∗ bigSep (Ring.homeSet 1 k) (homeP c XW)) := by
  conv_lhs => rw [Ring.homeSet_succ_tail 1 k h hk, bigSep_insert (Ring.bk_not_mem_homeSet 1 k hk (by decide))]
  rfl

omit [FloatOps F] [Named F] in
theorem sl2_add2 (k : ℕ) : Ring.sl 2 (k + 1 + 1) = Ring.sl 2 k := by rw [show k + 1 + 1 = k + 2 from rfl, Ring.sl_add]

/-- The ring before trip `k`: block `k` in flight and the other slot free, or, past the last trip, both slots free. -/
def ringAt (k : ℕ) : sProp 𝕄 :=
  if k < 28 then iprop((∃ f, flightP c XW (Ring.sl 2 k) (Ring.bk 28 k) f) ∗ (∃ f, slotP c (Ring.sl 2 (k + 1)) f) ∗ cellP c (Ring.sl 2 (k + 1)))
  else iprop((∃ f, slotP c (Ring.sl 2 k) f) ∗ cellP c (Ring.sl 2 k) ∗ (∃ f, slotP c (Ring.sl 2 (k + 1)) f) ∗ cellP c (Ring.sl 2 (k + 1)))

theorem ringAt_lt {k : ℕ} (h : k < 28) : (ringAt c XW k : sProp 𝕄) = iprop((∃ f, flightP c XW (Ring.sl 2 k) (Ring.bk 28 k) f) ∗ (∃ f, slotP c (Ring.sl 2 (k + 1)) f) ∗ cellP c (Ring.sl 2 (k + 1))) := if_pos h
theorem ringAt_ge {k : ℕ} (h : ¬ k < 28) : (ringAt c XW k : sProp 𝕄) = iprop((∃ f, slotP c (Ring.sl 2 k) f) ∗ cellP c (Ring.sl 2 k) ∗ (∃ f, slotP c (Ring.sl 2 (k + 1)) f) ∗ cellP c (Ring.sl 2 (k + 1))) := if_neg h

end Pieces

end Cert.Proof.KernelIdeal
-- ==== Proof.Tile1.lean ====
/-
  The tiles a trip of the weight ring stores.
-/
module

public import proofs.«01_k».proof.Proof.Ring
public import proofs.«01_k».proof.Proof.Tiles
public import Idealize.ShloMosaic.Lib.Pipeline.Value
public import Idealize.ShloMosaic.Lib.ValueIdxCore
public import Idealize.ShloMosaic.Lib.Pointwise.ElementwiseCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 broadcast_apply)

variable {F : FTy → Type} [FloatOps F] [Named F]

local notation "𝕄" => MT nD τ sig Unit (Elt F) ℕ (UU nD τ) ℕ

section Tile
variable (c : Dev nD) (XW : Buf (Elt F) (wM.view.loc (c : Thread nD τ)))
  (arg6 : Memref sig .tc .smem S56x28 .f32)
  (X6 : Buf (Elt F) (arg6.view.loc (c : Thread nD τ)))

/-! ## What a trip writes -/

/-- A slot over which block `b` has arrived reads the weight's rows `256 b` on. -/
theorem landed_read (s : Fin 2) (b : Fin 28) (g : Buf (Elt F) ((rslot s).view.loc (c : Thread nD τ))) (x : S2x256x3584.Idx) (y : S7168x3584.Idx)
    (h0 : (x 0).val = s.val) (h1 : (y 0).val = 256 * b.val + (x 1).val) (h2 : (y 1).val = (x 2).val) :
    stM.view.read (Elt F) (landed c XW s b g) x = wM.view.read (Elt F) XW y := by
  let z : S256x3584.Idx := ix2 (x 1) (x 2)
  have hx : x = (Rect.unit (s := S2x256x3584) (slotOff s) S1x256x3584.size (slotOff_inb s)).emb (Fin.cons ⟨0, Nat.one_pos⟩ z) := by
    funext a; refine Fin.ext ?_; rw [Rect.emb_apply]
    fin_cases a
    · show (x 0).val = s.val + 1 * 0; omega
    · show (x 1).val = 0 + 1 * (x 1).val; omega
    · show (x 2).val = 0 + 1 * (x 2).val; omega
  have hy : y = (Rect.unit (s := S7168x3584) (blkOff b) S256x3584.size (blkOff_inb b)).emb z := by
    funext a; refine Fin.ext ?_; rw [Rect.emb_apply]
    fin_cases a
    · show (y 0).val = 256 * b.val + 1 * (x 1).val; omega
    · show (y 1).val = 0 + 1 * (x 2).val; omega
  have e1 : (rslot s).view.read (Elt F) (landed c XW s b g) z = payload c XW b z := by
    have := View.read_writes_cons_emb (rslot s).view g (Rect.whole S256x3584) (payload c XW b) [] z
    have hz : (Rect.whole S256x3584).emb z = z := by
      funext a; refine Fin.ext ?_; rw [Rect.emb_apply]; show 0 + 1 * (z a).val = (z a).val; omega
    rw [hz] at this; exact this
  have e2 : (rslot s).view.read (Elt F) (landed c XW s b g) z
      = stM.view.read (Elt F) (landed c XW s b g) ((Rect.unit (s := S2x256x3584) (slotOff s) S1x256x3584.size (slotOff_inb s)).emb (Shape.reshapeEquiv (squeezes_S1x256x3584_S256x3584).numel_eq z)) := rfl
  rw [Shape.reshapeEquiv_cons_one] at e2
  rw [hx, ← e2, e1, hy]
  rfl

/-- The scaled weight at row and column `y`: the quantised weight there times the scale of its 128-square block. -/
def Wd (y : S7168x3584.Idx) : F .bf16 :=
  FloatOps.mulf (FloatOps.extf .bf16 (by decide) (wM.view.read (Elt F) XW y) : F .bf16)
    (FloatOps.truncf .bf16 (by decide) (arg6.view.read (Elt F) X6 (ix2 ⟨(y 0).val / 128, by have := (y 0).isLt; show _ < 56; change (y 0).val < 7168 at this; omega⟩
      ⟨(y 1).val / 128, by have := (y 1).isLt; show _ < 28; change (y 1).val < 3584 at this; omega⟩)))

/-- One tile of a trip: the slot's tile times its scale is the scaled weight under the tile. -/
theorem tile_ok (k : ℕ) (b : Fin 28) (hb : b.val = k) (h nb : ℕ) {o11 : Fin 2 → ℕ} {o13 : Fin 3 → ℕ} {o6 : Fin 2 → ℕ}
    (e11 : o11 = ![256 * k + 128 * h, 128 * nb]) (e13 : o13 = ![(Ring.sl 2 k).val, 128 * h, 128 * nb]) (e6 : o6 = ![2 * k + h, nb])
    (hh : h < 2)
    (inb11 : ∀ a, o11 a + S128x128.size a ≤ S7168x3584.size a) (inb13 : ∀ a, o13 a + S1x128x128.size a ≤ S2x256x3584.size a)
    (inb6 : ∀ a, o6 a + S1x1.size a ≤ S56x28.size a)
    (g : Buf (Elt F) ((rslot (Ring.sl 2 k)).view.loc (c : Thread nD τ)))
    (hs1 : S1x128x128.ShapeCasts S128x128) (hs2 : S128x128.ShapeCasts S128x128) (hp : 0 < (Rect.unit (s := S56x28) o6 S1x1.size inb6).shape.numel) :
    IsTile (Wd c XW arg6 X6) (256 * k) 128 128
      (⟨Rect.unit o11 S128x128.size inb11,
        shapeCast S128x128 (mulf (extf .bf16 (shapeCast S128x128 (View.readAt (Elt F) stM.view (Rect.unit (s := S2x256x3584) o13 S1x128x128.size inb13).toLoadRect
            (landed c XW (Ring.sl 2 k) b g)) hs1))
          (truncf .bf16 (broadcast S128x128 (View.readAt (Elt F) arg6.view (Rect.unit (s := S56x28) o6 S1x1.size inb6).toLoadRect X6 (Shape.Idx.first hp))))) hs2⟩ :
        View.Piece (Elt F) S7168x3584 .bf16) (h, nb) := by
  refine IsTile.unit (q := (h, nb)) e11 fun x => ?_
  subst e13 e6
  have hx0 : (x 0).val < 128 := (x 0).isLt
  have hx1 : (x 1).val < 128 := (x 1).isLt
  have y0 : ((Rect.unit (s := S7168x3584) o11 S128x128.size inb11).emb x 0).val = 256 * k + 128 * h + (x 0).val := by
    rw [Rect.emb_apply]; show o11 0 + 1 * (x 0).val = _; have := congrFun e11 0; change o11 0 = 256 * k + 128 * h at this; omega
  have y1 : ((Rect.unit (s := S7168x3584) o11 S128x128.size inb11).emb x 1).val = 128 * nb + (x 1).val := by
    rw [Rect.emb_apply]; show o11 1 + 1 * (x 1).val = _; have := congrFun e11 1; change o11 1 = 128 * nb at this; omega
  generalize (Rect.unit (s := S7168x3584) o11 S128x128.size inb11).emb x = y at y0 y1 ⊢
  rw [shapeCast_self, mulf_apply, extf_apply, truncf_apply]
  unfold Wd
  refine congrArg₂ _ (congrArg _ ?_) (congrArg _ ?_)
  · rw [shapeCast_dropUnit_apply]
    refine landed_read c XW _ b g ((Rect.unit (s := S2x256x3584) ![(Ring.sl 2 k).val, 128 * h, 128 * nb] S1x128x128.size inb13).toLoadRect.idx (Fin.cons ⟨0, Nat.one_pos⟩ x)) y ?_ ?_ ?_
    · show (Ring.sl 2 k).val + 1 * 0 = _; omega
    · rw [y0, hb]
      show _ = 256 * k + (128 * h + 1 * (x 0).val); omega
    · rw [y1]; show _ = 128 * nb + 1 * (x 1).val; omega
  · rw [broadcast_apply]
    show arg6.view.read (Elt F) X6 _ = _
    congr 1
    funext a
    refine Fin.ext ?_
    have h00 : ∀ z : (Rect.unit (s := S56x28) ![2 * k + h, nb] S1x1.size inb6).shape.Idx, ∀ a, (z a).val = 0 := fun z a => by
      have := (z a).isLt
      have h1 : (Rect.unit (s := S56x28) ![2 * k + h, nb] S1x1.size inb6).shape.size a = 1 := by fin_cases a <;> rfl
      omega
    have := h00 (Shape.Idx.first hp) a
    fin_cases a
    · show 2 * k + h + 1 * (Shape.Idx.first hp 0).val = (y 0).val / 128
      change (Shape.Idx.first hp 0).val = 0 at this
      omega
    · show nb + 1 * (Shape.Idx.first hp 1).val = (y 1).val / 128
      change (Shape.Idx.first hp 1).val = 0 at this
      omega
end Tile
end Cert.Proof.KernelIdeal
-- ==== Proof.Trip1.lean ====
/-
  One trip of the weight ring.
-/
module

public import proofs.«01_k».proof.Proof.Tile1

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F] [Named F]

local notation "𝕄" => MT nD τ sig Unit (Elt F) ℕ (UU nD τ) ℕ

section Trip
variable (c : Dev nD) (XW : Buf (Elt F) (wM.view.loc (c : Thread nD τ))) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole) (k0_h1 : k0_cond1 i = 1#1)
  (X6 : Buf (Elt F) (arg6.view.loc (c : Thread nD τ)))

abbrev tripG (k : Fin k0_t1_loop.trips) : Prog (TpuEff nD τ sig (Elt F) Λ₀ .tc) Unit :=
  k0_t1_body (F := F) i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 k0_h1 k ()

abbrev wbP (f : Buf (Elt F) (wbM.view.loc (c : Thread nD τ))) : sProp 𝕄 := wbM.view.loc (c : Thread nD τ) ↦[wbM.view.set]{fullShare} f
abbrev wsP : sProp 𝕄 := arg6.view.loc (c : Thread nD τ) ↦[arg6.view.set]{fullShare} X6

/-- What trip `k` finds, the carried weight at `f`. -/
def resAt (k : ℕ) (f : Buf (Elt F) (wbM.view.loc (c : Thread nD τ))) : sProp 𝕄 :=
  iprop(wbP c f ∗ wsP c arg6 X6 ∗ (∃ W, owes (c : Thread nD τ) 0 W) ∗ bigSep (Ring.homeSet 1 k) (homeP c XW) ∗ ringAt c XW k)

set_option backward.proofsInPublic true in
def tripRun (k : Fin k0_t1_loop.trips) (hk : k.val + 1 < 28) :
    { L : List (View.Piece (Elt F) S7168x3584 .bf16) // ∀ f,
      resAt c XW arg6 X6 k f ⊢ wp frame (wpE (defs₀ (F := F)) 𝒱₀ (c : Thread nD τ) none) Set.univ (tripG i arg1 harg1 arg2 harg2 arg3 harg3 arg4 harg4 arg6 harg6 arg7 harg7 arg8 harg8 arg9 harg9 arg10 harg10 k0_h1 k)
        (fun _ => resAt c XW arg6 X6 (k.val + 1) (wbM.view.writes (Elt F) f L)) } := by
  refine ⟨?_, fun f => ?run⟩
  case run =>
    have hk28 : k.val < 28 := by omega
    have hc : k0_cond2 k = 1#1 := cond2_of_lt k hk
    unfold resAt
    rw [ringAt_lt c XW hk28, ringAt_lt c XW hk, homes_here c XW k.val hk, homes_next c XW k.val hk, sl2_add2]
    iintro ⟨HO, Hws, ⟨%W, HW⟩, ⟨Hg, Hrest⟩, ⟨%f0, HF0⟩, ⟨%f1, HS⟩, HC⟩
    dsimp only [tripG]
    sl_unfold [k0_t1_body]
    sl_exec
    sl_step
    isplitl [HO]; · iexact HO
    isplitl [Hws]; · iexact Hws
    isplitl [HW]; · iexists _; iexact HW
    isplitl [HF0_src Hrest]
    · isplitl [HF0_src]; · iexact HF0_src
      iexact Hrest
    isplitl [HC]; · iexists f1; iexact HC
    isplitl [HF0_dst]; · iexists _; iexact HF0_dst
    iexact HF0

set_option backward.proofsInPublic true in
/-- The last trip: nothing further to start. -/
def tripLast (k : Fin k0_t1_loop.trips) (hk : ¬ k.val + 1 < 28) :
    { L : List (View.Piece (Elt F) S7168x3584 .bf16) // ∀ f,
      resAt c XW arg6 X6 k f ⊢ wp frame (wpE (defs₀ (F := F)) 𝒱₀ (c : Thread nD τ) none) Set.univ (tripG i arg1 harg1 arg2 harg2 arg3 harg3 arg4 harg4 arg6 harg6 arg7 harg7 arg8 harg8 arg9 harg9 arg10 harg10 k0_h1 k)
        (fun _ => resAt c XW arg6 X6 (k.val + 1) (wbM.view.writes (Elt F) f L)) } := by
  refine ⟨?_, fun f => ?run⟩
  case run =>
    have hk28 : k.val < 28 := lt_of_lt_of_eq k.isLt trips1
    have hc : ¬ k0_cond2 k = 1#1 := cond2_of_not k hk
    unfold resAt
    rw [ringAt_lt c XW hk28, ringAt_ge c XW hk, homes_tail c XW k.val (by omega) hk28, sl2_add2]
    iintro ⟨HO, Hws, ⟨%W, HW⟩, Hrest, ⟨%f0, HF0⟩, ⟨%f1, HS⟩, HC⟩
    dsimp only [tripG]
    sl_unfold [k0_t1_body]
    sl_exec
    sl_step
    isplitl [HO]; · iexact HO
    isplitl [Hws]; · iexact Hws
    isplitl [HW]; · iexists _; iexact HW
    isplitl [HF0_src Hrest]
    · isplitl [HF0_src]; · iexact HF0_src
      iexact Hrest
    isplitl [HS]; · iexists f1; iexact HS
    isplitl [HC]; · iexact HC
    isplitl [HF0_dst]; · iexists _; iexact HF0_dst
    iexact HF0

/-- The tiles of a trip, in the order a run lists them: last store first. -/
def tileIdx : List (ℕ × ℕ) := [(1,27),(1,26),(1,25),(1,24),(1,23),(1,22),(1,21),(1,20),(1,19),(1,18),(1,17),(1,16),(1,15),(1,14),(1,13),(1,12),(1,11),(1,10),(1,9),(1,8),(1,7),(1,6),(1,5),(1,4),(1,3),(1,2),(1,1),(1,0),
  (0,27),(0,26),(0,25),(0,24),(0,23),(0,22),(0,21),(0,20),(0,19),(0,18),(0,17),(0,16),(0,15),(0,14),(0,13),(0,12),(0,11),(0,10),(0,9),(0,8),(0,7),(0,6),(0,5),(0,4),(0,3),(0,2),(0,1),(0,0)]

theorem bk_val (k : ℕ) (hk : k < 28) : (Ring.bk 28 k).val = k := Nat.mod_eq_of_lt hk

theorem tripRun_tiles (k : Fin k0_t1_loop.trips) (hk : k.val + 1 < 28) :
    List.Forall₂ (IsTile (Wd c XW arg6 X6) (256 * k.val) 128 128)
      (tripRun c XW i arg1 harg1 arg2 harg2 arg3 harg3 arg4 harg4 arg6 harg6 arg7 harg7 arg8 harg8 arg9 harg9 arg10 harg10 k0_h1 X6 k hk).1 tileIdx := by
  have hb := bk_val k.val (lt_of_lt_of_eq k.isLt trips1)
  unfold tripRun tileIdx
  dsimp only
  repeat' first
    | exact List.Forall₂.nil
    | refine List.Forall₂.cons (tile_ok c XW arg6 X6 k.val _ hb _ _ (ClosedOff.eq) (ClosedOff.eq) (ClosedOff.eq) (by decide) _ _ _ _ _ _ _) ?_

theorem tripLast_tiles (k : Fin k0_t1_loop.trips) (hk : ¬ k.val + 1 < 28) :
    List.Forall₂ (IsTile (Wd c XW arg6 X6) (256 * k.val) 128 128)
      (tripLast c XW i arg1 harg1 arg2 harg2 arg3 harg3 arg4 harg4 arg6 harg6 arg7 harg7 arg8 harg8 arg9 harg9 arg10 harg10 k0_h1 X6 k hk).1 tileIdx := by
  have hb := bk_val k.val (lt_of_lt_of_eq k.isLt trips1)
  unfold tripLast tileIdx
  dsimp only
  repeat' first
    | exact List.Forall₂.nil
    | refine List.Forall₂.cons (tile_ok c XW arg6 X6 k.val _ hb _ _ (ClosedOff.eq) (ClosedOff.eq) (ClosedOff.eq) (by decide) _ _ _ _ _ _ _) ?_
end Trip
end Cert.Proof.KernelIdeal
-- ==== Proof.Rows.lean ====
/-
  What the loop over a block's rows stores, as functions of what it reads: 32 rows at a time the mean and the
  reciprocal deviation, and for each group of 128 columns the modulated rows, the scale's word, the codes, the scale and
  the dequantised activations.
-/
module

public import proofs.«01_k».proof.Proof.Ring
public import proofs.«01_k».proof.Proof.Tiles
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ (UU nD τ) ℕ

/-! ## One group of a chunk of 32 rows, in the program's operations -/

/-- The chunk's mean, a column; -/
def meanV (v : Vec F S32x7168 .bf16) : FVec F S32x1 .f32 :=
  mulf (shapeCast S32x1 (multiReduction .add [1] S32 (extf .f32 (shapeCast S32x7168 v shapeCasts_S32x7168_S32x7168) bitsLt_bf16_f32) 0x00000000#32 reduces_S32x7168_S32 (.inl rfl) rfl) shapeCasts_S32_S32x1)
    (broadcast S32x1 (Named.named κ "inv_n" 0x39124925#32))
/-- the centred chunk; -/
def centreV (v : Vec F S32x7168 .bf16) : FVec F S32x7168 .f32 :=
  subf (extf .f32 (shapeCast S32x7168 v shapeCasts_S32x7168_S32x7168) bitsLt_bf16_f32) (broadcastTo S32x7168 (meanV v) broadcasts_S32x1_S32x7168)
/-- the reciprocal deviation, a column. -/
def rstdV (v : Vec F S32x7168 .bf16) : FVec F S32x1 .f32 :=
  rsqrt (addf (mulf (shapeCast S32x1 (multiReduction .add [1] S32 (mulf (centreV v) (centreV v)) 0x00000000#32 reduces_S32x7168_S32 (.inl rfl) rfl) shapeCasts_S32_S32x1)
      (broadcast S32x1 (Named.named κ "inv_n" 0x39124925#32)))
    (broadcast S32x1 (Scalar.ofBits .f32 0x358637BD#32)))
/-- The modulated group: chunk `v`, the group's rows `g`, the two modulation vectors' parts. -/
def modV (v : Vec F S32x7168 .bf16) (g : Vec F S32x128 .bf16) (sc sh : Vec F S1x1x128 .bf16) : FVec F S32x128 .f32 :=
  addf (mulf (mulf (subf (extf .f32 (shapeCast S32x128 g shapeCasts_S32x128_S32x128) bitsLt_bf16_f32) (broadcastTo S32x128 (meanV v) broadcasts_S32x1_S32x128))
        (broadcastTo S32x128 (rstdV v) broadcasts_S32x1_S32x128))
      (broadcastTo S32x128 (addf (broadcast S1x128 (Scalar.ofBits .f32 0x3F800000#32)) (extf .f32 (shapeCast S1x128 sc shapeCasts_S1x1x128_S1x128) bitsLt_bf16_f32)) broadcasts_S1x128_S32x128))
    (broadcastTo S32x128 (extf .f32 (shapeCast S1x128 sh shapeCasts_S1x1x128_S1x128) bitsLt_bf16_f32) broadcasts_S1x128_S32x128)
/-- A group's largest magnitude times 1/448, a column. -/
def stepV (h : FVec F S32x128 .f32) : FVec F S32x1 .f32 :=
  mulf (shapeCast S32x1 (multiReduction .maximumf [1] S32 (absf h) 0xFF800000#32 reduces_S32x128_S32 (.inl rfl) rfl) shapeCasts_S32_S32x1)
    (broadcast S32x1 (Scalar.ofBits .f32 0x3B124925#32))
/-- One step of the search for a float's exponent field: set bit `b` if the word with it set is a float at most `t`. -/
def setBit (t : FVec F S32x1 .f32) (b : BitVec 32) (w : IVec S32x1 32) : IVec S32x1 32 :=
  select (cmpf .oge t (bitcastToFloat .f32 (ori w (broadcast S32x1 b)))) (ori w (broadcast S32x1 b)) w
/-- The exponent field, its eight bits from the highest. -/
def fieldV (t : FVec F S32x1 .f32) : IVec S32x1 32 :=
  setBit t 8388608#32 (setBit t 16777216#32 (setBit t 33554432#32 (setBit t 67108864#32 (setBit t 134217728#32 (setBit t 268435456#32
    (setBit t 536870912#32 (setBit t 1073741824#32 (broadcast S32x1 0#32))))))))
/-- The scale's word: the next exponent, or 1 for a field of zero. -/
def wordV (t : FVec F S32x1 .f32) : IVec S32x1 32 :=
  select (cmpi .sgt (addi (fieldV t) (broadcast S32x1 8388608#32)) (broadcast S32x1 8388608#32)) (addi (fieldV t) (broadcast S32x1 8388608#32)) (broadcast S32x1 1065353216#32)
/-- The group's scale. -/
def scaleV (h : FVec F S32x128 .f32) : FVec F S32x1 .f32 := bitcastToFloat .f32 (wordV (stepV h))
/-- The group's codes. -/
def codesV (h : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf h (broadcastTo S32x128 (bitcastToFloat .f32 (subi (broadcast S32x1 2130706432#32) (wordV (stepV h)))) broadcasts_S32x1_S32x128)))) bitsLt_fp8e4m3_f32
/-- The dequantised group. -/
def actV (h : FVec F S32x128 .f32) : FVec F S32x128 .bf16 :=
  mulf (extf .bf16 (codesV h) bitsLt_fp8e4m3_bf16) (broadcastTo S32x128 (truncf .bf16 (scaleV h) bitsLt_bf16_f32) broadcasts_S32x1_S32x128)

/-! ## The same by the element -/

/-- Chunk `k` of a block of 128 rows. -/
def chunkV (x1 : S128x7168.Idx → F .bf16) (k : Fin 4) : Vec F S32x7168 .bf16 := fun z => x1 (ix2 ⟨32 * k.val + (z 0).val, by have := (z 0).isLt; change (z 0).val < 32 at this; have := k.isLt; show _ < 128; omega⟩ (z 1))
/-- Group `g` of a chunk. -/
def groupV (x1 : S128x7168.Idx → F .bf16) (k : Fin 4) (g : Fin 56) : Vec F S32x128 .bf16 := fun z => x1 (ix2 ⟨32 * k.val + (z 0).val, by have := (z 0).isLt; change (z 0).val < 32 at this; have := k.isLt; show _ < 128; omega⟩
  ⟨128 * g.val + (z 1).val, by have := (z 1).isLt; change (z 1).val < 128 at this; have := g.isLt; show _ < 7168; omega⟩)
/-- Group `g` of a modulation vector. -/
def partV (x : S1x1x7168.Idx → F .bf16) (g : Fin 56) : Vec F S1x1x128 .bf16 := fun z => x (ix3 0 0
  ⟨128 * g.val + (z 2).val, by have := (z 2).isLt; change (z 2).val < 128 at this; have := g.isLt; show _ < 7168; omega⟩)
/-- Group `g` of chunk `k`, modulated: rows `x1`, shift `x2`, scale `x3`. -/
def hV (x1 : S128x7168.Idx → F .bf16) (x2 x3 : S1x1x7168.Idx → F .bf16) (k : Fin 4) (g : Fin 56) : FVec F S32x128 .f32 :=
  modV (chunkV x1 k) (groupV x1 k g) (partV x3 g) (partV x2 g)

def chunkOf {n : ℕ} (y : (⟨2, ![128, n]⟩ : Shape).Idx) : Fin 4 := ⟨(y 0).val / 32, by have := (y 0).isLt; change (y 0).val < 128 at this; omega⟩
def groupOf {m : ℕ} (y : (⟨2, ![m, 7168]⟩ : Shape).Idx) : Fin 56 := ⟨(y 1).val / 128, by have := (y 1).isLt; change (y 1).val < 7168 at this; omega⟩
def inTile {m : ℕ} (y : (⟨2, ![m, 7168]⟩ : Shape).Idx) : S32x128.Idx := ix2 ⟨(y 0).val % 32, Nat.mod_lt _ (by decide)⟩ ⟨(y 1).val % 128, Nat.mod_lt _ (by decide)⟩

/-- The block's codes. -/
def codesB (x1 : S128x7168.Idx → F .bf16) (x2 x3 : S1x1x7168.Idx → F .bf16) (y : S128x7168.Idx) : F .fp8e4m3 :=
  codesV (hV x1 x2 x3 (chunkOf y) (groupOf y)) (inTile y)
/-- The block's dequantised activations. -/
def actB (x1 : S128x7168.Idx → F .bf16) (x2 x3 : S1x1x7168.Idx → F .bf16) (y : S128x7168.Idx) : F .bf16 :=
  actV (hV x1 x2 x3 (chunkOf y) (groupOf y)) (inTile y)
/-- The block's scales. -/
def scaleB (x1 : S128x7168.Idx → F .bf16) (x2 x3 : S1x1x7168.Idx → F .bf16) (y : S128x56.Idx) : F .f32 :=
  scaleV (hV x1 x2 x3 (chunkOf y) (y 1)) (ix2 ⟨(y 0).val % 32, Nat.mod_lt _ (by decide)⟩ 0)

section Tile
variable (c : Dev nD)
  (arg1 : Memref sig .tc .vmem S128x7168 .bf16) (arg2 : Memref sig .tc .vmem S1x1x7168 .bf16) (arg3 : Memref sig .tc .vmem S1x1x7168 .bf16)
  (X1 : Buf (Elt F) (arg1.view.loc (c : Thread nD τ))) (X2 : Buf (Elt F) (arg2.view.loc (c : Thread nD τ))) (X3 : Buf (Elt F) (arg3.view.loc (c : Thread nD τ)))

theorem read_chunk (k : Fin 4) {o : Fin 2 → ℕ} (e : o = ![32 * k.val, 0]) (inb : ∀ a, o a + S32x7168.size a ≤ S128x7168.size a) :
    View.readAt (Elt F) arg1.view (Rect.unit (s := S128x7168) o S32x7168.size inb).toLoadRect X1 = chunkV (arg1.view.read (Elt F) X1) k := by
  subst e
  funext z
  show arg1.view.read (Elt F) X1 _ = arg1.view.read (Elt F) X1 _
  congr 1; funext a; refine Fin.ext ?_
  fin_cases a
  · show 32 * k.val + 1 * (z 0).val = 32 * k.val + (z 0).val; omega
  · show 0 + 1 * (z 1).val = (z 1).val; omega

theorem read_group (k : Fin 4) (g : Fin 56) {o : Fin 2 → ℕ} (e : o = ![32 * k.val, 128 * g.val]) (inb : ∀ a, o a + S32x128.size a ≤ S128x7168.size a) :
    View.readAt (Elt F) arg1.view (Rect.unit (s := S128x7168) o S32x128.size inb).toLoadRect X1 = groupV (arg1.view.read (Elt F) X1) k g := by
  subst e
  funext z
  show arg1.view.read (Elt F) X1 _ = arg1.view.read (Elt F) X1 _
  congr 1; funext a; refine Fin.ext ?_
  fin_cases a
  · show 32 * k.val + 1 * (z 0).val = 32 * k.val + (z 0).val; omega
  · show 128 * g.val + 1 * (z 1).val = 128 * g.val + (z 1).val; omega

theorem read_part (g : Fin 56) {o : Fin 3 → ℕ} (e : o = ![0, 0, 128 * g.val]) (inb : ∀ a, o a + S1x1x128.size a ≤ S1x1x7168.size a) :
    View.readAt (Elt F) arg2.view (Rect.unit (s := S1x1x7168) o S1x1x128.size inb).toLoadRect X2 = partV (arg2.view.read (Elt F) X2) g := by
  subst e
  funext z
  show arg2.view.read (Elt F) X2 _ = arg2.view.read (Elt F) X2 _
  have h0 : (z 0).val < 1 := (z 0).isLt
  have h1 : (z 1).val < 1 := (z 1).isLt
  congr 1; funext a; refine Fin.ext ?_
  fin_cases a
  · show 0 + 1 * (z 0).val = 0; omega
  · show 0 + 1 * (z 1).val = 0; omega
  · show 128 * g.val + 1 * (z 2).val = 128 * g.val + (z 2).val; omega

/-- A tile of 32 rows and 128 columns lies under its chunk and group. -/
theorem tile_at (k : Fin 4) (g : Fin 56) {o : Fin 2 → ℕ} (e : o = ![32 * k.val, 128 * g.val]) (inb : ∀ a, o a + S32x128.size a ≤ S128x7168.size a) (x : S32x128.Idx) :
    chunkOf ((Rect.unit (s := S128x7168) o S32x128.size inb).emb x) = k ∧ groupOf ((Rect.unit (s := S128x7168) o S32x128.size inb).emb x) = g ∧ inTile ((Rect.unit (s := S128x7168) o S32x128.size inb).emb x) = x := by
  subst e
  have h0 : (x 0).val < 32 := (x 0).isLt
  have h1 : (x 1).val < 128 := (x 1).isLt
  have e0 : ((Rect.unit (s := S128x7168) ![32 * k.val, 128 * g.val] S32x128.size inb).emb x 0).val = 32 * k.val + (x 0).val := by
    rw [Rect.emb_apply]; show 32 * k.val + 1 * (x 0).val = _; omega
  have e1 : ((Rect.unit (s := S128x7168) ![32 * k.val, 128 * g.val] S32x128.size inb).emb x 1).val = 128 * g.val + (x 1).val := by
    rw [Rect.emb_apply]; show 128 * g.val + 1 * (x 1).val = _; omega
  refine ⟨Fin.ext ?_, Fin.ext ?_, ?_⟩
  · show _ / 32 = k.val; rw [e0]; omega
  · show _ / 128 = g.val; rw [e1]; omega
  · funext a; refine Fin.ext ?_
    fin_cases a
    · show _ % 32 = (x 0).val; rw [e0]; omega
    · show _ % 128 = (x 1).val; rw [e1]; omega

variable (k : Fin 4) (g : Fin 56) {o orow : Fin 2 → ℕ} {ov : Fin 3 → ℕ} (e : o = ![32 * k.val, 128 * g.val]) (er : orow = ![32 * k.val, 0])
  (ev : ov = ![0, 0, 128 * g.val]) (inb : ∀ a, o a + S32x128.size a ≤ S128x7168.size a) (inbr : ∀ a, orow a + S32x7168.size a ≤ S128x7168.size a)
  (inbv : ∀ a, ov a + S1x1x128.size a ≤ S1x1x7168.size a)

/-- The group as a trip computes it from its loads. -/
abbrev hL : FVec F S32x128 .f32 :=
  modV (View.readAt (Elt F) arg1.view (Rect.unit (s := S128x7168) orow S32x7168.size inbr).toLoadRect X1) (View.readAt (Elt F) arg1.view (Rect.unit (s := S128x7168) o S32x128.size inb).toLoadRect X1)
    (View.readAt (Elt F) arg3.view (Rect.unit (s := S1x1x7168) ov S1x1x128.size inbv).toLoadRect X3) (View.readAt (Elt F) arg2.view (Rect.unit (s := S1x1x7168) ov S1x1x128.size inbv).toLoadRect X2)

include e er ev in
theorem hL_eq : hL c arg1 arg2 arg3 X1 X2 X3 inb inbr inbv = hV (arg1.view.read (Elt F) X1) (arg2.view.read (Elt F) X2) (arg3.view.read (Elt F) X3) k g := by
  unfold hL hV
  rw [read_chunk c arg1 X1 k er, read_group c arg1 X1 k g e, read_part c arg3 X3 g ev, read_part c arg2 X2 g ev]

include e er ev in
theorem codes_ok : IsTile (codesB (arg1.view.read (Elt F) X1) (arg2.view.read (Elt F) X2) (arg3.view.read (Elt F) X3)) (32 * k.val) 32 128
    (⟨Rect.unit o S32x128.size inb, codesV (hL c arg1 arg2 arg3 X1 X2 X3 inb inbr inbv)⟩ : View.Piece (Elt F) S128x7168 .fp8e4m3) (0, g.val) := by
  refine IsTile.unit (q := (0, g.val)) e fun x => ?_
  obtain ⟨h1, h2, h3⟩ := tile_at k g e inb x
  rw [hL_eq c arg1 arg2 arg3 X1 X2 X3 k g e er ev]
  unfold codesB
  rw [h1, h2, h3]

include e er ev in
theorem act_ok : IsTile (actB (arg1.view.read (Elt F) X1) (arg2.view.read (Elt F) X2) (arg3.view.read (Elt F) X3)) (32 * k.val) 32 128
    (⟨Rect.unit o S32x128.size inb, shapeCast S32x128 (actV (hL c arg1 arg2 arg3 X1 X2 X3 inb inbr inbv)) shapeCasts_S32x128_S32x128⟩ : View.Piece (Elt F) S128x7168 .bf16) (0, g.val) := by
  refine IsTile.unit (q := (0, g.val)) e fun x => ?_
  obtain ⟨h1, h2, h3⟩ := tile_at k g e inb x
  rw [hL_eq c arg1 arg2 arg3 X1 X2 X3 k g e er ev, shapeCast_self]
  unfold actB
  rw [h1, h2, h3]

include e er ev in
theorem scale_ok {os : Fin 2 → ℕ} (es : os = ![32 * k.val, g.val]) (inbs : ∀ a, os a + S32x1.size a ≤ S128x56.size a) :
    IsTile (scaleB (arg1.view.read (Elt F) X1) (arg2.view.read (Elt F) X2) (arg3.view.read (Elt F) X3)) (32 * k.val) 32 1
    (⟨Rect.unit os S32x1.size inbs, scaleV (hL c arg1 arg2 arg3 X1 X2 X3 inb inbr inbv)⟩ : View.Piece (Elt F) S128x56 .f32) (0, g.val) := by
  refine IsTile.unit (q := (0, g.val)) (by rw [es]; show _ = ![_, 1 * g.val]; rw [Nat.one_mul]; rfl) fun x => ?_
  rw [hL_eq c arg1 arg2 arg3 X1 X2 X3 k g e er ev]
  subst es
  have h0 : (x 0).val < 32 := (x 0).isLt
  have h1 : (x 1).val < 1 := (x 1).isLt
  have e0 : ((Rect.unit (s := S128x56) ![32 * k.val, g.val] S32x1.size inbs).emb x 0).val = 32 * k.val + (x 0).val := by
    rw [Rect.emb_apply]; show 32 * k.val + 1 * (x 0).val = _; omega
  have e1 : ((Rect.unit (s := S128x56) ![32 * k.val, g.val] S32x1.size inbs).emb x 1) = g := by
    refine Fin.ext ?_; rw [Rect.emb_apply]; show g.val + 1 * (x 1).val = _; omega
  unfold scaleB
  have a1 : chunkOf ((Rect.unit (s := S128x56) ![32 * k.val, g.val] S32x1.size inbs).emb x) = k := by
    refine Fin.ext ?_; show _ / 32 = k.val; rw [e0]; omega
  rw [a1, e1]
  congr 1; funext a; refine Fin.ext ?_
  fin_cases a
  · show (x 0).val = _ % 32; rw [e0]; omega
  · show (x 1).val = 0; omega
end Tile

/-! ## A trip's tiles -/

/-- The offsets of a trip's groups of columns, in the program's words; -/
def groupOff (k : Fin k0_t2_loop.trips) : Fin 56 → Fin 2 → ℕ :=
  ![k0_off120 k, k0_off122 k, k0_off124 k, k0_off126 k, k0_off128 k, k0_off130 k, k0_off132 k, k0_off134 k, k0_off136 k, k0_off138 k, k0_off140 k, k0_off142 k, k0_off144 k, k0_off146 k, k0_off148 k, k0_off150 k, k0_off152 k, k0_off154 k, k0_off156 k, k0_off158 k, k0_off160 k, k0_off162 k, k0_off164 k, k0_off166 k, k0_off168 k, k0_off170 k, k0_off172 k, k0_off174 k, k0_off176 k, k0_off178 k, k0_off180 k, k0_off182 k, k0_off184 k, k0_off186 k, k0_off188 k, k0_off190 k, k0_off192 k, k0_off194 k, k0_off196 k, k0_off198 k, k0_off200 k, k0_off202 k, k0_off204 k, k0_off206 k, k0_off208 k, k0_off210 k, k0_off212 k, k0_off214 k, k0_off216 k, k0_off218 k, k0_off220 k, k0_off222 k, k0_off224 k, k0_off226 k, k0_off228 k, k0_off230 k]
theorem groupOff_eq : ∀ (k : Fin k0_t2_loop.trips) (g : Fin 56), groupOff k g = ![32 * k.val, 128 * g.val] := by decide +kernel
theorem groupOff_inb (k : Fin k0_t2_loop.trips) (g : Fin 56) : ∀ a, groupOff k g a + S32x128.size a ≤ S128x7168.size a := by
  have h := Nat.lt_of_lt_of_le k.isLt k0_t2_abs.2.1
  have := g.isLt
  rw [groupOff_eq]; intro a; fin_cases a
  · show 32 * k.val + 32 ≤ 128; omega
  · show 128 * g.val + 128 ≤ 7168; omega
theorem part_inb (g : Fin 56) : ∀ a, (![0, 0, 128 * g.val] : Fin 3 → ℕ) a + S1x1x128.size a ≤ S1x1x7168.size a := by
  have := g.isLt
  intro a; fin_cases a
  · show 0 + 1 ≤ 1; omega
  · show 0 + 1 ≤ 1; omega
  · show 128 * g.val + 128 ≤ 7168; omega
theorem trips2 : k0_t2_loop.trips = 4 := by decide +kernel

section At
variable (c : Dev nD)
  (arg1 : Memref sig .tc .vmem S128x7168 .bf16) (arg2 : Memref sig .tc .vmem S1x1x7168 .bf16) (arg3 : Memref sig .tc .vmem S1x1x7168 .bf16)
  (X1 : Buf (Elt F) (arg1.view.loc (c : Thread nD τ))) (X2 : Buf (Elt F) (arg2.view.loc (c : Thread nD τ))) (X3 : Buf (Elt F) (arg3.view.loc (c : Thread nD τ)))
  (k : Fin k0_t2_loop.trips) (g : Fin 56)

def CodesTile (p : View.Piece (Elt F) S128x7168 .fp8e4m3) : Prop :=
  IsTile (codesB (arg1.view.read (Elt F) X1) (arg2.view.read (Elt F) X2) (arg3.view.read (Elt F) X3)) (32 * k.val) 32 128 p (0, g.val)
def ActTile (p : View.Piece (Elt F) S128x7168 .bf16) : Prop :=
  IsTile (actB (arg1.view.read (Elt F) X1) (arg2.view.read (Elt F) X2) (arg3.view.read (Elt F) X3)) (32 * k.val) 32 128 p (0, g.val)
def ScaleTile (p : View.Piece (Elt F) S128x56 .f32) : Prop :=
  IsTile (scaleB (arg1.view.read (Elt F) X1) (arg2.view.read (Elt F) X2) (arg3.view.read (Elt F) X3)) (32 * k.val) 32 1 p (0, g.val)

/-- The group of a trip, from the trip's loads. -/
abbrev hAt : FVec F S32x128 .f32 :=
  hL c arg1 arg2 arg3 X1 X2 X3 (o := groupOff k g) (orow := k0_off119 k) (ov := ![0, 0, 128 * g.val]) (groupOff_inb k g) (k0_off119_inb k) (part_inb g)

theorem codes_at : CodesTile c arg1 arg2 arg3 X1 X2 X3 k g ⟨Rect.unit (groupOff k g) S32x128.size (groupOff_inb k g), codesV (hAt c arg1 arg2 arg3 X1 X2 X3 k g)⟩ :=
  codes_ok c arg1 arg2 arg3 X1 X2 X3 (k.cast trips2) g (groupOff_eq k g) (k0_off119_eq k) rfl _ _ _
theorem act_at : ActTile c arg1 arg2 arg3 X1 X2 X3 k g ⟨Rect.unit (groupOff k g) S32x128.size (groupOff_inb k g),
    shapeCast S32x128 (actV (hAt c arg1 arg2 arg3 X1 X2 X3 k g)) shapeCasts_S32x128_S32x128⟩ :=
  act_ok c arg1 arg2 arg3 X1 X2 X3 (k.cast trips2) g (groupOff_eq k g) (k0_off119_eq k) rfl _ _ _
theorem scale_at {os : Fin 2 → ℕ} (inbs : ∀ a, os a + S32x1.size a ≤ S128x56.size a) (es : os = ![32 * k.val, g.val]) :
    ScaleTile c arg1 arg2 arg3 X1 X2 X3 k g ⟨Rect.unit os S32x1.size inbs, scaleV (hAt c arg1 arg2 arg3 X1 X2 X3 k g)⟩ :=
  scale_ok c arg1 arg2 arg3 X1 X2 X3 (k.cast trips2) g (groupOff_eq k g) (k0_off119_eq k) rfl _ _ _ es inbs
end At

/-- The groups of a trip, in the order a run lists its stores: the last first. -/
def groupIdx : List (Fin 56) :=
  [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
end Cert.Proof.KernelIdeal
-- ==== Proof.Trip2.lean ====
/-
  One trip of the loop over the block's rows: 32 rows normalised, modulated and quantised, 128 columns at a time.
-/
module

public import proofs.«01_k».proof.Proof.Rows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Trip
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (arg12 : Memref sig .tc .vmem S128x7168 .bf16) (harg12 : arg12.IsWhole)
  (X1 : Buf (Elt F) (arg1.view.loc (c : Thread nD τ))) (X2 : Buf (Elt F) (arg2.view.loc (c : Thread nD τ))) (X3 : Buf (Elt F) (arg3.view.loc (c : Thread nD τ)))

abbrev rowsG (k : Fin k0_t2_loop.trips) : Prog (TpuEff nD τ sig (Elt F) Λ₀ .tc) Unit :=
  k0_t2_body (F := F) i arg1 harg1 arg2 harg2 arg3 harg3 arg4 harg4 wM (Memref.isWhole_whole _) arg6 harg6 arg7 harg7 arg8 harg8 arg9 harg9 arg10 harg10 wbM (Memref.isWhole_whole _) arg12 harg12 stM (Memref.isWhole_whole _) cc0_scratch3 k PUnit.unit

/-- What a trip holds: the rows and the two modulation vectors as they are, the three arrays it stores into. -/
def rowsAt (f9 : Buf (Elt F) (arg9.view.loc (c : Thread nD τ))) (f10 : Buf (Elt F) (arg10.view.loc (c : Thread nD τ))) (f12 : Buf (Elt F) (arg12.view.loc (c : Thread nD τ))) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg9.view.loc (c : Thread nD τ) ↦[arg9.view.set]{fullShare} f9)
    ∗ (arg10.view.loc (c : Thread nD τ) ↦[arg10.view.set]{fullShare} f10) ∗ (arg12.view.loc (c : Thread nD τ) ↦[arg12.view.set]{fullShare} f12))

set_option backward.proofsInPublic true in
def rowsRun (k : Fin k0_t2_loop.trips) :
    Σ' (L9 : List (View.Piece (Elt F) S128x7168 .fp8e4m3)) (L10 : List (View.Piece (Elt F) S128x56 .f32)),
      { L12 : List (View.Piece (Elt F) S128x7168 .bf16) // ∀ f9 f10 f12,
        rowsAt c arg1 arg2 arg3 arg9 arg10 arg12 X1 X2 X3 f9 f10 f12
          ⊢ wp frame (wpE (defs₀ (F := F)) 𝒱₀ (c : Thread nD τ) none) Set.univ (rowsG i arg1 harg1 arg2 harg2 arg3 harg3 arg4 harg4 arg6 harg6 arg7 harg7 arg8 harg8 arg9 harg9 arg10 harg10 arg12 harg12 k)
            (fun _ => rowsAt c arg1 arg2 arg3 arg9 arg10 arg12 X1 X2 X3 (arg9.view.writes (Elt F) f9 L9) (arg10.view.writes (Elt F) f10 L10) (arg12.view.writes (Elt F) f12 L12)) } := by
  have hk : k.val < 4 := Nat.lt_of_lt_of_le k.isLt k0_t2_abs.2.1
  refine ⟨?_, ?_, ?_, fun f9 f10 f12 => ?run⟩
  case run =>
    unfold rowsAt
    iintro ⟨HR1, HR2, HR3, HW9, HW10, HW12⟩
    dsimp only [rowsG]
    sl_unfold [k0_t2_body]
    sl_exec
    sl_step
    isplitl [HR1]; · iexact HR1
    isplitl [HR2]; · iexact HR2
    isplitl [HR3]; · iexact HR3
    isplitl [HW9]; · iexact HW9
    isplitl [HW10]; · iexact HW10
    iexact HW12

/-- The codes a trip stores, group by group. -/
theorem rowsRun_codes (k : Fin k0_t2_loop.trips) :
    List.Forall₂ (fun p g => CodesTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).1 groupIdx := by
  unfold rowsRun groupIdx
  dsimp only
  repeat' first
    | exact List.Forall₂.nil
    | refine List.Forall₂.cons (codes_at c arg1 arg2 arg3 X1 X2 X3 k _) ?_

/-- The scales a trip stores, group by group. -/
theorem rowsRun_scale (k : Fin k0_t2_loop.trips) :
    List.Forall₂ (fun p g => ScaleTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).2.1 groupIdx := by
  unfold rowsRun groupIdx
  dsimp only
  repeat' first
    | exact List.Forall₂.nil
    | refine List.Forall₂.cons (scale_at c arg1 arg2 arg3 X1 X2 X3 k _ _ ClosedOff.eq) ?_

/-- The dequantised activations a trip stores, group by group. -/
theorem rowsRun_act (k : Fin k0_t2_loop.trips) :
    List.Forall₂ (fun p g => ActTile c arg1 arg2 arg3 X1 X2 X3 k g p)
      (rowsRun c i arg1 harg1 arg2 harg2 arg3 harg3 arg4 harg4 arg6 harg6 arg7 harg7 arg8 harg8 arg9 harg9 arg10 harg10 arg12 harg12 X1 X2 X3 k).2.2.1 groupIdx := by
  unfold rowsRun groupIdx
  dsimp only
  repeat' first
    | exact List.Forall₂.nil
    | refine List.Forall₂.cons (act_at c arg1 arg2 arg3 X1 X2 X3 k _) ?_

end Trip
end Cert.Proof.KernelIdeal
-- ==== Proof.LoopInv.lean ====
/-
  The two loops of the kernel body by their invariants: the weight ring, and the block's rows.
-/
module

public import proofs.«01_k».proof.Proof.Trip1
public import proofs.«01_k».proof.Proof.Trip2

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F] [Named F]

local notation "𝕄" => MT nD τ sig Unit (Elt F) ℕ (UU nD τ) ℕ

theorem tileIdx_cov : ∀ h < 2, ∀ n < 28, (h, n) ∈ tileIdx := by decide +kernel
theorem tileIdx_lt : ∀ q ∈ tileIdx, q.1 < 2 := by decide +kernel
theorem groupIdx_cov : ∀ h < 1, ∀ n < 56, (h, n) ∈ groupIdx.map (fun g => (0, g.val)) := by decide +kernel
theorem groupIdx_lt : ∀ q ∈ groupIdx.map (fun g => ((0 : ℕ), g.val)), q.1 < 1 := by decide +kernel

section Ring
variable (c : Dev nD) (XW : Buf (Elt F) (wM.view.loc (c : Thread nD τ))) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole) (k0_h1 : k0_cond1 i = 1#1)
  (X6 : Buf (Elt F) (arg6.view.loc (c : Thread nD τ)))

/-- Rows `0` to `256 k - 1` of the carried weight are scaled. -/
def WidenedTo (k : ℕ) (f : Buf (Elt F) (wbM.view.loc (c : Thread nD τ))) : Prop :=
  ∀ y : S7168x3584.Idx, (y 0).val < 256 * k → wbM.view.read (Elt F) f y = Wd c XW arg6 X6 y

/-- A trip's 56 tiles scale 256 further rows. -/
theorem widened_step (k : ℕ) {L : List (View.Piece (Elt F) S7168x3584 .bf16)} (hL : List.Forall₂ (IsTile (Wd c XW arg6 X6) (256 * k) 128 128) L tileIdx)
    (f : Buf (Elt F) (wbM.view.loc (c : Thread nD τ))) (h : WidenedTo c XW arg6 X6 k f) : WidenedTo c XW arg6 X6 (k + 1) (wbM.view.writes (Elt F) f L) := by
  intro y hy
  rw [read_of_tiles wbM.view f _ hL tileIdx_cov tileIdx_lt (by decide) y]
  split
  · rfl
  · exact h y (by omega)

/-- The carried weight, its first `256 k` rows scaled. -/
def wdP (k : ℕ) : sProp 𝕄 := iprop(∃ f, ⌜WidenedTo c XW arg6 X6 k f⌝ ∗ wbP c f)

set_option warn.classDefReducibility false in
/-- The ring: before trip `k` the rows before block `k` are scaled and block `k` is in flight. -/
def loopRing :
    LoopInvTy_k0_t1 (F := F) Unit ℕ (UU nD τ) ℕ 𝒱₀ c none Set.univ i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 k0_h1 where
  inv k _ := iprop(wdP c XW arg6 X6 k ∗ wsP c arg6 X6 ∗ (∃ W, owes (c : Thread nD τ) 0 W) ∗ bigSep (Ring.homeSet 1 k) (homeP c XW) ∗ ringAt c XW k)
  step k _ := by
    unfold wdP
    iintro ⟨⟨%f, %hf, Hw⟩, H⟩
    by_cases hk : k.val + 1 < 28
    · iapply (wp_wand_r Idealize.ShloMosaic.frame (wpE (defs₀ (F := F)) 𝒱₀ (c : Thread nD τ) none) Set.univ)
      isplitl [Hw H]
      · iapply ((tripRun c XW i arg1 harg1 arg2 harg2 arg3 harg3 arg4 harg4 arg6 harg6 arg7 harg7 arg8 harg8 arg9 harg9 arg10 harg10 k0_h1 X6 k hk).2 f)
        unfold resAt
        isplitl [Hw]; · iexact Hw
        iexact H
      · unfold resAt
        iintro %_ ⟨Hw', H'⟩
        isplitl [Hw']
        · iexists _
          isplitr
          · ipureintro
            exact widened_step c XW arg6 X6 k.val (tripRun_tiles c XW i arg1 harg1 arg2 harg2 arg3 harg3 arg4 harg4 arg6 harg6 arg7 harg7 arg8 harg8 arg9 harg9 arg10 harg10 k0_h1 X6 k hk) f hf
          · iexact Hw'
        · iexact H'
    · iapply (wp_wand_r Idealize.ShloMosaic.frame (wpE (defs₀ (F := F)) 𝒱₀ (c : Thread nD τ) none) Set.univ)
      isplitl [Hw H]
      · iapply ((tripLast c XW i arg1 harg1 arg2 harg2 arg3 harg3 arg4 harg4 arg6 harg6 arg7 harg7 arg8 harg8 arg9 harg9 arg10 harg10 k0_h1 X6 k hk).2 f)
        unfold resAt
        isplitl [Hw]; · iexact Hw
        iexact H
      · unfold resAt
        iintro %_ ⟨Hw', H'⟩
        isplitl [Hw']
        · iexists _
          isplitr
          · ipureintro
            exact widened_step c XW arg6 X6 k.val (tripLast_tiles c XW i arg1 harg1 arg2 harg2 arg3 harg3 arg4 harg4 arg6 harg6 arg7 harg7 arg8 harg8 arg9 harg9 arg10 harg10 k0_h1 X6 k hk) f hf
          · iexact Hw'
        · iexact H'
end Ring

section Rows
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (X1 : Buf (Elt F) (arg1.view.loc (c : Thread nD τ))) (X2 : Buf (Elt F) (arg2.view.loc (c : Thread nD τ))) (X3 : Buf (Elt F) (arg3.view.loc (c : Thread nD τ)))

/-- Rows `0` to `32 k - 1` of the block are done: codes, scales and dequantised activations. -/
def DoneTo (k : ℕ) (f9 : Buf (Elt F) (arg9.view.loc (c : Thread nD τ))) (f10 : Buf (Elt F) (arg10.view.loc (c : Thread nD τ))) (f12 : Buf (Elt F) (aM.view.loc (c : Thread nD τ))) : Prop :=
  (∀ y : S128x7168.Idx, (y 0).val < 32 * k → arg9.view.read (Elt F) f9 y = codesB (arg1.view.read (Elt F) X1) (arg2.view.read (Elt F) X2) (arg3.view.read (Elt F) X3) y)
    ∧ (∀ y : S128x56.Idx, (y 0).val < 32 * k → arg10.view.read (Elt F) f10 y = scaleB (arg1.view.read (Elt F) X1) (arg2.view.read (Elt F) X2) (arg3.view.read (Elt F) X3) y)
    ∧ (∀ y : S128x7168.Idx, (y 0).val < 32 * k → aM.view.read (Elt F) f12 y = actB (arg1.view.read (Elt F) X1) (arg2.view.read (Elt F) X2) (arg3.view.read (Elt F) X3) y)

/-- A trip's groups finish 32 further rows. -/
theorem done_step (k : Fin k0_t2_loop.trips) {L9 L10 L12} (h9 : List.Forall₂ (fun p g => CodesTile c arg1 arg2 arg3 X1 X2 X3 k g p) L9 groupIdx)
    (h10 : List.Forall₂ (fun p g => ScaleTile c arg1 arg2 arg3 X1 X2 X3 k g p) L10 groupIdx) (h12 : List.Forall₂ (fun p g => ActTile c arg1 arg2 arg3 X1 X2 X3 k g p) L12 groupIdx)
    (f9) (f10) (f12) (h : DoneTo c arg1 arg2 arg3 arg9 arg10 X1 X2 X3 k.val f9 f10 f12) :
    DoneTo c arg1 arg2 arg3 arg9 arg10 X1 X2 X3 (k.val + 1) (arg9.view.writes (Elt F) f9 L9) (arg10.view.writes (Elt F) f10 L10) (aM.view.writes (Elt F) f12 L12) := by
  refine ⟨fun y hy => ?_, fun y hy => ?_, fun y hy => ?_⟩
  · rw [read_of_tiles arg9.view f9 _ (List.forall₂_map_right_iff.mpr h9) groupIdx_cov groupIdx_lt (by decide) y]
    split
    · rfl
    · exact h.1 y (by omega)
  · rw [read_of_tiles arg10.view f10 _ (List.forall₂_map_right_iff.mpr h10) groupIdx_cov groupIdx_lt (by decide) y]
    split
    · rfl
    · exact h.2.1 y (by omega)
  · rw [read_of_tiles aM.view f12 _ (List.forall₂_map_right_iff.mpr h12) groupIdx_cov groupIdx_lt (by decide) y]
    split
    · rfl
    · exact h.2.2 y (by omega)

/-- What the rows' loop holds before trip `k`: the rows before chunk `k` done. -/
def rowsP (k : ℕ) : sProp 𝕄 := iprop(∃ f9 f10 f12, ⌜DoneTo c arg1 arg2 arg3 arg9 arg10 X1 X2 X3 k f9 f10 f12⌝ ∗ rowsAt c arg1 arg2 arg3 arg9 arg10 aM X1 X2 X3 f9 f10 f12)

set_option warn.classDefReducibility false in
/-- The rows: before trip `k` the rows before chunk `k` are done. -/
def loopRows :
    LoopInvTy_k0_t2 (F := F) Unit ℕ (UU nD τ) ℕ 𝒱₀ c none Set.univ i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3 where
  inv k _ := rowsP c arg1 arg2 arg3 arg9 arg10 X1 X2 X3 k
  step k _ := by
    unfold rowsP
    iintro ⟨%f9, %f10, %f12, %hf, H⟩
    iapply (wp_wand_r Idealize.ShloMosaic.frame (wpE (defs₀ (F := F)) 𝒱₀ (c : Thread nD τ) none) Set.univ)
    isplitl [H]
    · iapply ((rowsRun c i arg1 harg1 arg2 harg2 arg3 harg3 arg4 harg4 arg6 harg6 arg7 harg7 arg8 harg8 arg9 harg9 arg10 harg10 aM (Memref.isWhole_whole _) X1 X2 X3 k).2.2.2 f9 f10 f12); iexact H
    · iintro %_ H'
      iexists _; iexists _; iexists _
      isplitr
      · ipureintro
        exact done_step c arg1 arg2 arg3 arg9 arg10 X1 X2 X3 k
          (rowsRun_codes c i arg1 harg1 arg2 harg2 arg3 harg3 arg4 harg4 arg6 harg6 arg7 harg7 arg8 harg8 arg9 harg9 arg10 harg10 aM (Memref.isWhole_whole _) X1 X2 X3 k)
          (rowsRun_scale c i arg1 harg1 arg2 harg2 arg3 harg3 arg4 harg4 arg6 harg6 arg7 harg7 arg8 harg8 arg9 harg9 arg10 harg10 aM (Memref.isWhole_whole _) X1 X2 X3 k)
          (rowsRun_act c i arg1 harg1 arg2 harg2 arg3 harg3 arg4 harg4 arg6 harg6 arg7 harg7 arg8 harg8 arg9 harg9 arg10 harg10 aM (Memref.isWhole_whole _) X1 X2 X3 k) f9 f10 f12 hf
      · iexact H'
end Rows
end Cert.Proof.KernelIdeal
-- ==== Proof.Panel.lean ====
/-
  The seven column panels of the product: what each store of the output block is, tile by tile.
-/
module

public import proofs.«01_k».proof.Proof.LoopInv

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ (UU nD τ) ℕ

/-- One panel: the product with 512 columns of the weight, the bias added, the gate multiplied in. -/
def panelV (a : FVec F S128x7168 .bf16) (w : FVec F S7168x512 .bf16) (b : FVec F S1x512 .bf16) (g : FVec F S1x1x512 .bf16) : FVec F S128x512 .bf16 :=
  truncf .bf16 (mulf (addf (matmul dot_S128x7168_S7168x512_S128x512_1_0_0_1_n_n none a w (constant S128x512 .f32 0x00000000#32))
      (broadcastTo S128x512 (extf .f32 (shapeCast S1x512 b shapeCasts_S1x512_S1x512) bitsLt_bf16_f32) broadcasts_S1x512_S128x512))
    (broadcastTo S128x512 (extf .f32 (shapeCast S1x512 g shapeCasts_S1x1x512_S1x512) bitsLt_bf16_f32) broadcasts_S1x512_S128x512)) bitsLt_bf16_f32

/-- Panel `n`'s columns of the weight, of the bias, of the gate. -/
def wPart (w : S7168x3584.Idx → F .bf16) (n : Fin 7) : FVec F S7168x512 .bf16 := fun z => w (ix2 (z 0) ⟨512 * n.val + (z 1).val, by have : (z 1).val < 512 := (z 1).isLt; have := n.isLt; omega⟩)
def bPart (b : S1x3584.Idx → F .bf16) (n : Fin 7) : FVec F S1x512 .bf16 := fun z => b (ix2 0 ⟨512 * n.val + (z 1).val, by have : (z 1).val < 512 := (z 1).isLt; have := n.isLt; omega⟩)
def gPart (g : S1x1x3584.Idx → F .bf16) (n : Fin 7) : FVec F S1x1x512 .bf16 := fun z => g (ix3 0 0 ⟨512 * n.val + (z 2).val, by have : (z 2).val < 512 := (z 2).isLt; have := n.isLt; omega⟩)

def panelOf (y : S128x3584.Idx) : Fin 7 := ⟨(y 1).val / 512, by have : (y 1).val < 3584 := (y 1).isLt; omega⟩
def inPanel (y : S128x3584.Idx) : S128x512.Idx := ix2 (y 0) ⟨(y 1).val % 512, Nat.mod_lt _ (by decide)⟩

/-- The output block from the activations, the weight, the bias and the gate. -/
def yB (a : S128x7168.Idx → F .bf16) (w : S7168x3584.Idx → F .bf16) (b : S1x3584.Idx → F .bf16) (g : S1x1x3584.Idx → F .bf16) (y : S128x3584.Idx) : F .bf16 :=
  panelV a (wPart w (panelOf y)) (bPart b (panelOf y)) (gPart g (panelOf y)) (inPanel y)

section Panel
variable (c : Dev nD) (arg4 : Memref sig .tc .vmem S1x1x3584 .bf16) (arg7 : Memref sig .tc .vmem S1x3584 .bf16)
  (f12 : Buf (Elt F) (aM.view.loc (c : Thread nD τ))) (fw : Buf (Elt F) (wbM.view.loc (c : Thread nD τ)))
  (X4 : Buf (Elt F) (arg4.view.loc (c : Thread nD τ))) (X7 : Buf (Elt F) (arg7.view.loc (c : Thread nD τ)))

theorem read_act (inb : ∀ a, (![0, 0] : Fin 2 → ℕ) a + S128x7168.size a ≤ S128x7168.size a) :
    View.readAt (Elt F) aM.view (Rect.unit (s := S128x7168) ![0, 0] S128x7168.size inb).toLoadRect f12 = aM.view.read (Elt F) f12 := by
  funext z
  show aM.view.read (Elt F) f12 _ = aM.view.read (Elt F) f12 _
  congr 1; funext a; refine Fin.ext ?_
  fin_cases a
  · show 0 + 1 * (z 0).val = (z 0).val; omega
  · show 0 + 1 * (z 1).val = (z 1).val; omega
theorem read_wPart (n : Fin 7) (inb : ∀ a, (![0, 512 * n.val] : Fin 2 → ℕ) a + S7168x512.size a ≤ S7168x3584.size a) :
    View.readAt (Elt F) wbM.view (Rect.unit (s := S7168x3584) ![0, 512 * n.val] S7168x512.size inb).toLoadRect fw = wPart (wbM.view.read (Elt F) fw) n := by
  funext z
  show wbM.view.read (Elt F) fw _ = wbM.view.read (Elt F) fw _
  congr 1; funext a; refine Fin.ext ?_
  fin_cases a
  · show 0 + 1 * (z 0).val = (z 0).val; omega
  · show 512 * n.val + 1 * (z 1).val = 512 * n.val + (z 1).val; omega
theorem read_bPart (n : Fin 7) (inb : ∀ a, (![0, 512 * n.val] : Fin 2 → ℕ) a + S1x512.size a ≤ S1x3584.size a) :
    View.readAt (Elt F) arg7.view (Rect.unit (s := S1x3584) ![0, 512 * n.val] S1x512.size inb).toLoadRect X7 = bPart (arg7.view.read (Elt F) X7) n := by
  funext z
  show arg7.view.read (Elt F) X7 _ = arg7.view.read (Elt F) X7 _
  have h0 : (z 0).val < 1 := (z 0).isLt
  congr 1; funext a; refine Fin.ext ?_
  fin_cases a
  · show 0 + 1 * (z 0).val = 0; omega
  · show 512 * n.val + 1 * (z 1).val = 512 * n.val + (z 1).val; omega
theorem read_gPart (n : Fin 7) (inb : ∀ a, (![0, 0, 512 * n.val] : Fin 3 → ℕ) a + S1x1x512.size a ≤ S1x1x3584.size a) :
    View.readAt (Elt F) arg4.view (Rect.unit (s := S1x1x3584) ![0, 0, 512 * n.val] S1x1x512.size inb).toLoadRect X4 = gPart (arg4.view.read (Elt F) X4) n := by
  funext z
  show arg4.view.read (Elt F) X4 _ = arg4.view.read (Elt F) X4 _
  have h0 : (z 0).val < 1 := (z 0).isLt
  have h1 : (z 1).val < 1 := (z 1).isLt
  congr 1; funext a; refine Fin.ext ?_
  fin_cases a
  · show 0 + 1 * (z 0).val = 0; omega
  · show 0 + 1 * (z 1).val = 0; omega
  · show 512 * n.val + 1 * (z 2).val = 512 * n.val + (z 2).val; omega

/-- Panel `n`'s store is a tile of the output block. -/
def PanelTile (n : Fin 7) (p : View.Piece (Elt F) S128x3584 .bf16) : Prop :=
  IsTile (yB (aM.view.read (Elt F) f12) (wbM.view.read (Elt F) fw) (arg7.view.read (Elt F) X7) (arg4.view.read (Elt F) X4)) 0 128 512 p (0, n.val)

theorem panel_at (n : Fin 7) (inb : ∀ a, (![0, 512 * n.val] : Fin 2 → ℕ) a + S128x512.size a ≤ S128x3584.size a)
    (inba : ∀ a, (![0, 0] : Fin 2 → ℕ) a + S128x7168.size a ≤ S128x7168.size a)
    (inbw : ∀ a, (![0, 512 * n.val] : Fin 2 → ℕ) a + S7168x512.size a ≤ S7168x3584.size a)
    (inbb : ∀ a, (![0, 512 * n.val] : Fin 2 → ℕ) a + S1x512.size a ≤ S1x3584.size a)
    (inbg : ∀ a, (![0, 0, 512 * n.val] : Fin 3 → ℕ) a + S1x1x512.size a ≤ S1x1x3584.size a) :
    PanelTile c arg4 arg7 f12 fw X4 X7 n ⟨Rect.unit (s := S128x3584) ![0, 512 * n.val] S128x512.size inb,
      panelV (View.readAt (Elt F) aM.view (Rect.unit (s := S128x7168) ![0, 0] S128x7168.size inba).toLoadRect f12)
        (View.readAt (Elt F) wbM.view (Rect.unit (s := S7168x3584) ![0, 512 * n.val] S7168x512.size inbw).toLoadRect fw)
        (View.readAt (Elt F) arg7.view (Rect.unit (s := S1x3584) ![0, 512 * n.val] S1x512.size inbb).toLoadRect X7)
        (View.readAt (Elt F) arg4.view (Rect.unit (s := S1x1x3584) ![0, 0, 512 * n.val] S1x1x512.size inbg).toLoadRect X4)⟩ := by
  rw [read_act, read_wPart, read_bPart, read_gPart]
  refine IsTile.unit (q := (0, n.val)) rfl fun x => ?_
  have h0 : (x 0).val < 128 := (x 0).isLt
  have h1 : (x 1).val < 512 := (x 1).isLt
  have e0 : ((Rect.unit (s := S128x3584) ![0, 512 * n.val] S128x512.size inb).emb x 0).val = (x 0).val := by
    rw [Rect.emb_apply]; show 0 + 1 * (x 0).val = _; omega
  have e1 : ((Rect.unit (s := S128x3584) ![0, 512 * n.val] S128x512.size inb).emb x 1).val = 512 * n.val + (x 1).val := by
    rw [Rect.emb_apply]; show 512 * n.val + 1 * (x 1).val = _; omega
  have a1 : panelOf ((Rect.unit (s := S128x3584) ![0, 512 * n.val] S128x512.size inb).emb x) = n := by
    refine Fin.ext ?_; show _ / 512 = n.val; rw [e1]; omega
  have a2 : inPanel ((Rect.unit (s := S128x3584) ![0, 512 * n.val] S128x512.size inb).emb x) = x := by
    funext a; refine Fin.ext ?_
    fin_cases a
    · show _ = (x 0).val; exact e0
    · show _ % 512 = (x 1).val; rw [e1]; omega
  unfold yB
  rw [a1, a2]

theorem inb_a : ∀ a, (![0, 0] : Fin 2 → ℕ) a + S128x7168.size a ≤ S128x7168.size a := by decide
theorem inb_o (n : Fin 7) : ∀ a, (![0, 512 * n.val] : Fin 2 → ℕ) a + S128x512.size a ≤ S128x3584.size a := by
  have := n.isLt; intro a; fin_cases a
  · show 0 + 128 ≤ 128; omega
  · show 512 * n.val + 512 ≤ 3584; omega
theorem inb_w (n : Fin 7) : ∀ a, (![0, 512 * n.val] : Fin 2 → ℕ) a + S7168x512.size a ≤ S7168x3584.size a := by
  have := n.isLt; intro a; fin_cases a
  · show 0 + 7168 ≤ 7168; omega
  · show 512 * n.val + 512 ≤ 3584; omega
theorem inb_b (n : Fin 7) : ∀ a, (![0, 512 * n.val] : Fin 2 → ℕ) a + S1x512.size a ≤ S1x3584.size a := by
  have := n.isLt; intro a; fin_cases a
  · show 0 + 1 ≤ 1; omega
  · show 512 * n.val + 512 ≤ 3584; omega
theorem inb_g (n : Fin 7) : ∀ a, (![0, 0, 512 * n.val] : Fin 3 → ℕ) a + S1x1x512.size a ≤ S1x1x3584.size a := by
  have := n.isLt; intro a; fin_cases a
  · show 0 + 1 ≤ 1; omega
  · show 0 + 1 ≤ 1; omega
  · show 512 * n.val + 512 ≤ 3584; omega
end Panel

/-- The panels in the order a run lists their stores: the last first. -/
def panelIdx : List (Fin 7) := [6, 5, 4, 3, 2, 1, 0]
theorem panelIdx_cov : ∀ h < 1, ∀ n < 7, (h, n) ∈ panelIdx.map (fun g => ((0 : ℕ), g.val)) := by decide
theorem panelIdx_lt : ∀ q ∈ panelIdx.map (fun g => ((0 : ℕ), g.val)), q.1 < 1 := by decide

end Cert.Proof.KernelIdeal
-- ==== Proof.Body.lean ====
/-
  The kernel body at one grid point, at the first point (the weight ring runs) and at a later one (the carried weight is there).
-/
module

public import proofs.«01_k».proof.Proof.Panel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

local notation "𝕄" => MT nD τ sig Unit (Elt F) ℕ (UU nD τ) ℕ

theorem rows_trips : k0_t2_loop.trips = 4 := by decide +kernel

section Body
variable (c : Dev nD) (i : grid0.Coords)
  (arg1 : Memref sig .tc .vmem S128x7168 .bf16) (harg1 : arg1.IsWhole) (arg2 : Memref sig .tc .vmem S1x1x7168 .bf16) (harg2 : arg2.IsWhole)
  (arg3 : Memref sig .tc .vmem S1x1x7168 .bf16) (harg3 : arg3.IsWhole) (arg4 : Memref sig .tc .vmem S1x1x3584 .bf16) (harg4 : arg4.IsWhole)
  (arg6 : Memref sig .tc .smem S56x28 .f32) (harg6 : arg6.IsWhole) (arg7 : Memref sig .tc .vmem S1x3584 .bf16) (harg7 : arg7.IsWhole)
  (arg8 : Memref sig .tc .vmem S128x3584 .bf16) (harg8 : arg8.IsWhole) (arg9 : Memref sig .tc .vmem S128x7168 .fp8e4m3) (harg9 : arg9.IsWhole)
  (arg10 : Memref sig .tc .vmem S128x56 .f32) (harg10 : arg10.IsWhole)
  (X1 : Buf (Elt F) (arg1.view.loc (c : Thread nD τ))) (X2 : Buf (Elt F) (arg2.view.loc (c : Thread nD τ))) (X3 : Buf (Elt F) (arg3.view.loc (c : Thread nD τ)))
  (X4 : Buf (Elt F) (arg4.view.loc (c : Thread nD τ))) (X6 : Buf (Elt F) (arg6.view.loc (c : Thread nD τ))) (X7 : Buf (Elt F) (arg7.view.loc (c : Thread nD τ)))

abbrev bodyG : Prog (TpuEff nD τ sig (Elt F) Λ₀ .tc) PUnit :=
  cc0__body (F := F) i arg1 harg1 arg2 harg2 arg3 harg3 arg4 harg4 wM (Memref.isWhole_whole _) arg6 harg6 arg7 harg7 arg8 harg8 arg9 harg9 arg10 harg10 wbM (Memref.isWhole_whole _) aM (Memref.isWhole_whole _) stM (Memref.isWhole_whole _) cc0_scratch3

/-- The output block's buffer holds the product with the carried weight `w`. -/
def outP (w : S7168x3584.Idx → F .bf16) : sProp 𝕄 :=
  iprop(∃ f, ⌜arg8.view.read (Elt F) f = yB (actB (arg1.view.read (Elt F) X1) (arg2.view.read (Elt F) X2) (arg3.view.read (Elt F) X3)) w (arg7.view.read (Elt F) X7) (arg4.view.read (Elt F) X4)⌝ ∗ (arg8.view.loc (c : Thread nD τ) ↦[arg8.view.set]{fullShare} f))

/-- The seven stores leave the product, the activations being done. -/
theorem panels_read (f8 : Buf (Elt F) (arg8.view.loc (c : Thread nD τ))) (f9 f10 f12) (fw : Buf (Elt F) (wbM.view.loc (c : Thread nD τ)))
    (hd : DoneTo c arg1 arg2 arg3 arg9 arg10 X1 X2 X3 4 f9 f10 f12) {L : List (View.Piece (Elt F) S128x3584 .bf16)}
    (hL : List.Forall₂ (fun p n => PanelTile c arg4 arg7 f12 fw X4 X7 n p) L panelIdx) :
    arg8.view.read (Elt F) (arg8.view.writes (Elt F) f8 L)
      = yB (actB (arg1.view.read (Elt F) X1) (arg2.view.read (Elt F) X2) (arg3.view.read (Elt F) X3)) (wbM.view.read (Elt F) fw) (arg7.view.read (Elt F) X7) (arg4.view.read (Elt F) X4) := by
  have ha : aM.view.read (Elt F) f12 = actB (arg1.view.read (Elt F) X1) (arg2.view.read (Elt F) X2) (arg3.view.read (Elt F) X3) :=
    funext fun y => hd.2.2 y (by have : (y 0).val < 128 := (y 0).isLt; omega)
  rw [← ha]
  funext y
  rw [read_of_tiles arg8.view f8 _ (List.forall₂_map_right_iff.mpr hL) panelIdx_cov panelIdx_lt (by decide) y]
  have : (y 0).val < 128 := (y 0).isLt
  rw [if_pos (by omega)]

theorem bodyLater (hc : ¬ k0_cond1 i = 1#1) (f8) (fw) :
    iprop(rowsP c arg1 arg2 arg3 arg9 arg10 X1 X2 X3 0 ∗ (arg4.view.loc (c : Thread nD τ) ↦[arg4.view.set]{fullShare} X4) ∗ (arg7.view.loc (c : Thread nD τ) ↦[arg7.view.set]{fullShare} X7)
        ∗ (arg8.view.loc (c : Thread nD τ) ↦[arg8.view.set]{fullShare} f8) ∗ wbP c fw)
      ⊢ wp frame (wpE (defs₀ (F := F)) 𝒱₀ (c : Thread nD τ) none) Set.univ (bodyG i arg1 harg1 arg2 harg2 arg3 harg3 arg4 harg4 arg6 harg6 arg7 harg7 arg8 harg8 arg9 harg9 arg10 harg10)
        (fun _ => iprop(rowsP c arg1 arg2 arg3 arg9 arg10 X1 X2 X3 4 ∗ (arg4.view.loc (c : Thread nD τ) ↦[arg4.view.set]{fullShare} X4) ∗ (arg7.view.loc (c : Thread nD τ) ↦[arg7.view.set]{fullShare} X7)
          ∗ outP c arg1 arg2 arg3 arg4 arg7 arg8 X1 X2 X3 X4 X7 (wbM.view.read (Elt F) fw) ∗ wbP c fw)) := by
  iintro ⟨HR, H4, H7, H8, HW⟩
  dsimp only [bodyG]
  sl_unfold [cc0__body]
  sl_exec
  iapply (exec_loop Idealize.ShloMosaic.frame (wpE (defs₀ (F := F)) 𝒱₀ (c : Thread nD τ) none) Set.univ k0_t2_loop.lb k0_t2_loop.ub k0_t2_loop.st k0_t2_ok PUnit.unit _ (loopRows c i arg1 harg1 arg2 harg2 arg3 harg3 arg4 harg4 arg6 harg6 arg7 harg7 arg8 harg8 arg9 harg9 arg10 harg10 X1 X2 X3)) $$ [HR]
  · unfold loopRows; dsimp only; iexact HR
  iintro %_ HR
  unfold loopRows
  dsimp only
  rw [show Scf.trips k0_t2_loop.lb k0_t2_loop.ub k0_t2_loop.st = 4 from rows_trips]
  unfold rowsP
  icases HR with ⟨%f9, %f10, %f12, %hf, HR⟩
  unfold rowsAt
  icases HR with ⟨HR1, HR2, HR3, HR9, HR10, HR12⟩
  sl_exec
  sl_step
  isplitl [HR1 HR2 HR3 HR9 HR10 HR12]
  · iexists f9; iexists f10; iexists f12
    isplitr; · ipureintro; exact hf
    isplitl [HR1]; · iexact HR1
    isplitl [HR2]; · iexact HR2
    isplitl [HR3]; · iexact HR3
    isplitl [HR9]; · iexact HR9
    isplitl [HR10]; · iexact HR10
    iexact HR12
  isplitl [H4]; · iexact H4
  isplitl [H7]; · iexact H7
  isplitl [H8]
  · unfold outP
    iexists _
    isplitr
    rotate_left
    · iexact H8
    ipureintro
    refine panels_read c arg1 arg2 arg3 arg4 arg7 arg8 arg9 arg10 X1 X2 X3 X4 X7 f8 f9 f10 f12 fw hf ?_
    refine .cons (panel_at c arg4 arg7 f12 fw X4 X7 6 (inb_o 6) inb_a (inb_w 6) (inb_b 6) (inb_g 6)) ?_
    refine .cons (panel_at c arg4 arg7 f12 fw X4 X7 5 (inb_o 5) inb_a (inb_w 5) (inb_b 5) (inb_g 5)) ?_
    refine .cons (panel_at c arg4 arg7 f12 fw X4 X7 4 (inb_o 4) inb_a (inb_w 4) (inb_b 4) (inb_g 4)) ?_
    refine .cons (panel_at c arg4 arg7 f12 fw X4 X7 3 (inb_o 3) inb_a (inb_w 3) (inb_b 3) (inb_g 3)) ?_
    refine .cons (panel_at c arg4 arg7 f12 fw X4 X7 2 (inb_o 2) inb_a (inb_w 2) (inb_b 2) (inb_g 2)) ?_
    refine .cons (panel_at c arg4 arg7 f12 fw X4 X7 1 (inb_o 1) inb_a (inb_w 1) (inb_b 1) (inb_g 1)) ?_
    exact .cons (panel_at c arg4 arg7 f12 fw X4 X7 0 (inb_o 0) inb_a (inb_w 0) (inb_b 0) (inb_g 0)) .nil
  iexact HW

/-- Before the first trip: block 0 in flight into slot 0, slot 1 free. -/
theorem ring_zero (XW : Buf (Elt F) (wM.view.loc (c : Thread nD τ))) (f0) : iprop(flightP c XW 0 0 f0 ∗ (∃ f, slotP c 1 f) ∗ cellP c 1) ⊢ (ringAt c XW 0 : sProp 𝕄) := by
  rw [ringAt_lt c XW (by decide : 0 < 28)]
  iintro ⟨H0, H1, H2⟩
  isplitl [H0]; · iexists f0; iexact H0
  isplitl [H1]; · iexact H1
  iexact H2
/-- After the last: both slots free. -/
theorem ring_end (XW : Buf (Elt F) (wM.view.loc (c : Thread nD τ))) : (ringAt c XW 28 : sProp 𝕄) ⊢ iprop((∃ f, slotP c 0 f) ∗ cellP c 0 ∗ (∃ f, slotP c 1 f) ∗ cellP c 1) := by
  rw [ringAt_ge c XW (by decide : ¬ 28 < 28)]
  exact .rfl
theorem homes_zero (XW : Buf (Elt F) (wM.view.loc (c : Thread nD τ))) :
    bigSep Finset.univ (homeP c XW) = iprop(homeP c XW 0 ∗ bigSep (Ring.homeSet 1 0) (homeP c XW)) := by
  have e : (Finset.univ : Finset (Fin 28)) = insert 0 (Ring.homeSet (NB := 28) 1 0) := by
    ext b; simp only [Finset.mem_univ, Finset.mem_insert, Ring.mem_homeSet, true_iff, Fin.ext_iff]; have := b.isLt; omega
  rw [e, bigSep_insert (by simp [Ring.mem_homeSet])]; rfl
theorem homes_end (XW : Buf (Elt F) (wM.view.loc (c : Thread nD τ))) :
    bigSep (Ring.homeSet 1 28) (homeP c XW) = bigSep Finset.univ (homeP c XW) := by
  have e : (Ring.homeSet (NB := 28) 1 28) = (Finset.univ : Finset (Fin 28)) := by
    ext b; simp only [Finset.mem_univ, Ring.mem_homeSet, iff_true]; have := b.isLt; omega
  rw [e]

theorem bodyFirst (hc : k0_cond1 i = 1#1) (XW : Buf (Elt F) (wM.view.loc (c : Thread nD τ))) (f8) (f0) (f1) (fw) (W) :
    iprop(rowsP c arg1 arg2 arg3 arg9 arg10 X1 X2 X3 0 ∗ (arg4.view.loc (c : Thread nD τ) ↦[arg4.view.set]{fullShare} X4) ∗ (arg7.view.loc (c : Thread nD τ) ↦[arg7.view.set]{fullShare} X7)
        ∗ (arg8.view.loc (c : Thread nD τ) ↦[arg8.view.set]{fullShare} f8) ∗ wbP c fw ∗ wsP c arg6 X6 ∗ owes (c : Thread nD τ) 0 W
        ∗ bigSep Finset.univ (homeP c XW) ∗ slotP c 0 f0 ∗ cellP c 0 ∗ slotP c 1 f1 ∗ cellP c 1)
      ⊢ wp frame (wpE (defs₀ (F := F)) 𝒱₀ (c : Thread nD τ) none) Set.univ (bodyG i arg1 harg1 arg2 harg2 arg3 harg3 arg4 harg4 arg6 harg6 arg7 harg7 arg8 harg8 arg9 harg9 arg10 harg10)
        (fun _ => iprop(rowsP c arg1 arg2 arg3 arg9 arg10 X1 X2 X3 4 ∗ (arg4.view.loc (c : Thread nD τ) ↦[arg4.view.set]{fullShare} X4) ∗ (arg7.view.loc (c : Thread nD τ) ↦[arg7.view.set]{fullShare} X7)
          ∗ outP c arg1 arg2 arg3 arg4 arg7 arg8 X1 X2 X3 X4 X7 (Wd c XW arg6 X6) ∗ (∃ fw', ⌜wbM.view.read (Elt F) fw' = Wd c XW arg6 X6⌝ ∗ wbP c fw') ∗ wsP c arg6 X6 ∗ (∃ W', owes (c : Thread nD τ) 0 W')
          ∗ bigSep Finset.univ (homeP c XW) ∗ (∃ f, slotP c 0 f) ∗ cellP c 0 ∗ (∃ f, slotP c 1 f) ∗ cellP c 1)) := by
  rw [homes_zero]
  iintro ⟨HR, H4, H7, H8, HW, Hws, HO, ⟨Hh0, Hh⟩, Hs0, Hc0, Hs1, Hc1⟩
  dsimp only [bodyG]
  sl_unfold [cc0__body]
  sl_exec
  iapply (exec_loop Idealize.ShloMosaic.frame (wpE (defs₀ (F := F)) 𝒱₀ (c : Thread nD τ) none) Set.univ k0_t1_loop.lb k0_t1_loop.ub k0_t1_loop.st (k0_t1_ok i hc) PUnit.unit _ (loopRing c XW i arg1 harg1 arg2 harg2 arg3 harg3 arg4 harg4 arg6 harg6 arg7 harg7 arg8 harg8 arg9 harg9 arg10 harg10 hc X6)) $$ [HW Hws HO Hh Hs1 Hc1 Hc0]
  · unfold loopRing; dsimp only
    isplitl [HW]
    · unfold wdP
      iexists fw
      isplitr; · ipureintro; exact fun y hy => absurd hy (by omega)
      iexact HW
    isplitl [Hws]; · iexact Hws
    isplitl [HO]; · iexists _; iexact HO
    isplitl [Hh]; · iexact Hh
    iapply (ring_zero c XW f0)
    isplitl [Hc0]; · iexact Hc0
    isplitl [Hs1]; · iexists f1; iexact Hs1
    iexact Hc1
  iintro %_ HG
  unfold loopRing
  dsimp only
  rw [show Scf.trips k0_t1_loop.lb k0_t1_loop.ub k0_t1_loop.st = 28 from trips1]
  icases HG with ⟨HW, Hws, HO, Hh, HG⟩
  unfold wdP
  icases HW with ⟨%fw', %hw', HW⟩
  have hwd : wbM.view.read (Elt F) fw' = Wd c XW arg6 X6 := funext fun y => hw' y (by have : (y 0).val < 7168 := (y 0).isLt; omega)
  ihave HG' := (ring_end c XW) $$ HG
  icases HG' with ⟨Hs0, Hc0, Hs1, Hc1⟩
  iapply (exec_loop Idealize.ShloMosaic.frame (wpE (defs₀ (F := F)) 𝒱₀ (c : Thread nD τ) none) Set.univ k0_t2_loop.lb k0_t2_loop.ub k0_t2_loop.st k0_t2_ok PUnit.unit _ (loopRows c i arg1 harg1 arg2 harg2 arg3 harg3 arg4 harg4 arg6 harg6 arg7 harg7 arg8 harg8 arg9 harg9 arg10 harg10 X1 X2 X3)) $$ [HR]
  · unfold loopRows; dsimp only; iexact HR
  iintro %_ HR
  unfold loopRows
  dsimp only
  rw [show Scf.trips k0_t2_loop.lb k0_t2_loop.ub k0_t2_loop.st = 4 from rows_trips]
  unfold rowsP
  icases HR with ⟨%f9, %f10, %f12, %hf, HR⟩
  unfold rowsAt
  icases HR with ⟨HR1, HR2, HR3, HR9, HR10, HR12⟩
  sl_exec
  sl_step
  isplitl [HR1 HR2 HR3 HR9 HR10 HR12]
  · iexists f9; iexists f10; iexists f12
    isplitr; · ipureintro; exact hf
    isplitl [HR1]; · iexact HR1
    isplitl [HR2]; · iexact HR2
    isplitl [HR3]; · iexact HR3
    isplitl [HR9]; · iexact HR9
    isplitl [HR10]; · iexact HR10
    iexact HR12
  isplitl [H4]; · iexact H4
  isplitl [H7]; · iexact H7
  isplitl [H8]
  · unfold outP
    iexists _
    isplitr
    rotate_left
    · iexact H8
    ipureintro
    rw [← hwd]
    refine panels_read c arg1 arg2 arg3 arg4 arg7 arg8 arg9 arg10 X1 X2 X3 X4 X7 f8 f9 f10 f12 fw' hf ?_
    refine .cons (panel_at c arg4 arg7 f12 fw' X4 X7 6 (inb_o 6) inb_a (inb_w 6) (inb_b 6) (inb_g 6)) ?_
    refine .cons (panel_at c arg4 arg7 f12 fw' X4 X7 5 (inb_o 5) inb_a (inb_w 5) (inb_b 5) (inb_g 5)) ?_
    refine .cons (panel_at c arg4 arg7 f12 fw' X4 X7 4 (inb_o 4) inb_a (inb_w 4) (inb_b 4) (inb_g 4)) ?_
    refine .cons (panel_at c arg4 arg7 f12 fw' X4 X7 3 (inb_o 3) inb_a (inb_w 3) (inb_b 3) (inb_g 3)) ?_
    refine .cons (panel_at c arg4 arg7 f12 fw' X4 X7 2 (inb_o 2) inb_a (inb_w 2) (inb_b 2) (inb_g 2)) ?_
    refine .cons (panel_at c arg4 arg7 f12 fw' X4 X7 1 (inb_o 1) inb_a (inb_w 1) (inb_b 1) (inb_g 1)) ?_
    exact .cons (panel_at c arg4 arg7 f12 fw' X4 X7 0 (inb_o 0) inb_a (inb_w 0) (inb_b 0) (inb_g 0)) .nil
  isplitl [HW]
  · iexists fw'
    isplitr; · ipureintro; exact hwd
    iexact HW
  isplitl [Hws]; · iexact Hws
  isplitl [HO]; · iexact HO
  isplitl [Hh]
  · iapply (entails_of_eq ((homes_end c XW).trans (homes_zero c XW)))
    iexact Hh
  isplitl [Hs0]; · iexact Hs0
  isplitl [Hc0]; · iexact Hc0
  isplitl [Hs1]; · iexact Hs1
  iexact Hc1
end Body
end Cert.Proof.KernelIdeal
-- ==== Proof.Dats.lean ====
/-
  The run of the whole kernel: the carried buffers between points, the body at every point, the launch.
-/
module

public import proofs.«01_k».proof.Proof.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx (ix2 ix3)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The two slots and the weight's blocks -/

abbrev osem : Fin 2 → SemLoc sig := fun s => .dma (csm s).sem
theorem ownSemFacts : Pipeline.OwnSemFacts spec0 osem := by decide

abbrev B28 (b : Fin 28) : Finset S7168x3584.Idx := (Rect.unit (s := S7168x3584) (blkOff b) S256x3584.size (blkOff_inb b)).set
abbrev T2 (s : Fin 2) : Finset S2x256x3584.Idx := (Rect.unit (s := S2x256x3584) (slotOff s) S1x256x3584.size (slotOff_inb s)).set

theorem blk_set (b : Fin 28) : (blk b).view.set = B28 b := View.set_slice_whole _ _
theorem rslot_set (s : Fin 2) : (rslot s).view.set = T2 s := (View.set_reshape _ _).trans (View.set_slice_whole _ _)

theorem mem_B28 (b : Fin 28) (y : S7168x3584.Idx) : y ∈ B28 b ↔ (y 0).val / 256 = b.val := by
  rw [Rect.mem_set_unit]
  have h1 : (y 1).val < 3584 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 3584; omega
theorem mem_T2 (s : Fin 2) (y : S2x256x3584.Idx) : y ∈ T2 s ↔ (y 0).val = s.val := by
  rw [Rect.mem_set_unit]
  have h1 : (y 1).val < 256 := (y 1).isLt
  have h2 : (y 2).val < 3584 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 3584; omega
theorem B28_disjoint : ∀ b b' : Fin 28, b ≠ b' → Disjoint (B28 b) (B28 b') := by
  intro b b' hne; rw [Finset.disjoint_left]; intro y hy hy'; rw [mem_B28] at hy hy'; exact hne (Fin.ext (hy.symm.trans hy'))
theorem B28_cover : (Finset.univ : Finset (Fin 28)).biUnion B28 = Finset.univ := by
  ext y; simp only [Finset.mem_biUnion, Finset.mem_univ, true_and, iff_true]
  exact ⟨⟨(y 0).val / 256, by have : (y 0).val < 7168 := (y 0).isLt; omega⟩, by rw [mem_B28]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨⟨(y 0).val, (y 0).isLt⟩, by rw [mem_T2]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weight whole is its 28 blocks at home. -/
theorem w_eq (c : Dev nD) (X : Buf (Elt F) ((c : Thread nD τ).loc main_arg4)) :
    (((c : Thread nD τ).loc main_arg4) ↦{fullShare} X : sProp 𝕄) = bigSep Finset.univ (homeP c X) := by
  rw [Ring.pointsTo_blocks (ℓ := (c : Thread nD τ).loc main_arg4) B28 B28_disjoint B28_cover]
  exact bigSep_congr fun b _ => by rw [← blk_set]; rfl

theorem slotP_eq (c : Dev nD) (s : Fin 2) (f) : slotP c s f = (((c : Thread nD τ).loc cc0_scratch2) ↦[T2 s]{fullShare} f : sProp 𝕄) :=
  congrArg (fun S => (_ ↦[S]{fullShare} f : sProp 𝕄)) (rslot_set s)
/-- The staging buffer whole is its two slots, and back. -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) T2 T2_disjoint T2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) T2 T2_disjoint T2_cover f0)
  irw [bigSep_fin2]
  isplitl [H0]
  · iexists f0; iapply (entails_of_eq (slotP_eq c 0 f0)); iexact H0
  · iexists f1; iapply (entails_of_eq (slotP_eq c 1 f1)); iexact H1
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]
theorem wb_set : (Memref.whole cc0_scratch0 : Memref sig .tc .vmem S7168x3584 .bf16).view.set = Finset.univ := View.set_whole _
theorem wb_eq (c : Dev nD) (f : Buf (Elt F) ((c : Thread nD τ).loc cc0_scratch0)) : (((c : Thread nD τ).loc cc0_scratch0) ↦{fullShare} f : sProp 𝕄) = wbP c f := by
  unfold wbP; rw [wb_set]
def aP (c : Dev nD) (f : Buf (Elt F) (aM.view.loc (c : Thread nD τ))) : sProp 𝕄 := aM.view.loc (c : Thread nD τ) ↦[aM.view.set]{fullShare} f
theorem a_set : (Memref.whole cc0_scratch1 : Memref sig .tc .vmem S128x7168 .bf16).view.set = Finset.univ := View.set_whole _
theorem a_eq (c : Dev nD) (f : Buf (Elt F) ((c : Thread nD τ).loc cc0_scratch1)) : (((c : Thread nD τ).loc cc0_scratch1) ↦{fullShare} f : sProp 𝕄) = aP c f := by
  unfold aP; rw [a_set]

/-! ## The values -/

/-- The scaled weight from the quantised weight and the block scales. -/
def scaledW (w : S7168x3584.Idx → F .fp8e4m3) (s : S56x28.Idx → F .f32) (y : S7168x3584.Idx) : F .bf16 :=
  FloatOps.mulf (FloatOps.extf .bf16 (by decide) (w y) : F .bf16)
    (FloatOps.truncf .bf16 (by decide) (s (ix2 ⟨(y 0).val / 128, by have := (y 0).isLt; show _ < 56; change (y 0).val < 7168 at this; omega⟩
      ⟨(y 1).val / 128, by have := (y 1).isLt; show _ < 28; change (y 1).val < 3584 at this; omega⟩)))

abbrev x1 (c : Dev nD) (t : Fin cfg0.N) : S128x7168.Idx → F .bf16 := iblk m c 0 t
abbrev x2 (c : Dev nD) (t : Fin cfg0.N) : S1x1x7168.Idx → F .bf16 := iblk m c 1 t
abbrev x3 (c : Dev nD) (t : Fin cfg0.N) : S1x1x7168.Idx → F .bf16 := iblk m c 2 t
abbrev x4 (c : Dev nD) (t : Fin cfg0.N) : S1x1x3584.Idx → F .bf16 := iblk m c 3 t
abbrev x7 (c : Dev nD) (t : Fin cfg0.N) : S1x3584.Idx → F .bf16 := iblk m c 5 t
/-- The carried weight. -/
abbrev wf (c : Dev nD) : S7168x3584.Idx → F .bf16 := scaledW (V m c main_arg4) (V m c main_arg5)

/-- The block scales are one block: every point reads them whole. -/
theorem ws_block (c : Dev nD) (t : Fin cfg0.N) : iblk m c 4 t = (V m c main_arg5 : S56x28.Idx → F .f32) := by
  funext j
  unfold iblk
  show V m c main_arg5 _ = V m c main_arg5 _
  congr 1
  funext a; refine Fin.ext ?_
  fin_cases a
  · show 0 * 56 + 1 * (j 0).val = (j 0).val; omega
  · show 0 * 28 + 1 * (j 1).val = (j 1).val; omega

def yAt (c : Dev nD) (t : Fin cfg0.N) : S128x3584.Idx → F .bf16 := yB (actB (x1 m c t) (x2 m c t) (x3 m c t)) (wf m c) (x7 m c t) (x4 m c t)
def codesAt (c : Dev nD) (t : Fin cfg0.N) : S128x7168.Idx → F .fp8e4m3 := codesB (x1 m c t) (x2 m c t) (x3 m c t)
def scalesAt (c : Dev nD) (t : Fin cfg0.N) : S128x56.Idx → F .f32 := scaleB (x1 m c t) (x2 m c t) (x3 m c t)

/-! ## The proof data -/

/-- Between points: the carried weight scaled (after the first point), the other scratch at anything, both cells at
    zero, the quantised weight at home. -/
def Φ (c : Dev nD) (n : ℕ) : sProp 𝕄 :=
  iprop((∃ f, ⌜n ≠ 0 → wbM.view.read (Elt F) f = wf m c⌝ ∗ wbP c f) ∗ (∃ f, aP c f) ∗ (∃ f, slotP c 0 f) ∗ cellP c 0 ∗ (∃ f, slotP c 1 f) ∗ cellP c 1
    ∗ bigSep Finset.univ (homeP c (V m c main_arg4)) ∗ (∃ r, prngReg c r))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => codesAt m c t
    | ⟨8, _⟩ => scalesAt m c t
  Φ t := Φ m c t.val
  q _ := fullShare
  owed _ := 0

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = yAt m c t := by dsimp only [dats]
theorem after7 (c : Dev nD) (t : Fin cfg0.N) : (dats m 0 c).after 7 t = codesAt m c t := by dsimp only [dats]
theorem after8 (c : Dev nD) (t : Fin cfg0.N) : (dats m 0 c).after 8 t = scalesAt m c t := by dsimp only [dats]

theorem cond1_iff : ∀ t : Fin grid0.N, k0_cond1 (grid0.coords t) = 1#1 ↔ t.val = 0 := by decide +kernel

end Cert.Proof.KernelIdeal
-- ==== Proof.Launch.lean ====
/-
  The body at every point and the run of the whole kernel.
-/
module

public import proofs.«01_k».proof.Proof.Dats

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx (ix2 ix3)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

abbrev st1 (t : Fin cfg0.N) : Memref sig .tc .vmem S128x7168 .bf16 := win0_0.stage (cfg0.slots t 0)
abbrev st2 (t : Fin cfg0.N) : Memref sig .tc .vmem S1x1x7168 .bf16 := win0_1.stage (cfg0.slots t 1)
abbrev st3 (t : Fin cfg0.N) : Memref sig .tc .vmem S1x1x7168 .bf16 := win0_2.stage (cfg0.slots t 2)
abbrev st4 (t : Fin cfg0.N) : Memref sig .tc .vmem S1x1x3584 .bf16 := win0_3.stage (cfg0.slots t 3)
abbrev st6 (t : Fin cfg0.N) : Memref sig .tc .smem S56x28 .f32 := win0_4.stage (cfg0.slots t 4)
abbrev st7 (t : Fin cfg0.N) : Memref sig .tc .vmem S1x3584 .bf16 := win0_5.stage (cfg0.slots t 5)
abbrev st8 (t : Fin cfg0.N) : Memref sig .tc .vmem S128x3584 .bf16 := win0_6.stage (cfg0.slots t 6)
abbrev st9 (t : Fin cfg0.N) : Memref sig .tc .vmem S128x7168 .fp8e4m3 := win0_7.stage (cfg0.slots t 7)
abbrev st10 (t : Fin cfg0.N) : Memref sig .tc .vmem S128x56 .f32 := win0_8.stage (cfg0.slots t 8)
abbrev h1 (t : Fin cfg0.N) : (st1 t).IsWhole := hstage0_0 ((cfg0.slots t 0).cast nbuf0_0)
abbrev h2 (t : Fin cfg0.N) : (st2 t).IsWhole := hstage0_1 ((cfg0.slots t 1).cast nbuf0_1)
abbrev h3 (t : Fin cfg0.N) : (st3 t).IsWhole := hstage0_2 ((cfg0.slots t 2).cast nbuf0_2)
abbrev h4 (t : Fin cfg0.N) : (st4 t).IsWhole := hstage0_3 ((cfg0.slots t 3).cast nbuf0_3)
abbrev h6 (t : Fin cfg0.N) : (st6 t).IsWhole := hstage0_4 ((cfg0.slots t 4).cast nbuf0_4)
abbrev h7 (t : Fin cfg0.N) : (st7 t).IsWhole := hstage0_5 ((cfg0.slots t 5).cast nbuf0_5)
abbrev h8 (t : Fin cfg0.N) : (st8 t).IsWhole := hstage0_6 ((cfg0.slots t 6).cast nbuf0_6)
abbrev h9 (t : Fin cfg0.N) : (st9 t).IsWhole := hstage0_7 ((cfg0.slots t 7).cast nbuf0_7)
abbrev h10 (t : Fin cfg0.N) : (st10 t).IsWhole := hstage0_8 ((cfg0.slots t 8).cast nbuf0_8)

abbrev bodyT (t : Fin cfg0.N) : Prog (TpuEff nD τ sig (Elt F) Λ₀ .tc) PUnit :=
  bodyG (grid0.coords t) (st1 t) (h1 t) (st2 t) (h2 t) (st3 t) (h3 t) (st4 t) (h4 t) (st6 t) (h6 t) (st7 t) (h7 t) (st8 t) (h8 t) (st9 t) (h9 t) (st10 t) (h10 t)

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4))
      (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7))
      (win0_8.stage (a.2 8)) (hstage0_8 ((a.2 8).cast nbuf0_8)) := rfl
theorem prog_eq (t : Fin cfg0.N) : (defs₀ (F := F)) .tc cfg0.body (cfg0.bodyArgs t (cfg0.slots t)) = bodyT t :=
  (congrFun defs_tc _).trans rfl

/-- The rows' resources before any row. -/
theorem rows_start (c : Dev nD) (t : Fin cfg0.N) (X1 X2 X3 f9 f10 f12) :
    iprop(((st1 t).view.loc (c : Thread nD τ) ↦[(st1 t).view.set]{fullShare} X1) ∗ ((st2 t).view.loc (c : Thread nD τ) ↦[(st2 t).view.set]{fullShare} X2)
      ∗ ((st3 t).view.loc (c : Thread nD τ) ↦[(st3 t).view.set]{fullShare} X3) ∗ ((st9 t).view.loc (c : Thread nD τ) ↦[(st9 t).view.set]{fullShare} f9)
      ∗ ((st10 t).view.loc (c : Thread nD τ) ↦[(st10 t).view.set]{fullShare} f10) ∗ aP c f12)
    ⊢ (rowsP c (st1 t) (st2 t) (st3 t) (st9 t) (st10 t) X1 X2 X3 0 : sProp 𝕄) := by
  unfold rowsP rowsAt aP
  iintro H
  iexists f9; iexists f10; iexists f12
  isplitr
  · ipureintro; exact ⟨fun y hy => absurd hy (by omega), fun y hy => absurd hy (by omega), fun y hy => absurd hy (by omega)⟩
  iexact H

/-- All rows done: the input blocks, the codes and the scales, and the activations' buffer at anything. -/
theorem rows_done (c : Dev nD) (t : Fin cfg0.N) (X1 X2 X3) :
    (rowsP c (st1 t) (st2 t) (st3 t) (st9 t) (st10 t) X1 X2 X3 4 : sProp 𝕄) ⊢
    iprop(((st1 t).view.loc (c : Thread nD τ) ↦[(st1 t).view.set]{fullShare} X1) ∗ ((st2 t).view.loc (c : Thread nD τ) ↦[(st2 t).view.set]{fullShare} X2)
      ∗ ((st3 t).view.loc (c : Thread nD τ) ↦[(st3 t).view.set]{fullShare} X3)
      ∗ (∃ f9, ⌜(st9 t).view.read (Elt F) f9 = codesB ((st1 t).view.read (Elt F) X1) ((st2 t).view.read (Elt F) X2) ((st3 t).view.read (Elt F) X3)⌝ ∗ ((st9 t).view.loc (c : Thread nD τ) ↦[(st9 t).view.set]{fullShare} f9))
      ∗ (∃ f10, ⌜(st10 t).view.read (Elt F) f10 = scaleB ((st1 t).view.read (Elt F) X1) ((st2 t).view.read (Elt F) X2) ((st3 t).view.read (Elt F) X3)⌝ ∗ ((st10 t).view.loc (c : Thread nD τ) ↦[(st10 t).view.set]{fullShare} f10))
      ∗ (∃ f12, aP c f12)) := by
  unfold rowsP rowsAt aP
  iintro ⟨%f9, %f10, %f12, %hd, H1, H2, H3, H9, H10, H12⟩
  isplitl [H1]; · iexact H1
  isplitl [H2]; · iexact H2
  isplitl [H3]; · iexact H3
  isplitl [H9]
  · iexists f9; isplitr
    · ipureintro; exact funext fun y => hd.1 y (by have : (y 0).val < 128 := (y 0).isLt; omega)
    iexact H9
  isplitl [H10]
  · iexists f10; isplitr
    · ipureintro; exact funext fun y => hd.2.1 y (by have : (y 0).val < 128 := (y 0).isLt; omega)
    iexact H10
  iexists f12; iexact H12

theorem Wd_eq (c : Dev nD) (t : Fin cfg0.N) : Wd c (V m c main_arg4) (st6 t) ((st6 t).view.rep (iblk m c 4 t)) = wf m c := by
  have e : (st6 t).view.read (Elt F) ((st6 t).view.rep (iblk m c 4 t)) = (V m c main_arg5 : S56x28.Idx → F .f32) := (View.read_rep _ _).trans (ws_block m c t)
  unfold wf scaledW
  rw [← e]
  rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before0, before1, before2, before3, before4, before5, after0, after1, after2, after3, after4, after5, after6, after7, after8]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨⟨%fw, %hfw, Hw⟩, ⟨%fa, Ha⟩, ⟨%s0, Hs0⟩, Hc0, ⟨%s1, Hs1⟩, Hc1, Hh, Hp⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, -, H6⟩, ⟨%d7, %g7, -, H7⟩, ⟨%d8, %g8, -, H8⟩⟩
  ihave K0 := (pointsTo_rep_entails (c : Thread nD τ) (st1 t) g0 fullShare) $$ H0
  ihave K1 := (pointsTo_rep_entails (c : Thread nD τ) (st2 t) g1 fullShare) $$ H1
  ihave K2 := (pointsTo_rep_entails (c : Thread nD τ) (st3 t) g2 fullShare) $$ H2
  ihave K3 := (pointsTo_rep_entails (c : Thread nD τ) (st4 t) g3 fullShare) $$ H3
  ihave K4 := (pointsTo_rep_entails (c : Thread nD τ) (st6 t) g4 fullShare) $$ H4
  ihave K5 := (pointsTo_rep_entails (c : Thread nD τ) (st7 t) g5 fullShare) $$ H5
  rw [e0, e1, e2, e3, e4, e5]
  sl_rw [prog_eq t]
  simp only [Nat.succ_ne_zero, ne_eq, not_false_eq_true, true_implies]
  by_cases ht : t.val = 0
  · have hc : k0_cond1 (grid0.coords t) = 1#1 := (cond1_iff t).2 ht
    iapply (wp_wand_r frame)
    isplitl [K0 K1 K2 K3 K4 K5 H6 H7 H8 Hw Ha Hs0 Hs1 Hc0 Hc1 Hh HW]
    · iapply (bodyFirst c (grid0.coords t) (st1 t) (h1 t) (st2 t) (h2 t) (st3 t) (h3 t) (st4 t) (h4 t) (st6 t) (h6 t) (st7 t) (h7 t) (st8 t) (h8 t) (st9 t) (h9 t) (st10 t) (h10 t)
        ((st1 t).view.rep (iblk m c 0 t)) ((st2 t).view.rep (iblk m c 1 t)) ((st3 t).view.rep (iblk m c 2 t)) ((st4 t).view.rep (iblk m c 3 t)) ((st6 t).view.rep (iblk m c 4 t)) ((st7 t).view.rep (iblk m c 5 t))
        hc (V m c main_arg4) g6 s0 s1 fw W)
      isplitl [K0 K1 K2 H7 H8 Ha]
      · iapply (rows_start c t _ _ _ g7 g8 fa)
        isplitl [K0]; · iexact K0
        isplitl [K1]; · iexact K1
        isplitl [K2]; · iexact K2
        isplitl [H7]; · iexact H7
        isplitl [H8]; · iexact H8
        iexact Ha
      isplitl [K3]; · iexact K3
      isplitl [K5]; · iexact K5
      isplitl [H6]; · iexact H6
      isplitl [Hw]; · iexact Hw
      isplitl [K4]; · iexact K4
      isplitl [HW]; · iexact HW
      isplitl [Hh]; · iexact Hh
      isplitl [Hs0]; · iexact Hs0
      isplitl [Hc0]; · iexact Hc0
      isplitl [Hs1]; · iexact Hs1
      iexact Hc1
    · iintro %_ ⟨HR, K3, K5, HY, ⟨%fw', %hw', Hw⟩, K4, ⟨%W', HW⟩, Hh, Hs0, Hc0, Hs1, Hc1⟩
      unfold outP
      icases HY with ⟨%f8, %hf8, HY⟩
      ihave HD := (rows_done c t _ _ _) $$ HR
      icases HD with ⟨H0, H1, H2, ⟨%f9, %h9', H7⟩, ⟨%f10, %h10', H8⟩, Ha⟩
      isplitl [Hw Ha Hs0 Hs1 Hc0 Hc1 Hh Hp]
      · isplitl [Hw]
        · iexists fw'; isplitr; · ipureintro; exact hw'.trans (Wd_eq m c t)
          iexact Hw
        isplitl [Ha]; · iexact Ha
        isplitl [Hs0]; · iexact Hs0
        isplitl [Hc0]; · iexact Hc0
        isplitl [Hs1]; · iexact Hs1
        isplitl [Hc1]; · iexact Hc1
        isplitl [Hh]; · iexact Hh
        iexact Hp
      isplitl [HW]
      · iexists W'; isplitr; · ipureintro; exact fun _ _ => Or.inl trivial
        iexact HW
      isplitl [H0]
      · iexists _; isplitr; · ipureintro; exact View.read_rep _ _
        iexact H0
      isplitl [H1]
      · iexists _; isplitr; · ipureintro; exact View.read_rep _ _
        iexact H1
      isplitl [H2]
      · iexists _; isplitr; · ipureintro; exact View.read_rep _ _
        iexact H2
      isplitl [K3]
      · iexists _; isplitr; · ipureintro; exact View.read_rep _ _
        iexact K3
      isplitl [K4]
      · iexists _; isplitr; · ipureintro; exact View.read_rep _ _
        iexact K4
      isplitl [K5]
      · iexists _; isplitr; · ipureintro; exact View.read_rep _ _
        iexact K5
      isplitl [HY]
      · iexists f8; isplitr
        · ipureintro; rw [hf8]; simp only [View.read_rep]; rw [Wd_eq]; rfl
        iexact HY
      isplitl [H7]
      · iexists f9; isplitr
        · ipureintro; rw [h9']; simp only [View.read_rep]; rfl
        iexact H7
      iexists f10; isplitr
      · ipureintro; rw [h10']; simp only [View.read_rep]; rfl
      iexact H8
  · have hc : ¬ k0_cond1 (grid0.coords t) = 1#1 := fun h => ht ((cond1_iff t).1 h)
    iapply (wp_wand_r frame)
    isplitl [K0 K1 K2 K3 K5 H6 H7 H8 Hw Ha]
    · iapply (bodyLater c (grid0.coords t) (st1 t) (h1 t) (st2 t) (h2 t) (st3 t) (h3 t) (st4 t) (h4 t) (st6 t) (h6 t) (st7 t) (h7 t) (st8 t) (h8 t) (st9 t) (h9 t) (st10 t) (h10 t)
        ((st1 t).view.rep (iblk m c 0 t)) ((st2 t).view.rep (iblk m c 1 t)) ((st3 t).view.rep (iblk m c 2 t)) ((st4 t).view.rep (iblk m c 3 t)) ((st7 t).view.rep (iblk m c 5 t))
        hc g6 fw)
      isplitl [K0 K1 K2 H7 H8 Ha]
      · iapply (rows_start c t _ _ _ g7 g8 fa)
        isplitl [K0]; · iexact K0
        isplitl [K1]; · iexact K1
        isplitl [K2]; · iexact K2
        isplitl [H7]; · iexact H7
        isplitl [H8]; · iexact H8
        iexact Ha
      isplitl [K3]; · iexact K3
      isplitl [K5]; · iexact K5
      isplitl [H6]; · iexact H6
      iexact Hw
    · iintro %_ ⟨HR, K3, K5, HY, Hw⟩
      unfold outP
      icases HY with ⟨%f8, %hf8, HY⟩
      ihave HD := (rows_done c t _ _ _) $$ HR
      icases HD with ⟨H0, H1, H2, ⟨%f9, %h9', H7⟩, ⟨%f10, %h10', H8⟩, Ha⟩
      isplitl [Hw Ha Hs0 Hs1 Hc0 Hc1 Hh Hp]
      · isplitl [Hw]
        · iexists fw; isplitr; · ipureintro; exact hfw ht
          iexact Hw
        isplitl [Ha]; · iexact Ha
        isplitl [Hs0]; · iexists s0; iexact Hs0
        isplitl [Hc0]; · iexact Hc0
        isplitl [Hs1]; · iexists s1; iexact Hs1
        isplitl [Hc1]; · iexact Hc1
        isplitl [Hh]; · iexact Hh
        iexact Hp
      isplitl [HW]
      · iexists W; isplitr; · ipureintro; exact fun _ _ => Or.inl trivial
        iexact HW
      isplitl [H0]
      · iexists _; isplitr; · ipureintro; exact View.read_rep _ _
        iexact H0
      isplitl [H1]
      · iexists _; isplitr; · ipureintro; exact View.read_rep _ _
        iexact H1
      isplitl [H2]
      · iexists _; isplitr; · ipureintro; exact View.read_rep _ _
        iexact H2
      isplitl [K3]
      · iexists _; isplitr; · ipureintro; exact View.read_rep _ _
        iexact K3
      isplitl [K4]
      · iexists _; isplitr; · ipureintro; exact View.read_rep _ _
        iexact K4
      isplitl [K5]
      · iexists _; isplitr; · ipureintro; exact View.read_rep _ _
        iexact K5
      isplitl [HY]
      · iexists f8; isplitr
        · ipureintro; rw [hf8]; simp only [View.read_rep]; rw [hfw ht]; rfl
        iexact HY
      isplitl [H7]
      · iexists f9; isplitr
        · ipureintro; rw [h9']; simp only [View.read_rep]; rfl
        iexact H7
      iexists f10; isplitr
      · ipureintro; rw [h10']; simp only [View.read_rep]; rfl
      iexact H8

/-! ## The run -/

theorem hmainU (𝒱₁ : Variants) : Pipeline.HMain (Ix := Unit) (Name := ℕ) (U := UU nD τ) (Lvl := ℕ) cfgs (0 : Fin 1) (defs₀ (F := F)) 𝒱₁ m main (V m) :=
  Pipeline.hmain_prefix cfgs 0 defs₀ 𝒱₁ m main hostOps0 hostOps0_sub hostOps0_fresh main_chain

def H0 : Finset (Ref sig .tc) := {main_arg4}
theorem H0_sub : H0 ⊆ Pipeline.restRefs sig spec0 := by decide

/-- From any memory with zero counters: every weakly fair execution of @main terminates, every final state has the
    windows' arrays at the blocks' contents, the other arrays as launched, every counter at zero. -/
theorem run_main : θ_run defs (onTc (τ := τ) (main (F := F))) (s₀ m ρ) (fun r => Pipeline.FramePost cfgs (dats m) (0 : Fin 1) (V m) r ∧ r.2.sem = fun _ => 0) :=
  Pipeline.θ_run_frame_dma cfgs (dats m) (0 : Fin 1) launch0 osem defs₀ 𝒱₀ ownSemFacts H0 H0_sub m ρ main
    (hbody := fun c => (body_obligation m c).loose) (hshare := fun c => (dats m 0 c).share_full fun _ => rfl) (howed := fun _ _ => rfl)
    (V := V m) (hmain := hmainU m 𝒱₀) (hA := fun _ _ => rfl)
    (hin := fun c => by
      unfold Pipeline.ΦD
      rw [show (Pipeline.scopedRest (cfgs 0).spec c : sProp 𝕄) = _ from scopedRest0_eq c, show (dats m 0 c).Φ 0 = Φ m c 0 from rfl, ownSems0_eq]
      unfold Φ H0
      rw [bigSep_singleton, w_eq c]
      iintro ⟨⟨⟨%f0, B0⟩, ⟨%f1, B1⟩, B2⟩, Hp, ⟨Hc0, Hc1⟩, Hh⟩
      ihave Hs := (buf_split c) $$ B2
      icases Hs with ⟨Hs0, Hs1⟩
      isplitl [B0]
      · iexists f0; isplitr; · ipureintro; exact fun h => absurd rfl h
        iapply (entails_of_eq (wb_eq c f0)); iexact B0
      isplitl [B1]; · iexists f1; iapply (entails_of_eq (a_eq c f1)); iexact B1
      isplitl [Hs0]; · iexact Hs0
      isplitl [Hc0]; · iexact Hc0
      isplitl [Hs1]; · iexact Hs1
      isplitl [Hc1]; · iexact Hc1
      isplitl [Hh]; · iexact Hh
      iexact Hp)
    (hout := fun c => by
      unfold Pipeline.ΦD
      rw [show (Pipeline.scopedRest (cfgs 0).spec c : sProp 𝕄) = _ from scopedRest0_eq c, show (dats m 0 c).Φ (Fin.last cfg0.N) = Φ m c cfg0.N from rfl, ownSems0_eq]
      unfold Φ H0
      rw [bigSep_singleton, w_eq c]
      iintro ⟨⟨%fw, -, Hw⟩, ⟨%fa, Ha⟩, Hs0, Hc0, Hs1, Hc1, Hh, Hp⟩
      isplitl [Hw Ha Hs0 Hs1]
      · isplitl [Hw]; · iexists fw; iapply (entails_of_eq (wb_eq c fw).symm); iexact Hw
        isplitl [Ha]; · iexists fa; iapply (entails_of_eq (a_eq c fa).symm); iexact Ha
        iapply (buf_join c)
        isplitl [Hs0]; · iexact Hs0
        iexact Hs1
      isplitl [Hp]; · iexact Hp
      isplitl [Hc0 Hc1]
      · isplitl [Hc0]; · iexact Hc0
        iexact Hc1
      iexact Hh)
    (Q' := _) (hQ' := fun _ h => h)

/-- The arguments' arrays end as launched. -/
theorem args_of (r : PUnit × MemSt nD τ sig (Elt F)) (h : Pipeline.FramePost cfgs (dats m) (0 : Fin 1) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans (V_main_arg5 m c)),
      ((h c).2 main_arg6 (Pipeline.mem_restRefs_of main_arg6 (by decide) (by decide))).trans (V_main_arg6 m c)⟩

end Cert.Proof.KernelIdeal
-- ==== Proof.Quant.lean ====
/-
  The scale of one group, as scalars: the search for the exponent field of a step `t` finds the word of a power of two,
  and the exponent by logarithm and floor gives the same power; the same for the reciprocals.
-/
module

public import Idealize.ShloMosaic.Lib.Pointwise

@[expose] public section

set_option maxRecDepth 16384

noncomputable section

namespace Cert.Proof.Quant

open Idealize.ShloMosaic

/-! ## Powers of two by their words -/

/-- The word with exponent field `f` and nothing else. -/
def wd (f : ℕ) : BitVec 32 := BitVec.ofNat 32 (f * 8388608)

theorem wd_parts : ∀ f : Fin 256, ((wd f.val).extractLsb' 31 1 == 1#1) = false ∧ ((wd f.val).extractLsb' 23 8).toNat = f.val ∧ ((wd f.val).extractLsb' 0 23).toNat = 0 := by
  decide +kernel

theorem ofBits_wd {f : ℕ} (h1 : 1 ≤ f) (h2 : f ≤ 254) : Ideal.ofBits .f32 (wd f) = (((2 : ℝ) ^ ((f : ℤ) - 127) : ℝ) : EReal) := by
  obtain ⟨a, b, c⟩ := wd_parts ⟨f, by omega⟩
  show Ideal.ieee 8 23 (wd f) = _
  unfold Ideal.ieee
  simp only [show (8 + 23 : ℕ) = 31 from rfl] at *
  rw [a, b, c]
  rw [if_neg (by norm_num; omega), if_neg (by omega)]
  congr 1
  have e : ((f : ℤ) - (2 ^ (8 - 1) - 1) - (23 : ℕ) : ℤ) = ((f : ℤ) - 127) + (-23) := by norm_num; ring
  rw [e, zpow_add₀ (by norm_num)]
  have e2 : (2 : ℝ) ^ (-23 : ℤ) = ((2 : ℝ) ^ (23 : ℕ))⁻¹ := by rw [zpow_neg]; norm_cast
  rw [e2]
  norm_num
  ring

theorem ofBits_wd_zero : Ideal.ofBits .f32 (wd 0) = 0 := by
  show Ideal.ofBits .f32 0#32 = 0
  exact Ideal.ofBits_zero_f32

theorem ofBits_wd_top : Ideal.ofBits .f32 (wd 255) = ⊤ := by
  obtain ⟨a, b, c⟩ := wd_parts ⟨255, by omega⟩
  show Ideal.ieee 8 23 (wd 255) = _
  unfold Ideal.ieee
  simp only [show (8 + 23 : ℕ) = 31 from rfl] at *
  rw [a, b, c]
  norm_num

/-- The exponent of the greatest power of two at most `r`. -/
def lg (r : ℝ) : ℤ := ⌊Real.log r / Real.log 2⌋

theorem le_lg_iff {r : ℝ} (hr : 0 < r) (z : ℤ) : (2 : ℝ) ^ z ≤ r ↔ z ≤ lg r := by
  have hl : 0 < Real.log 2 := Real.log_pos (by norm_num)
  unfold lg
  rw [Int.le_floor, le_div_iff₀ hl, ← Real.log_zpow, Real.log_le_log_iff (by positivity) hr]

/-- The exponent field of a real `r` below `2^126`; 0 below the smallest normal. -/
def field (r : ℝ) : ℕ := if r < 2 ^ (-126 : ℤ) then 0 else (lg r + 127).toNat

theorem log_range {r : ℝ} (h : ¬ r < 2 ^ (-126 : ℤ)) (h1 : r < 2 ^ (126 : ℤ)) : -126 ≤ lg r ∧ lg r ≤ 125 := by
  push Not at h
  have hp : (0 : ℝ) < r := lt_of_lt_of_le (by positivity) h
  constructor
  · exact (le_lg_iff hp _).mp h
  · by_contra hc
    have : (126 : ℤ) ≤ lg r := by omega
    have := (le_lg_iff hp _).mpr this
    linarith

theorem field_le {r : ℝ} (h1 : r < 2 ^ (126 : ℤ)) : field r ≤ 252 := by
  unfold field
  split
  · omega
  · rename_i h; have := log_range h h1; omega

theorem wd_le_iff {r : ℝ} (h0 : 0 ≤ r) (h1 : r < 2 ^ (126 : ℤ)) {f : ℕ} (hf : f ≤ 255) : Ideal.ofBits .f32 (wd f) ≤ (r : EReal) ↔ f ≤ field r := by
  rcases Nat.eq_zero_or_pos f with rfl | hp
  · rw [ofBits_wd_zero]; simp only [Nat.zero_le, iff_true]; exact_mod_cast h0
  rcases Nat.eq_or_lt_of_le hf with rfl | hl
  · rw [ofBits_wd_top]
    have := field_le h1
    constructor
    · intro h; exact absurd (top_le_iff.mp h) (EReal.coe_ne_top r)
    · intro h; omega
  rw [ofBits_wd hp (by omega), EReal.coe_le_coe_iff]
  unfold field
  split
  · rename_i h
    constructor
    · intro h2
      have : (2 : ℝ) ^ ((f : ℤ) - 127) < 2 ^ (-126 : ℤ) := lt_of_le_of_lt h2 h
      rw [zpow_lt_zpow_iff_right₀ (by norm_num)] at this
      omega
    · intro h2; omega
  · rename_i h
    have hr := log_range h h1
    push Not at h
    have hp : (0 : ℝ) < r := lt_of_lt_of_le (by positivity) h
    rw [le_lg_iff hp]
    omega

/-! ## The search -/

/-- One step of the search: set bit `b` if the word with it set is at most `t`. -/
def setB (t : EReal) (b w : BitVec 32) : BitVec 32 := if Ideal.ofBits .f32 (w ||| b) ≤ t then w ||| b else w
/-- The eight steps. -/
def fieldW (t : EReal) : BitVec 32 :=
  setB t 8388608#32 (setB t 16777216#32 (setB t 33554432#32 (setB t 67108864#32 (setB t 134217728#32 (setB t 268435456#32
    (setB t 536870912#32 (setB t 1073741824#32 0#32)))))))
/-- The scale's word: the next field, or 1's. -/
def scaleW (t : EReal) : BitVec 32 :=
  if (8388608#32).slt (fieldW t + 8388608#32) then fieldW t + 8388608#32 else 1065353216#32

/-- The search over the fields' numbers. -/
def setN (s b w : ℕ) : ℕ := if w + b ≤ s then w + b else w

theorem wd_or : ∀ (k : Fin 8) (w : Fin 256), w.val % 2 ^ (k.val + 1) = 0 → wd w.val ||| wd (2 ^ k.val) = wd (w.val + 2 ^ k.val) := by decide +kernel

theorem setB_wd {r : ℝ} (h0 : 0 ≤ r) (h1 : r < 2 ^ (126 : ℤ)) (k : ℕ) (hk : k < 8) {w : ℕ} (hw : w + 2 ^ k ≤ 255) (hm : w % 2 ^ (k + 1) = 0) :
    setB r (wd (2 ^ k)) (wd w) = wd (setN (field r) (2 ^ k) w) := by
  unfold setB setN
  rw [wd_or ⟨k, hk⟩ ⟨w, by omega⟩ hm]
  simp only [wd_le_iff h0 h1 hw]
  split <;> rfl

def searchN (s : ℕ) : ℕ := setN s (2 ^ 0) (setN s (2 ^ 1) (setN s (2 ^ 2) (setN s (2 ^ 3) (setN s (2 ^ 4) (setN s (2 ^ 5) (setN s (2 ^ 6) (setN s (2 ^ 7) 0)))))))

theorem searchN_eq : ∀ s : Fin 255, searchN s.val = s.val := by decide +kernel

theorem setN_ok {s k w : ℕ} (hk : k + 1 ≤ 8) (hw : w + 2 ^ (k + 1) ≤ 256) (hm : w % 2 ^ (k + 1) = 0) :
    setN s (2 ^ k) w + 2 ^ k ≤ 256 ∧ setN s (2 ^ k) w % 2 ^ k = 0 := by
  have e : 2 ^ (k + 1) = 2 * 2 ^ k := by ring
  have hd : 2 ^ k ∣ w := Dvd.dvd.trans ⟨2, by rw [e]; ring⟩ (Nat.dvd_of_mod_eq_zero hm)
  unfold setN
  split
  · exact ⟨by omega, Nat.mod_eq_zero_of_dvd (dvd_add hd dvd_rfl)⟩
  · exact ⟨by omega, Nat.mod_eq_zero_of_dvd hd⟩

theorem fieldW_eq {r : ℝ} (h0 : 0 ≤ r) (h1 : r < 2 ^ (126 : ℤ)) : fieldW r = wd (field r) := by
  have hs := field_le h1
  have s0 : 0 + 2 ^ (7 + 1) ≤ 256 ∧ 0 % 2 ^ (7 + 1) = 0 := by decide
  have st : ∀ (k : ℕ) (w : ℕ), k + 1 ≤ 8 → w + 2 ^ (k + 1) ≤ 256 ∧ w % 2 ^ (k + 1) = 0 →
      setB r (wd (2 ^ k)) (wd w) = wd (setN (field r) (2 ^ k) w) ∧ setN (field r) (2 ^ k) w + 2 ^ k ≤ 256 ∧ setN (field r) (2 ^ k) w % 2 ^ k = 0 := fun k w hk h => by
    refine ⟨setB_wd h0 h1 k (by omega) ?_ h.2, setN_ok hk h.1 h.2⟩
    have e : 2 ^ (k + 1) = 2 * 2 ^ k := by ring
    have := Nat.pos_of_ne_zero (pow_ne_zero k (two_ne_zero (α := ℕ)))
    omega
  obtain ⟨e7, s7⟩ := st 7 _ (by omega) s0
  obtain ⟨e6, s6⟩ := st 6 _ (by omega) s7
  obtain ⟨e5, s5⟩ := st 5 _ (by omega) s6
  obtain ⟨e4, s4⟩ := st 4 _ (by omega) s5
  obtain ⟨e3, s3⟩ := st 3 _ (by omega) s4
  obtain ⟨e2, s2⟩ := st 2 _ (by omega) s3
  obtain ⟨e1, s1⟩ := st 1 _ (by omega) s2
  obtain ⟨e0, -⟩ := st 0 _ (by omega) s1
  have hN := searchN_eq ⟨field r, by omega⟩
  unfold fieldW
  rw [show 8388608#32 = wd (2 ^ 0) by decide, show 16777216#32 = wd (2 ^ 1) by decide, show 33554432#32 = wd (2 ^ 2) by decide,
    show 67108864#32 = wd (2 ^ 3) by decide, show 134217728#32 = wd (2 ^ 4) by decide, show 268435456#32 = wd (2 ^ 5) by decide,
    show 536870912#32 = wd (2 ^ 6) by decide, show 1073741824#32 = wd (2 ^ 7) by decide, show 0#32 = wd 0 by decide]
  rw [e7, e6, e5, e4, e3, e2, e1, e0]
  exact congrArg wd hN

/-! ## The scale and its reciprocal -/

/-- The field of the scale: the next one, or 1's for a step below the smallest normal. -/
def scaleN (r : ℝ) : ℕ := if field r = 0 then 127 else field r + 1

theorem scaleN_range {r : ℝ} (h1 : r < 2 ^ (126 : ℤ)) : 2 ≤ scaleN r ∧ scaleN r ≤ 253 := by
  have := field_le h1
  unfold scaleN
  split <;> omega

theorem pick : ∀ f : Fin 253, (if (8388608#32).slt (wd f.val + 8388608#32) then wd f.val + 8388608#32 else 1065353216#32) = wd (if f.val = 0 then 127 else f.val + 1) := by
  decide +kernel

theorem scaleW_eq {r : ℝ} (h0 : 0 ≤ r) (h1 : r < 2 ^ (126 : ℤ)) : scaleW r = wd (scaleN r) := by
  unfold scaleW
  rw [fieldW_eq h0 h1]
  exact pick ⟨field r, by have := field_le h1; omega⟩

theorem wd_sub : ∀ f : Fin 254, 2130706432#32 - wd f.val = wd (254 - f.val) := by decide +kernel

/-- The exponent of the scale by logarithm and floor, 0 below the smallest normal. -/
def expo (t : EReal) : EReal :=
  if t < Ideal.ofBits .f32 0x00800000#32 then Ideal.ofBits .f32 0x00000000#32
  else Ideal.liftRound Int.floor (Ideal.div (Ideal.log t) (Ideal.log (Ideal.ofBits .f32 0x40000000#32))) + Ideal.ofBits .f32 0x3F800000#32

theorem expo_eq {r : ℝ} (h0 : 0 ≤ r) (h1 : r < 2 ^ (126 : ℤ)) : expo r = (((scaleN r : ℤ) - 127 : ℤ) : ℝ) := by
  have e1 : Ideal.ofBits .f32 0x00800000#32 = (((2 : ℝ) ^ (-126 : ℤ) : ℝ) : EReal) := ofBits_wd (f := 1) (by omega) (by omega)
  have e2 : Ideal.ofBits .f32 0x40000000#32 = ((2 : ℝ) : EReal) := by
    have := ofBits_wd (f := 128) (by omega) (by omega)
    norm_num at this
    exact this
  unfold expo scaleN field
  rw [e1, e2, Ideal.ofBits_one_f32, Ideal.ofBits_zero_f32]
  simp only [EReal.coe_lt_coe_iff]
  by_cases h : r < 2 ^ (-126 : ℤ)
  · have h' : r < (2 : ℝ) ^ (-126 : ℤ) := h
    rw [if_pos h', if_pos h', if_pos rfl]; norm_num
  · have hr := log_range h h1
    have h' := h
    push Not at h
    have hp : (0 : ℝ) < r := lt_of_lt_of_le (by positivity) h
    rw [if_neg h', if_neg h', if_neg (by omega)]
    have hl : Real.log 2 ≠ 0 := (Real.log_pos (by norm_num)).ne'
    rw [Ideal.log_coe, Ideal.log_coe, if_neg (by linarith), if_neg (by norm_num), Ideal.div_coe hl]
    have e3 : (Real.log r : EReal) * ((1 / Real.log 2 : ℝ) : EReal) = ((Real.log r / Real.log 2 : ℝ) : EReal) := by
      rw [← EReal.coe_mul]; congr 1; ring
    rw [e3]
    show (((lg r : ℤ) : ℝ) : EReal) + 1 = _
    rw [← EReal.coe_one, ← EReal.coe_add]
    congr 1
    have : (((lg r + 127).toNat + 1 : ℕ) : ℤ) - 127 = lg r + 1 := by push_cast; omega
    rw [this]; push_cast; ring

theorem exp2_int (z : ℤ) : Ideal.exp2 (((z : ℝ) : ℝ) : EReal) = (((2 : ℝ) ^ z : ℝ) : EReal) := by
  rw [Ideal.exp2_coe]; congr 1; exact Real.rpow_intCast 2 z

/-- The scale read from its word is the power of two of the exponent. -/
theorem scale_eq {t : EReal} (h0 : 0 ≤ t) (h1 : t < (((2 : ℝ) ^ (126 : ℤ) : ℝ) : EReal)) : Ideal.ofBits .f32 (scaleW t) = Ideal.exp2 (expo t) := by
  lift t to ℝ using ⟨(lt_of_lt_of_le h1 le_top).ne, (lt_of_lt_of_le EReal.bot_lt_zero h0).ne'⟩
  have h0' : 0 ≤ t := by exact_mod_cast h0
  have h1' : t < (2 : ℝ) ^ (126 : ℤ) := EReal.coe_lt_coe_iff.mp h1
  have hr := scaleN_range h1'
  rw [scaleW_eq h0' h1', expo_eq h0' h1', exp2_int, ofBits_wd (by omega) (by omega)]

/-- And the reciprocal. -/
theorem inv_eq {t : EReal} (h0 : 0 ≤ t) (h1 : t < (((2 : ℝ) ^ (126 : ℤ) : ℝ) : EReal)) :
    Ideal.ofBits .f32 (2130706432#32 - scaleW t) = Ideal.exp2 (Ideal.ofBits .f32 0x00000000#32 - expo t) := by
  lift t to ℝ using ⟨(lt_of_lt_of_le h1 le_top).ne, (lt_of_lt_of_le EReal.bot_lt_zero h0).ne'⟩
  have h0' : 0 ≤ t := by exact_mod_cast h0
  have h1' : t < (2 : ℝ) ^ (126 : ℤ) := EReal.coe_lt_coe_iff.mp h1
  have hr := scaleN_range h1'
  rw [scaleW_eq h0' h1', expo_eq h0' h1', Ideal.ofBits_zero_f32]
  have e : (0 : EReal) - ((((scaleN t : ℤ) - 127 : ℤ) : ℝ) : EReal) = ((((254 - scaleN t : ℕ) : ℤ) - 127 : ℤ) : ℝ) := by
    rw [← EReal.coe_zero, ← EReal.coe_sub]; congr 1
    have : (((254 - scaleN t : ℕ) : ℤ)) = 254 - (scaleN t : ℤ) := by omega
    rw [this]; push_cast; ring
  rw [e, exp2_int, wd_sub ⟨scaleN t, by omega⟩]
  exact ofBits_wd (f := 254 - scaleN t) (by omega) (by omega)

end Cert.Proof.Quant

end
-- ==== Proof.Spec.lean ====
/-
  One row of the problem as scalars over the extended reals: the normalised and modulated row, a group's step, its
  codes and scale, and the bound on the step that the precondition gives.
-/
module

public import proofs.«01_k».proof.Proof.Quant

@[expose] public section

set_option maxRecDepth 16384

noncomputable section

namespace Cert.Proof.Spec

open Idealize.ShloMosaic
open scoped BigOperators

/-! ## The row -/

/-- The exact reciprocal of the row's length. -/
abbrev invN : EReal := ((1 / 7168 : ℝ) : EReal)

def mean (x : Fin 7168 → EReal) : EReal := (∑ k, x k) * invN
def rstd (x : Fin 7168 → EReal) : EReal :=
  Ideal.rsqrt ((∑ k, (x k - mean x) * (x k - mean x)) * invN + Ideal.ofBits .f32 0x358637BD#32)
/-- The modulated row. -/
def row (x sc sh : Fin 7168 → EReal) (j : Fin 7168) : EReal := (x j - mean x) * rstd x * (1 + sc j) + sh j
/-- Column `l` of group `g`. -/
abbrev col (g : Fin 56) (l : Fin 128) : Fin 7168 := ⟨128 * g.val + l.val, by have := g.isLt; have := l.isLt; omega⟩
/-- The group of a column. -/
abbrev grp (j : Fin 7168) : Fin 56 := ⟨j.val / 128, by have := j.isLt; omega⟩
/-- A group's largest magnitude times 1/448. -/
def step (h : Fin 128 → EReal) : EReal :=
  Finset.univ.fold max (Ideal.ofBits .f32 0xFF800000#32) (fun k => max (h k) (-(h k))) * Ideal.ofBits .f32 0x3B124925#32
/-- The step of group `g` of a row. -/
def stepAt (x sc sh : Fin 7168 → EReal) (g : Fin 56) : EReal := step fun l => row x sc sh (col g l)
/-- A code: the element times the scale's reciprocal, clipped. -/
def clip (h i : EReal) : EReal := min (Ideal.ofBits .f32 0x43E00000#32) (max (Ideal.ofBits .f32 0xC3E00000#32) (h * i))

/-- The scale, its reciprocal, the code and the dequantised element as the exponents give them. -/
def scale (x sc sh : Fin 7168 → EReal) (g : Fin 56) : EReal := Ideal.exp2 (Quant.expo (stepAt x sc sh g))
def inv (x sc sh : Fin 7168 → EReal) (g : Fin 56) : EReal := Ideal.exp2 (Ideal.ofBits .f32 0x00000000#32 - Quant.expo (stepAt x sc sh g))
def code (x sc sh : Fin 7168 → EReal) (j : Fin 7168) : EReal := clip (row x sc sh j) (inv x sc sh (grp j))
def act (x sc sh : Fin 7168 → EReal) (j : Fin 7168) : EReal := code x sc sh j * scale x sc sh (grp j)
/-- The same from the words. -/
def scaleW (x sc sh : Fin 7168 → EReal) (g : Fin 56) : EReal := Ideal.ofBits .f32 (Quant.scaleW (stepAt x sc sh g))
def invW (x sc sh : Fin 7168 → EReal) (g : Fin 56) : EReal := Ideal.ofBits .f32 (2130706432#32 - Quant.scaleW (stepAt x sc sh g))
def codeW (x sc sh : Fin 7168 → EReal) (j : Fin 7168) : EReal := clip (row x sc sh j) (invW x sc sh (grp j))
def actW (x sc sh : Fin 7168 → EReal) (j : Fin 7168) : EReal := codeW x sc sh j * scaleW x sc sh (grp j)

/-- An output element: the row against a column of the weight, the bias added, the gate multiplied in. -/
def out (a w : Fin 7168 → EReal) (b g : EReal) : EReal := ((∑ k, a k * w k) + b) * g

/-! ## The literals -/

/-- A positive normal pattern by its parts. -/
theorem ofBits_parts (w : BitVec 32) (f n : ℕ) (a : (w.extractLsb' 31 1 == 1#1) = false) (b : (w.extractLsb' 23 8).toNat = f) (c : (w.extractLsb' 0 23).toNat = n)
    (h1 : 1 ≤ f) (h2 : f ≤ 254) : Ideal.ofBits .f32 w = (((8388608 + n : ℕ) * (2 : ℝ) ^ ((f : ℤ) - 150) : ℝ) : EReal) := by
  show Ideal.ieee 8 23 w = _
  unfold Ideal.ieee
  simp only [show (8 + 23 : ℕ) = 31 from rfl] at *
  rw [a, b, c]
  rw [if_neg (by norm_num; omega), if_neg (by omega)]
  congr 1
  have e : ((f : ℤ) - (2 ^ (8 - 1) - 1) - (23 : ℕ) : ℤ) = (f : ℤ) - 150 := by norm_num; ring
  rw [e]
  norm_num

theorem eps_pos : ∃ e : ℝ, 0 < e ∧ Ideal.ofBits .f32 0x358637BD#32 = (e : EReal) :=
  ⟨_, by positivity, ofBits_parts 0x358637BD#32 107 407485 (by decide) (by decide) (by decide) (by decide) (by decide)⟩

theorem third : ∃ e : ℝ, 0 ≤ e ∧ e ≤ 1 / 440 ∧ Ideal.ofBits .f32 0x3B124925#32 = (e : EReal) := by
  refine ⟨_, by positivity, ?_, ofBits_parts 0x3B124925#32 118 1198373 (by decide) (by decide) (by decide) (by decide) (by decide)⟩
  norm_num [zpow_neg]

theorem top_bf16 : ∃ e : ℝ, 0 ≤ e ∧ e ≤ 2 ^ 128 ∧ Ideal.ofBits .f32 0x7F7F0000#32 = (e : EReal) := by
  refine ⟨_, by positivity, ?_, ofBits_parts 0x7F7F0000#32 254 8323072 (by decide) (by decide) (by decide) (by decide) (by decide)⟩
  norm_num

theorem neg_inf : Ideal.ofBits .f32 0xFF800000#32 = ⊥ := by
  have a : ((0xFF800000#32 : BitVec 32).extractLsb' 31 1 == 1#1) = true := by decide
  have b : ((0xFF800000#32 : BitVec 32).extractLsb' 23 8).toNat = 255 := by decide
  have c : ((0xFF800000#32 : BitVec 32).extractLsb' 0 23).toNat = 0 := by decide
  show Ideal.ieee 8 23 (0xFF800000#32 : BitVec 32) = _
  unfold Ideal.ieee
  simp only [show (8 + 23 : ℕ) = 31 from rfl] at *
  rw [a, b, c]
  norm_num

/-! ## The bound on the step -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The normalised element of a row of finite elements is a real of magnitude at most 85. -/
theorem norm_bound (x : Fin 7168 → ℝ) (j : Fin 7168) :
    ∃ n : ℝ, |n| ≤ 85 ∧ ((x j : EReal) - mean fun k => (x k : EReal)) * rstd (fun k => (x k : EReal)) = (n : EReal) := by
  obtain ⟨e, he, hE⟩ := eps_pos
  set μ : ℝ := (∑ k, x k) * (1 / 7168) with hμ
  have hm : mean (fun k => (x k : EReal)) = (μ : EReal) := by
    unfold mean; rw [← coe_sum, ← EReal.coe_mul]
  set s : ℝ := ∑ k, (x k - μ) * (x k - μ) with hs
  have hs0 : 0 ≤ s := Finset.sum_nonneg fun k _ => mul_self_nonneg _
  have hv : 0 < s * (1 / 7168) + e := by positivity
  have hr : rstd (fun k => (x k : EReal)) = (((Real.sqrt (s * (1 / 7168) + e))⁻¹ : ℝ) : EReal) := by
    unfold rstd
    rw [hm, hE]
    have : (∑ k, ((x k : EReal) - (μ : EReal)) * ((x k : EReal) - (μ : EReal))) = (s : EReal) := by
      rw [hs, coe_sum]
      exact Finset.sum_congr rfl fun k _ => by rw [← EReal.coe_sub, ← EReal.coe_mul]
    rw [this, ← EReal.coe_mul, ← EReal.coe_add, Ideal.rsqrt_coe, if_neg (by linarith), if_neg hv.ne']
  refine ⟨(x j - μ) * (Real.sqrt (s * (1 / 7168) + e))⁻¹, ?_, ?_⟩
  · have hj : (x j - μ) * (x j - μ) ≤ s := Finset.single_le_sum (f := fun k => (x k - μ) * (x k - μ)) (fun k _ => mul_self_nonneg _) (Finset.mem_univ j)
    have hq : 0 < Real.sqrt (s * (1 / 7168) + e) := Real.sqrt_pos.mpr hv
    rw [abs_mul, abs_of_pos (inv_pos.mpr hq), ← div_eq_mul_inv, div_le_iff₀ hq]
    refine abs_le_of_sq_le_sq ?_ (by positivity)
    rw [mul_pow, Real.sq_sqrt hv.le]
    nlinarith
  · rw [hm, hr, ← EReal.coe_sub, ← EReal.coe_mul]

theorem sum_bot {ι : Type} (s : Finset ι) (f : ι → EReal) (i : ι) (hi : i ∈ s) (h : f i = ⊥) : ∑ k ∈ s, f k = ⊥ := by
  classical
  rw [← Finset.add_sum_erase s f hi, h, EReal.bot_add]

theorem sum_top {ι : Type} (s : Finset ι) (f : ι → EReal) (i : ι) (hi : i ∈ s) (h : f i = ⊤) (hb : ∀ k ∈ s, f k ≠ ⊥) : ∑ k ∈ s, f k = ⊤ := by
  classical
  rw [← Finset.add_sum_erase s f hi, h]
  refine EReal.top_add_of_ne_bot ?_
  have hs : ∀ t : Finset ι, (∀ k ∈ t, f k ≠ ⊥) → ∑ k ∈ t, f k ≠ ⊥ := fun t => by
    induction t using Finset.induction_on with
    | empty => intro _; simp
    | insert a t ha ih =>
      intro hb
      rw [Finset.sum_insert ha, Ne, EReal.add_eq_bot_iff, not_or]
      exact ⟨hb a (Finset.mem_insert_self _ _), ih fun k hk => hb k (Finset.mem_insert_of_mem hk)⟩
  exact hs _ fun k hk => hb k (Finset.mem_of_mem_erase hk)

/-- The mean of a row with an infinite element is infinite. -/
theorem mean_inf (x : Fin 7168 → EReal) (i : Fin 7168) (h : x i = ⊥ ∨ x i = ⊤) : mean x = ⊥ ∨ mean x = ⊤ := by
  have h0 : (0 : ℝ) < 1 / 7168 := by norm_num
  unfold mean
  by_cases hb : ∃ k, x k = ⊥
  · obtain ⟨k, hk⟩ := hb
    exact .inl (by rw [sum_bot _ _ k (Finset.mem_univ _) hk, EReal.bot_mul_coe_of_pos h0])
  · have hb' : ∀ k, x k ≠ ⊥ := fun k hk => hb ⟨k, hk⟩
    exact .inr (by rw [sum_top _ _ i (Finset.mem_univ _) (h.resolve_left (hb' i)) fun k _ => hb' k, EReal.top_mul_coe_of_pos h0])

/-- Every square about an infinite mean is infinite. -/
theorem sq_inf (a μ : EReal) (h : μ = ⊥ ∨ μ = ⊤) : (a - μ) * (a - μ) = ⊤ := by
  rcases h with rfl | rfl
  · induction a with
    | bot => rw [sub_eq_add_neg, EReal.neg_bot, EReal.bot_add, EReal.bot_mul_bot]
    | top => rw [sub_eq_add_neg, EReal.neg_bot, EReal.top_add_top, EReal.top_mul_top]
    | coe r => rw [sub_eq_add_neg, EReal.neg_bot, EReal.coe_add_top, EReal.top_mul_top]
  · rw [sub_eq_add_neg, EReal.neg_top, EReal.add_bot, EReal.bot_mul_bot]

/-- A row with an infinite element has an infinite variance, so the reciprocal deviation is zero. -/
theorem rstd_inf (x : Fin 7168 → EReal) (i : Fin 7168) (h : x i = ⊥ ∨ x i = ⊤) : rstd x = 0 := by
  obtain ⟨e, he, hE⟩ := eps_pos
  unfold rstd
  have hs : (∑ k, (x k - mean x) * (x k - mean x)) = ⊤ :=
    sum_top _ _ i (Finset.mem_univ _) (sq_inf _ _ (mean_inf x i h)) fun k _ => by rw [sq_inf _ _ (mean_inf x i h)]; exact top_ne_bot
  rw [hs, hE, EReal.top_mul_coe_of_pos (by norm_num), EReal.top_add_coe]
  rfl

/-- The normalised element of any row is a real of magnitude at most 85: zero where the row has an infinite element. -/
theorem norm_bound' (x : Fin 7168 → EReal) (j : Fin 7168) : ∃ n : ℝ, |n| ≤ 85 ∧ (x j - mean x) * rstd x = (n : EReal) := by
  by_cases h : ∃ i, x i = ⊥ ∨ x i = ⊤
  · obtain ⟨i, hi⟩ := h
    exact ⟨0, by norm_num, by rw [rstd_inf x i hi, mul_zero, EReal.coe_zero]⟩
  · have hr : ∀ k, ∃ r : ℝ, x k = (r : EReal) := fun k =>
      ⟨(x k).toReal, (EReal.coe_toReal (fun e => h ⟨k, .inr e⟩) (fun e => h ⟨k, .inl e⟩)).symm⟩
    choose xr ex using hr
    obtain rfl : x = fun k => (xr k : EReal) := funext ex
    exact norm_bound xr j

/-- So the modulated element is a real of magnitude at most `87 · 2^128`. -/
theorem row_bound (x : Fin 7168 → EReal) (sc sh : Fin 7168 → ℝ) (hsc : ∀ k, |sc k| ≤ 2 ^ 128) (hsh : ∀ k, |sh k| ≤ 2 ^ 128) (j : Fin 7168) :
    ∃ n : ℝ, |n| ≤ 87 * 2 ^ 128 ∧ row x (fun k => (sc k : EReal)) (fun k => (sh k : EReal)) j = (n : EReal) := by
  obtain ⟨n, hn, e⟩ := norm_bound' x j
  refine ⟨n * (1 + sc j) + sh j, ?_, ?_⟩
  · have h1 : |n * (1 + sc j)| ≤ 85 * (1 + 2 ^ 128) := by
      rw [abs_mul]
      refine mul_le_mul hn ((abs_add_le _ _).trans ?_) (abs_nonneg _) (by norm_num)
      rw [abs_one]; linarith [hsc j]
    refine (abs_add_le _ _).trans ?_
    have := hsh j
    norm_num at *
    linarith
  · unfold row
    rw [e, ← EReal.coe_one, ← EReal.coe_add, ← EReal.coe_mul, ← EReal.coe_add]

/-- What the precondition says of a row. -/
structure Ok (sc sh : Fin 7168 → EReal) : Prop where
  sc_le : ∀ k, max (sc k) (-(sc k)) ≤ Ideal.ofBits .f32 0x7F7F0000#32
  sh_le : ∀ k, max (sh k) (-(sh k)) ≤ Ideal.ofBits .f32 0x7F7F0000#32

theorem real_of_lt_top {a : EReal} (h : max a (-a) < ⊤) : ∃ r : ℝ, a = (r : EReal) := by
  obtain ⟨h1, h2⟩ := max_lt_iff.mp h
  induction a with
  | bot => simp at h2
  | top => simp at h1
  | coe r => exact ⟨r, rfl⟩

theorem real_of_le {a : EReal} {M : ℝ} (h : max a (-a) ≤ (M : EReal)) : ∃ r : ℝ, |r| ≤ M ∧ a = (r : EReal) := by
  obtain ⟨r, rfl⟩ := real_of_lt_top (lt_of_le_of_lt h (EReal.coe_lt_top M))
  obtain ⟨h1, h2⟩ := max_le_iff.mp h
  rw [← EReal.coe_neg, EReal.coe_le_coe_iff] at h2
  rw [EReal.coe_le_coe_iff] at h1
  exact ⟨r, abs_le.mpr ⟨by linarith, h1⟩, rfl⟩

theorem step_range {x sc sh : Fin 7168 → EReal} (h : Ok sc sh) (g : Fin 56) :
    0 ≤ stepAt x sc sh g ∧ stepAt x sc sh g < (((2 : ℝ) ^ (126 : ℤ) : ℝ) : EReal) := by
  obtain ⟨M, hM0, hM, eM⟩ := top_bf16
  obtain ⟨c, hc0, hc, ec⟩ := third
  have hsc := fun k => real_of_le (by have := h.sc_le k; rwa [eM] at this)
  have hsh := fun k => real_of_le (by have := h.sh_le k; rwa [eM] at this)
  choose scr hscr esc using hsc
  choose shr hshr esh using hsh
  obtain rfl : sc = fun k => (scr k : EReal) := funext esc
  obtain rfl : sh = fun k => (shr k : EReal) := funext esh
  have hb := row_bound x scr shr (fun k => (hscr k).trans hM) (fun k => (hshr k).trans hM)
  choose n hn en using hb
  unfold stepAt step
  rw [ec, neg_inf]
  have habs : ∀ l : Fin 128, max (row x (fun k => (scr k : EReal)) (fun k => (shr k : EReal)) (col g l))
      (-(row x (fun k => (scr k : EReal)) (fun k => (shr k : EReal)) (col g l))) = ((|n (col g l)| : ℝ) : EReal) := fun l => by
    rw [en, ← EReal.coe_neg]
    exact (EReal.coe_strictMono.monotone.map_max).symm
  simp only [habs]
  set A := Finset.univ.fold max (⊥ : EReal) (fun l : Fin 128 => ((|n (col g l)| : ℝ) : EReal)) with hA
  have hA0 : (0 : EReal) ≤ A := (Finset.le_fold_max _).mpr (.inr ⟨0, Finset.mem_univ _, by exact_mod_cast abs_nonneg _⟩)
  have hA1 : A ≤ ((87 * 2 ^ 128 : ℝ) : EReal) := (Finset.fold_max_le _).mpr ⟨bot_le, fun l _ => EReal.coe_le_coe_iff.mpr (hn _)⟩
  clear_value A
  lift A to ℝ using ⟨(lt_of_le_of_lt hA1 (EReal.coe_lt_top _)).ne, (lt_of_lt_of_le EReal.bot_lt_zero hA0).ne'⟩
  have a0 : 0 ≤ A := by exact_mod_cast hA0
  have a1 : A ≤ 87 * 2 ^ 128 := EReal.coe_le_coe_iff.mp hA1
  rw [← EReal.coe_mul]
  constructor
  · exact_mod_cast mul_nonneg a0 hc0
  · rw [EReal.coe_lt_coe_iff]
    have : A * c ≤ (87 * 2 ^ 128) * (1 / 440) := mul_le_mul a1 hc hc0 (by positivity)
    refine lt_of_le_of_lt this ?_
    norm_num

/-! ## Words and exponents agree -/

theorem scaleW_eq {x sc sh : Fin 7168 → EReal} (h : Ok sc sh) (g : Fin 56) : scaleW x sc sh g = scale x sc sh g :=
  Quant.scale_eq (step_range h g).1 (step_range h g).2
theorem codeW_eq {x sc sh : Fin 7168 → EReal} (h : Ok sc sh) (j : Fin 7168) : codeW x sc sh j = code x sc sh j :=
  congrArg (clip _) (Quant.inv_eq (step_range h _).1 (step_range h _).2)
theorem actW_eq {x sc sh : Fin 7168 → EReal} (h : Ok sc sh) (j : Fin 7168) : actW x sc sh j = act x sc sh j := by
  unfold actW act; rw [codeW_eq h, scaleW_eq h]

end Cert.Proof.Spec

end
-- ==== Proof.KVal.lean ====
/-
  The kernel's blocks at an element, over the extended reals: each is the row's scalar of Spec.lean.
-/
module

public import proofs.«01_k».proof.Proof.Panel
public import proofs.«01_k».proof.Proof.Spec
public import Idealize.ShloMosaic.Lib.Pointwise
public import Idealize.ShloMosaic.Lib.Pointwise.IndexBridge

@[expose] public section

set_option maxRecDepth 16384

noncomputable section

namespace Cert.Proof.KVal

open Cert.KernelIdeal Cert.KernelIdeal.Gen Cert.Proof.KernelIdeal
open Idealize.ShloMosaic
open scoped BigOperators

theorem named_inv : (Named.named κ "inv_n" 0x39124925#32 : Ideal .f32) = ((1 / 7168 : ℝ) : EReal) :=
  IdealRules.named_const.ideal_named_scalar _ _ _ _ rfl

theorem mean_at (v : Vec Ideal S32x7168 .bf16) (a : Fin 32) : meanV v (ix2 a 0) = Spec.mean fun k => v (ix2 a k) := by
  pointwise [meanV, named_inv, Spec.mean]

theorem centre_at (v : Vec Ideal S32x7168 .bf16) (a : Fin 32) (b : Fin 7168) : centreV v (ix2 a b) = v (ix2 a b) - Spec.mean fun k => v (ix2 a k) := by
  pointwise [centreV, mean_at]

theorem rstd_at (v : Vec Ideal S32x7168 .bf16) (a : Fin 32) : rstdV v (ix2 a 0) = Spec.rstd fun k => v (ix2 a k) := by
  pointwise [rstdV, named_inv, centre_at, Spec.rstd]

theorem mod_at (v : Vec Ideal S32x7168 .bf16) (g : Vec Ideal S32x128 .bf16) (sc sh : Vec Ideal S1x1x128 .bf16) (a : Fin 32) (b : Fin 128) :
    modV v g sc sh (ix2 a b) = (g (ix2 a b) - Spec.mean fun k => v (ix2 a k)) * (Spec.rstd fun k => v (ix2 a k)) * (1 + sc (ix3 0 0 b)) + sh (ix3 0 0 b) := by
  pointwise [modV, mean_at, rstd_at]

theorem step_at (h : FVec Ideal S32x128 .f32) (a : Fin 32) : stepV h (ix2 a 0) = Spec.step fun l => h (ix2 a l) := by
  pointwise [stepV, Spec.step]
  rfl

theorem setBit_at (t : FVec Ideal S32x1 .f32) (b : BitVec 32) (w : IVec S32x1 32) (i : S32x1.Idx) : setBit t b w i = Quant.setB (t i) b (w i) := by
  unfold Quant.setB
  show (if BitVec.ofBool (decide (Ideal.ofBits .f32 (w i ||| b) ≤ t i)) = 1#1 then w i ||| b else w i) = _
  by_cases h : Ideal.ofBits .f32 (w i ||| b) ≤ t i <;> simp [h]

theorem field_at (t : FVec Ideal S32x1 .f32) (i : S32x1.Idx) : fieldV t i = Quant.fieldW (t i) := by
  unfold fieldV Quant.fieldW
  simp only [setBit_at]
  rfl

theorem word_at (t : FVec Ideal S32x1 .f32) (i : S32x1.Idx) : wordV t i = Quant.scaleW (t i) := by
  unfold Quant.scaleW
  show (if BitVec.ofBool ((8388608#32).slt (fieldV t i + 8388608#32)) = 1#1 then fieldV t i + 8388608#32 else 1065353216#32) = _
  rw [field_at]
  cases (8388608#32).slt (Quant.fieldW (t i) + 8388608#32) <;> simp

theorem scale_at (h : FVec Ideal S32x128 .f32) (a : Fin 32) : scaleV h (ix2 a 0) = Ideal.ofBits .f32 (Quant.scaleW (Spec.step fun l => h (ix2 a l))) := by
  show Ideal.ofBits .f32 (wordV (stepV h) (ix2 a 0)) = _
  rw [word_at, step_at]

theorem invWord_at (h : FVec Ideal S32x128 .f32) (a : Fin 32) :
    (bitcastToFloat .f32 (subi (broadcast S32x1 2130706432#32) (wordV (stepV h))) : FVec Ideal S32x1 .f32) (ix2 a 0)
      = Ideal.ofBits .f32 (2130706432#32 - Quant.scaleW (Spec.step fun l => h (ix2 a l))) := by
  show Ideal.ofBits .f32 (2130706432#32 - wordV (stepV h) (ix2 a 0)) = _
  rw [word_at, step_at]

theorem codes_at (h : FVec Ideal S32x128 .f32) (a : Fin 32) (b : Fin 128) :
    codesV h (ix2 a b) = Spec.clip (h (ix2 a b)) (Ideal.ofBits .f32 (2130706432#32 - Quant.scaleW (Spec.step fun l => h (ix2 a l)))) := by
  rw [← invWord_at]
  unfold codesV
  generalize (bitcastToFloat .f32 (subi (broadcast S32x1 2130706432#32) (wordV (stepV h))) : FVec Ideal S32x1 .f32) = e
  pointwise [Spec.clip]

theorem act_at (h : FVec Ideal S32x128 .f32) (a : Fin 32) (b : Fin 128) : actV h (ix2 a b) = codesV h (ix2 a b) * scaleV h (ix2 a 0) := by
  unfold actV
  generalize codesV h = e
  generalize scaleV h = s
  pointwise

/-! ## The blocks -/

section Block
variable (x1 : S128x7168.Idx → Ideal .bf16) (x2 x3 : S1x1x7168.Idx → Ideal .bf16)

/-- A row of a block, and the two modulation vectors. -/
abbrev xr (r : Fin 128) : Fin 7168 → EReal := fun k => x1 (ix2 r k)
abbrev vr (x : S1x1x7168.Idx → Ideal .bf16) : Fin 7168 → EReal := fun k => x (ix3 0 0 k)

theorem h_at (r : Fin 128) (g : Fin 56) (b : Fin 128) :
    hV x1 x2 x3 (chunkOf (n := 7168) (ix2 r 0)) g (ix2 ⟨r.val % 32, Nat.mod_lt _ (by decide)⟩ b) = Spec.row (xr x1 r) (vr x3) (vr x2) (Spec.col g b) := by
  have hr : (⟨32 * (r.val / 32) + r.val % 32, by omega⟩ : Fin 128) = r := Fin.ext (by show 32 * (r.val / 32) + r.val % 32 = r.val; omega)
  have hx : ∀ k : Fin 7168, x1 (ValueIdx.ix2 ⟨32 * (r.val / 32) + r.val % 32, by omega⟩ k) = xr x1 r k := fun k => by
    rw [hr, ← ix2_eq_valueIdx]
  have hv : (fun k => chunkV x1 (chunkOf (n := 7168) (ix2 r 0)) (ix2 ⟨r.val % 32, Nat.mod_lt _ (by decide)⟩ k)) = xr x1 r := funext fun k => hx k
  have hg : groupV x1 (chunkOf (n := 7168) (ix2 r 0)) g (ix2 ⟨r.val % 32, Nat.mod_lt _ (by decide)⟩ b) = xr x1 r (Spec.col g b) := hx _
  have hp : ∀ x : S1x1x7168.Idx → Ideal .bf16, partV x g (ix3 0 0 b) = vr x (Spec.col g b) := fun x => congrArg x (ix3_eq_valueIdx 0 0 (Spec.col g b)).symm
  unfold hV
  rw [mod_at, hv, hg, hp, hp]
  rfl

theorem scaleB_tile (r : Fin 128) (g : Fin 56) :
    scaleB x1 x2 x3 (ix2 r g) = scaleV (hV x1 x2 x3 (chunkOf (n := 7168) (ix2 r 0)) g) (ix2 ⟨r.val % 32, Nat.mod_lt _ (by decide)⟩ 0) :=
  congrArg (scaleV (hV x1 x2 x3 (chunkOf (n := 7168) (ix2 r 0)) g)) (ix2_eq_valueIdx ⟨r.val % 32, Nat.mod_lt _ (by decide)⟩ 0).symm

theorem codesB_tile (r : Fin 128) (j : Fin 7168) :
    codesB x1 x2 x3 (ix2 r j) = codesV (hV x1 x2 x3 (chunkOf (n := 7168) (ix2 r 0)) (Spec.grp j)) (ix2 ⟨r.val % 32, Nat.mod_lt _ (by decide)⟩ ⟨j.val % 128, Nat.mod_lt _ (by decide)⟩) :=
  congrArg (codesV (hV x1 x2 x3 (chunkOf (n := 7168) (ix2 r 0)) (Spec.grp j))) (ix2_eq_valueIdx ⟨r.val % 32, Nat.mod_lt _ (by decide)⟩ ⟨j.val % 128, Nat.mod_lt _ (by decide)⟩).symm

theorem actB_tile (r : Fin 128) (j : Fin 7168) :
    actB x1 x2 x3 (ix2 r j) = actV (hV x1 x2 x3 (chunkOf (n := 7168) (ix2 r 0)) (Spec.grp j)) (ix2 ⟨r.val % 32, Nat.mod_lt _ (by decide)⟩ ⟨j.val % 128, Nat.mod_lt _ (by decide)⟩) :=
  congrArg (actV (hV x1 x2 x3 (chunkOf (n := 7168) (ix2 r 0)) (Spec.grp j))) (ix2_eq_valueIdx ⟨r.val % 32, Nat.mod_lt _ (by decide)⟩ ⟨j.val % 128, Nat.mod_lt _ (by decide)⟩).symm

theorem scaleB_at (r : Fin 128) (g : Fin 56) : scaleB x1 x2 x3 (ix2 r g) = Spec.scaleW (xr x1 r) (vr x3) (vr x2) g := by
  rw [scaleB_tile, scale_at]
  simp only [h_at]
  rfl

theorem col_grp (j : Fin 7168) : Spec.col (Spec.grp j) ⟨j.val % 128, Nat.mod_lt _ (by decide)⟩ = j := Fin.ext (by show 128 * (j.val / 128) + j.val % 128 = j.val; omega)

theorem codesB_at (r : Fin 128) (j : Fin 7168) : codesB x1 x2 x3 (ix2 r j) = Spec.codeW (xr x1 r) (vr x3) (vr x2) j := by
  rw [codesB_tile, codes_at]
  simp only [h_at]
  rw [col_grp]
  rfl

theorem actB_at (r : Fin 128) (j : Fin 7168) : actB x1 x2 x3 (ix2 r j) = Spec.actW (xr x1 r) (vr x3) (vr x2) j := by
  rw [actB_tile, act_at, ← codesB_tile, ← scaleB_tile, codesB_at, scaleB_at]
  rfl

end Block

theorem panel_at (a : FVec Ideal S128x7168 .bf16) (w : FVec Ideal S7168x512 .bf16) (b : FVec Ideal S1x512 .bf16) (g : FVec Ideal S1x1x512 .bf16) (r : Fin 128) (c : Fin 512) :
    panelV a w b g (ix2 r c) = Spec.out (fun k => a (ix2 r k)) (fun k => w (ix2 k c)) (b (ix2 0 c)) (g (ix3 0 0 c)) := by
  pointwise [panelV, Spec.out]

theorem yB_at (a : S128x7168.Idx → Ideal .bf16) (w : S7168x3584.Idx → Ideal .bf16) (b : S1x3584.Idx → Ideal .bf16) (g : S1x1x3584.Idx → Ideal .bf16) (r : Fin 128) (c : Fin 3584) :
    yB a w b g (ix2 r c) = Spec.out (fun k => a (ix2 r k)) (fun k => w (ix2 k c)) (b (ix2 0 c)) (g (ix3 0 0 c)) := by
  have hc : (⟨512 * (c.val / 512) + c.val % 512, by omega⟩ : Fin 3584) = c := Fin.ext (by show 512 * (c.val / 512) + c.val % 512 = c.val; omega)
  have e0 : yB a w b g (ix2 r c) = panelV a (wPart w ⟨c.val / 512, by omega⟩) (bPart b ⟨c.val / 512, by omega⟩) (gPart g ⟨c.val / 512, by omega⟩) (ix2 r ⟨c.val % 512, Nat.mod_lt _ (by decide)⟩) :=
    congrArg (panelV a (wPart w ⟨c.val / 512, by omega⟩) (bPart b ⟨c.val / 512, by omega⟩) (gPart g ⟨c.val / 512, by omega⟩)) (ix2_eq_valueIdx r ⟨c.val % 512, Nat.mod_lt _ (by decide)⟩).symm
  have e1 : ∀ k, wPart w ⟨c.val / 512, by omega⟩ (ix2 k ⟨c.val % 512, Nat.mod_lt _ (by decide)⟩) = w (ix2 k c) := fun k =>
    (show _ = w (ValueIdx.ix2 k ⟨512 * (c.val / 512) + c.val % 512, by omega⟩) from rfl).trans (by rw [hc, ← ix2_eq_valueIdx])
  have e2 : bPart b ⟨c.val / 512, by omega⟩ (ix2 0 ⟨c.val % 512, Nat.mod_lt _ (by decide)⟩) = b (ix2 0 c) :=
    (show _ = b (ValueIdx.ix2 0 ⟨512 * (c.val / 512) + c.val % 512, by omega⟩) from rfl).trans (by rw [hc, ← ix2_eq_valueIdx])
  have e3 : gPart g ⟨c.val / 512, by omega⟩ (ix3 0 0 ⟨c.val % 512, Nat.mod_lt _ (by decide)⟩) = g (ix3 0 0 c) :=
    (show _ = g (ValueIdx.ix3 0 0 ⟨512 * (c.val / 512) + c.val % 512, by omega⟩) from rfl).trans (by rw [hc, ← ix3_eq_valueIdx])
  rw [e0, panel_at, e2, e3]
  simp only [e1]

end Cert.Proof.KVal

end
-- ==== Proof.Arrays.lean ====
/-
  The three results as arrays: a row of the result is a function of a token's row, its batch's modulation and gate, and
  the weight, given once by the exponents and once by the words.
-/
module

public import proofs.«01_k».proof.Proof.Spec
public import Idealize.ShloMosaic.Lib.Pointwise

@[expose] public section

set_option maxRecDepth 16384

noncomputable section

namespace Cert.Proof.Spec

open Idealize.ShloMosaic

section
variable (X : (⟨3, ![8, 4096, 7168]⟩ : Shape).Idx → EReal) (SH SC : (⟨2, ![8, 7168]⟩ : Shape).Idx → EReal)
  (G : (⟨2, ![8, 3584]⟩ : Shape).Idx → EReal) (W : (⟨2, ![7168, 3584]⟩ : Shape).Idx → EReal)
  (S : (⟨2, ![56, 28]⟩ : Shape).Idx → EReal) (B : (⟨1, ![3584]⟩ : Shape).Idx → EReal)

abbrev batch (n : Fin 32768) : Fin 8 := ⟨n.val / 4096, by have := n.isLt; omega⟩
/-- Token `n`'s row. -/
def xRow (n : Fin 32768) : Fin 7168 → EReal := fun k => X (ix3 (batch n) ⟨n.val % 4096, Nat.mod_lt _ (by decide)⟩ k)
/-- Its batch's row of a modulation. -/
def vRow (n : Fin 32768) : Fin 7168 → EReal := fun k => SH (ix2 (batch n) k)
/-- A column of the weight with its block scales. -/
def wCol (c : Fin 3584) : Fin 7168 → EReal := fun k => W (ix2 k c) * S (ix2 ⟨k.val / 128, by have := k.isLt; omega⟩ ⟨c.val / 128, by have := c.isLt; omega⟩)

def codesArr : (⟨2, ![32768, 7168]⟩ : Shape).Idx → EReal := fun i => code (xRow X (i 0)) (vRow SC (i 0)) (vRow SH (i 0)) (i 1)
def scaleArr : (⟨2, ![32768, 56]⟩ : Shape).Idx → EReal := fun i => scale (xRow X (i 0)) (vRow SC (i 0)) (vRow SH (i 0)) (i 1)
def outArr : (⟨2, ![32768, 3584]⟩ : Shape).Idx → EReal := fun i =>
  out (act (xRow X (i 0)) (vRow SC (i 0)) (vRow SH (i 0))) (wCol W S (i 1)) (B (ix1 (i 1))) (G (ix2 (batch (i 0)) (i 1)))
def codesArrW : (⟨2, ![32768, 7168]⟩ : Shape).Idx → EReal := fun i => codeW (xRow X (i 0)) (vRow SC (i 0)) (vRow SH (i 0)) (i 1)
def scaleArrW : (⟨2, ![32768, 56]⟩ : Shape).Idx → EReal := fun i => scaleW (xRow X (i 0)) (vRow SC (i 0)) (vRow SH (i 0)) (i 1)
def outArrW : (⟨2, ![32768, 3584]⟩ : Shape).Idx → EReal := fun i =>
  out (actW (xRow X (i 0)) (vRow SC (i 0)) (vRow SH (i 0))) (wCol W S (i 1)) (B (ix1 (i 1))) (G (ix2 (batch (i 0)) (i 1)))

/-- What the precondition says of the arguments. -/
structure Finite : Prop where
  sh_le : ∀ i, max (SH i) (-(SH i)) ≤ Ideal.ofBits .f32 0x7F7F0000#32
  sc_le : ∀ i, max (SC i) (-(SC i)) ≤ Ideal.ofBits .f32 0x7F7F0000#32

variable {X SH SC}
theorem Finite.row (h : Finite SH SC) (n : Fin 32768) : Ok (vRow SC n) (vRow SH n) :=
  ⟨fun _ => h.sc_le _, fun _ => h.sh_le _⟩

theorem codesArr_eq (h : Finite SH SC) : codesArrW X SH SC = codesArr X SH SC := funext fun i => codeW_eq (h.row _) _
theorem scaleArr_eq (h : Finite SH SC) : scaleArrW X SH SC = scaleArr X SH SC := funext fun i => scaleW_eq (h.row _) _
theorem outArr_eq (h : Finite SH SC) : outArrW X SH SC G W S B = outArr X SH SC G W S B := funext fun i => by
  unfold outArrW outArr
  rw [funext (actW_eq (h.row (i 0)))]
end

end Cert.Proof.Spec

end
-- ==== Proof.KArr.lean ====
/-
  The kernel's three result arrays as functions of its arguments, over the extended reals.
-/
module

public import proofs.«01_k».proof.Proof.KVal
public import proofs.«01_k».proof.Proof.Dats
public import proofs.«01_k».proof.Proof.Arrays
public import Idealize.ShloMosaic.Lib.Pipeline.ValueKit

@[expose] public section

set_option maxRecDepth 16384

noncomputable section

namespace Cert.Proof.KVal

open Cert.KernelIdeal Cert.KernelIdeal.Gen Cert.Proof.KernelIdeal
open Idealize.ShloMosaic Idealize.ShloMosaic.TcCoe
open Idealize.ShloMosaic.Pipeline (Dat Cfg Window)

variable (m : (ℓ : Loc nD τ sig) → Buf (Elt Ideal) ℓ) (c : Dev nD)

abbrev X0 : (⟨3, ![8, 4096, 7168]⟩ : Shape).Idx → EReal := m ((c.tc : Thread nD τ).loc main_arg0)
abbrev A1 : (⟨2, ![8, 7168]⟩ : Shape).Idx → EReal := m ((c.tc : Thread nD τ).loc main_arg1)
abbrev A2 : (⟨2, ![8, 7168]⟩ : Shape).Idx → EReal := m ((c.tc : Thread nD τ).loc main_arg2)
abbrev A3 : (⟨2, ![8, 3584]⟩ : Shape).Idx → EReal := m ((c.tc : Thread nD τ).loc main_arg3)
abbrev A4 : (⟨2, ![7168, 3584]⟩ : Shape).Idx → EReal := m ((c.tc : Thread nD τ).loc main_arg4)
abbrev A5 : (⟨2, ![56, 28]⟩ : Shape).Idx → EReal := m ((c.tc : Thread nD τ).loc main_arg5)
abbrev A6 : (⟨1, ![3584]⟩ : Shape).Idx → EReal := m ((c.tc : Thread nD τ).loc main_arg6)

/-! ## What the host leaves before the call -/

theorem v0_at (n : Fin 32768) (k : Fin 7168) : (V m c main_v0 : S32768x7168.Idx → EReal) (ix2 n k) = Spec.xRow (X0 m c) n k := by
  have e : (V m c main_v0 : S32768x7168.Idx → EReal) = shapeCast S32768x7168 (X0 m c) shapeCasts_S8x4096x7168_S32768x7168 := by
    unfold_abbrev_sides; after_results; rfl
  rw [e]
  pointwise [Spec.xRow]
theorem v1_at (b : Fin 8) (k : Fin 7168) : (V m c main_v1 : S8x1x7168.Idx → EReal) (ix3 b 0 k) = A1 m c (ix2 b k) := by
  have e : (V m c main_v1 : S8x1x7168.Idx → EReal) = broadcastInDim S8x1x7168 ![0, 2] bcast_S8x7168_S8x1x7168_0_2 (A1 m c) := by
    unfold_abbrev_sides; after_results
  rw [e]
  pointwise
theorem v2_at (b : Fin 8) (k : Fin 7168) : (V m c main_v2 : S8x1x7168.Idx → EReal) (ix3 b 0 k) = A2 m c (ix2 b k) := by
  have e : (V m c main_v2 : S8x1x7168.Idx → EReal) = broadcastInDim S8x1x7168 ![0, 2] bcast_S8x7168_S8x1x7168_0_2 (A2 m c) := by
    unfold_abbrev_sides; after_results
  rw [e]
  pointwise
theorem v3_at (b : Fin 8) (k : Fin 3584) : (V m c main_v3 : S8x1x3584.Idx → EReal) (ix3 b 0 k) = A3 m c (ix2 b k) := by
  have e : (V m c main_v3 : S8x1x3584.Idx → EReal) = broadcastInDim S8x1x3584 ![0, 2] bcast_S8x3584_S8x1x3584_0_2 (A3 m c) := by
    unfold_abbrev_sides; after_results
  rw [e]
  pointwise
theorem v4_at (k : Fin 3584) : (V m c main_v4 : S1x3584.Idx → EReal) (ix2 0 k) = A6 m c (ix1 k) := by
  have e : (V m c main_v4 : S1x3584.Idx → EReal) = broadcastInDim S1x3584 ![1] bcast_S3584_S1x3584_1 (A6 m c) := by
    unfold_abbrev_sides; after_results
  rw [e]
  pointwise

/-! ## The blocks -/

theorem i0 : ∀ t : Fin cfg0.N, win0_0.index t = ![t.val, 0] := (by decide +kernel : ∀ t : Fin grid0.N, _)
theorem i1 : ∀ t : Fin cfg0.N, win0_1.index t = ![t.val / 32, 0, 0] := (by decide +kernel : ∀ t : Fin grid0.N, _)
theorem i2 : ∀ t : Fin cfg0.N, win0_2.index t = ![t.val / 32, 0, 0] := (by decide +kernel : ∀ t : Fin grid0.N, _)
theorem i3 : ∀ t : Fin cfg0.N, win0_3.index t = ![t.val / 32, 0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)
theorem i8 : ∀ t : Fin cfg0.N, win0_8.index t = ![t.val, 0] := (by decide +kernel : ∀ t : Fin grid0.N, _)

theorem t_lt (t : Fin cfg0.N) : t.val < 256 := t.isLt

/-- The array row of row `r` of block `t`. -/
abbrev rowOf (t : Fin cfg0.N) (r : Fin 128) : Fin 32768 := ⟨128 * t.val + r.val, by have := t_lt t; have := r.isLt; omega⟩
theorem batch_row (t : Fin cfg0.N) (r : Fin 128) : Spec.batch (rowOf t r) = ⟨t.val / 32, by have := t_lt t; omega⟩ :=
  Fin.ext (by have := t_lt t; have := r.isLt; show (128 * t.val + r.val) / 4096 = t.val / 32; omega)

theorem x1_row (t : Fin cfg0.N) (r : Fin 128) : xr (x1 m c t) r = Spec.xRow (X0 m c) (rowOf t r) := funext fun k => by
  rw [← v0_at]
  show iblk m c 0 t (ix2 r k) = _
  blk_simp [iblk]
  congr 1
  blk_ext [i0]
theorem x2_row (t : Fin cfg0.N) (r : Fin 128) : vr (x2 m c t) = Spec.vRow (A1 m c) (rowOf t r) := funext fun k => by
  unfold Spec.vRow
  rw [batch_row, ← v1_at]
  show iblk m c 1 t (ix3 0 0 k) = _
  blk_simp [iblk]
  congr 1
  blk_ext [i1]
theorem x3_row (t : Fin cfg0.N) (r : Fin 128) : vr (x3 m c t) = Spec.vRow (A2 m c) (rowOf t r) := funext fun k => by
  unfold Spec.vRow
  rw [batch_row, ← v2_at]
  show iblk m c 2 t (ix3 0 0 k) = _
  blk_simp [iblk]
  congr 1
  blk_ext [i2]
theorem x4_at (t : Fin cfg0.N) (r : Fin 128) (k : Fin 3584) : (x4 m c t : S1x1x3584.Idx → EReal) (ix3 0 0 k) = A3 m c (ix2 (Spec.batch (rowOf t r)) k) := by
  rw [batch_row, ← v3_at]
  show iblk m c 3 t (ix3 0 0 k) = _
  blk_simp [iblk]
  congr 1
  blk_ext [i3]
theorem x7_at (t : Fin cfg0.N) (k : Fin 3584) : (x7 m c t : S1x3584.Idx → EReal) (ix2 0 k) = A6 m c (ix1 k) := by
  rw [← v4_at]
  show iblk m c 5 t (ix2 0 k) = _
  blk_simp [iblk]
  congr 1
  blk_ext [i5]
theorem wf_at (k : Fin 7168) (j : Fin 3584) : (wf m c : S7168x3584.Idx → EReal) (ix2 k j) = Spec.wCol (A4 m c) (A5 m c) j k := by
  have e4 : (V m c main_arg4 : S7168x3584.Idx → EReal) = A4 m c := V_main_arg4 m c
  have e5 : (V m c main_arg5 : S56x28.Idx → EReal) = A5 m c := V_main_arg5 m c
  have g : ∀ (w : S7168x3584.Idx → EReal) (s : S56x28.Idx → EReal), (scaledW (F := Ideal) w s (ix2 k j) : EReal)
      = w (ix2 k j) * s (ix2 ⟨k.val / 128, by have := k.isLt; omega⟩ ⟨j.val / 128, by have := j.isLt; omega⟩) := fun w s =>
    congrArg (fun z => w (ix2 k j) * s z) (ix2_eq_valueIdx _ _).symm
  refine (congrFun (congrArg₂ (scaledW (F := Ideal)) e4 e5) (ix2 k j)).trans (g _ _)

/-! ## The arrays -/

theorem codes_row (t : Fin cfg0.N) (r : Fin 128) (j : Fin 7168) : codesAt m c t (ix2 r j) = Spec.codesArrW (X0 m c) (A1 m c) (A2 m c) (ix2 (rowOf t r) j) := by
  refine (codesB_at _ _ _ _ _).trans ?_
  rw [x1_row, x2_row m c t r, x3_row m c t r]
  rfl
theorem scale_row (t : Fin cfg0.N) (r : Fin 128) (g : Fin 56) : scalesAt m c t (ix2 r g) = Spec.scaleArrW (X0 m c) (A1 m c) (A2 m c) (ix2 (rowOf t r) g) := by
  refine (scaleB_at _ _ _ _ _).trans ?_
  rw [x1_row, x2_row m c t r, x3_row m c t r]
  rfl
theorem out_row (t : Fin cfg0.N) (r : Fin 128) (j : Fin 3584) :
    yAt m c t (ix2 r j) = Spec.outArrW (X0 m c) (A1 m c) (A2 m c) (A3 m c) (A4 m c) (A5 m c) (A6 m c) (ix2 (rowOf t r) j) := by
  refine (yB_at _ _ _ _ _ _).trans ?_
  rw [x4_at m c t r, x7_at]
  simp only [actB_at, wf_at]
  rw [x1_row, x2_row m c t r, x3_row m c t r]
  rfl

section Array
variable {c} (dat : Dat τ (Elt Ideal) Unit ℕ (UU nD τ) ℕ cfg0 c)

/-- Output window 7's array from its blocks: block `t` is rows `128 t` to `128 t + 127`. -/
theorem arr7_of (f : Fin cfg0.N → S128x7168.Idx → Ideal .fp8e4m3) (hf : ∀ t, dat.after 7 t = f t) (G : S32768x7168.Idx → Ideal .fp8e4m3)
    (h : ∀ t (r : Fin 128) (k : Fin 7168), f t (ix2 r k) = G (ix2 (rowOf t r) k)) : dat.arrAt 7 cfg0.N = G := by
  refine dat.arrAt_eq_of_covers 7 _ (by decide +kernel) fun t _ y => ?_
  blk_simp
  rw [hf]
  obtain ⟨r, k, rfl⟩ : ∃ (r : Fin 128) (k : Fin 7168), y = ix2 r k := ⟨y 0, y 1, eq_ix2 y⟩
  have e : (win0_7.blk t).view.emb (ix2 r k) = ix2 (rowOf t r) k := by blk_ext [i7]
  rw [e]
  exact h t r k

/-- Output window 8's array from its blocks: block `t` is rows `128 t` to `128 t + 127`. -/
theorem arr8_of (f : Fin cfg0.N → S128x56.Idx → Ideal .f32) (hf : ∀ t, dat.after 8 t = f t) (G : S32768x56.Idx → Ideal .f32)
    (h : ∀ t (r : Fin 128) (k : Fin 56), f t (ix2 r k) = G (ix2 (rowOf t r) k)) : dat.arrAt 8 cfg0.N = G := by
  refine dat.arrAt_eq_of_covers 8 _ (by decide +kernel) fun t _ y => ?_
  blk_simp
  rw [hf]
  obtain ⟨r, k, rfl⟩ : ∃ (r : Fin 128) (k : Fin 56), y = ix2 r k := ⟨y 0, y 1, eq_ix2 y⟩
  have e : (win0_8.blk t).view.emb (ix2 r k) = ix2 (rowOf t r) k := by blk_ext [i8]
  rw [e]
  exact h t r k

/-- Output window 6's array from its blocks: block `t` is rows `128 t` to `128 t + 127`. -/
theorem arr6_of (f : Fin cfg0.N → S128x3584.Idx → Ideal .bf16) (hf : ∀ t, dat.after 6 t = f t) (G : S32768x3584.Idx → Ideal .bf16)
    (h : ∀ t (r : Fin 128) (k : Fin 3584), f t (ix2 r k) = G (ix2 (rowOf t r) k)) : dat.arrAt 6 cfg0.N = G := by
  refine dat.arrAt_eq_of_covers 6 _ (by decide +kernel) fun t _ y => ?_
  blk_simp
  rw [hf]
  obtain ⟨r, k, rfl⟩ : ∃ (r : Fin 128) (k : Fin 3584), y = ix2 r k := ⟨y 0, y 1, eq_ix2 y⟩
  have e : (win0_6.blk t).view.emb (ix2 r k) = ix2 (rowOf t r) k := by blk_ext [i6]
  rw [e]
  exact h t r k

end Array

theorem codes_arr : (dats m 0 c).arrAt 7 cfg0.N = Spec.codesArrW (X0 m c) (A1 m c) (A2 m c) :=
  arr7_of (dats m 0 c) (codesAt m c) (after7 m c) _ (codes_row m c)

theorem scale_arr : (dats m 0 c).arrAt 8 cfg0.N = Spec.scaleArrW (X0 m c) (A1 m c) (A2 m c) :=
  arr8_of (dats m 0 c) (scalesAt m c) (after8 m c) _ (scale_row m c)

theorem out_arr : (dats m 0 c).arrAt 6 cfg0.N = Spec.outArrW (X0 m c) (A1 m c) (A2 m c) (A3 m c) (A4 m c) (A5 m c) (A6 m c) :=
  arr6_of (dats m 0 c) (yAt m c) (after6 m c) _ (out_row m c)

end Cert.Proof.KVal

end
-- ==== Proof.RVal.lean ====
/-
  The reference's three result arrays as functions of its arguments, over the extended reals.
-/
module

public import proofs.«01_k».proof.Proof.Arrays
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.Proof.RVal

open Cert.ReferenceIdeal Cert.ReferenceIdeal.Gen
open Idealize.ShloMosaic Idealize.ShloMosaic.TcCoe
open Idealize.ShloMosaic.Pipeline (Dat Cfg Window)
open scoped BigOperators

/-! ## The body's values at an element -/

theorem seven : Ideal.ofBits .f32 0x45E00000#32 = ((7168 : ℝ) : EReal) := by
  rw [Spec.ofBits_parts 0x45E00000#32 139 6291456 (by decide) (by decide) (by decide) (by decide) (by decide)]
  norm_num [zpow_neg]

theorem div_n (x : EReal) : Ideal.div x (Ideal.ofBits .f32 0x45E00000#32) = x * Spec.invN := by
  rw [seven]; exact Ideal.div_coe (by norm_num) x

theorem h_at (x sc sh : Vec Ideal S32768x7168 .bf16) (n : Fin 32768) (g : Fin 56) (l : Fin 128) :
    k0_pay2 x sc sh (ix3 n g l) = Spec.row (fun k => x (ix2 n k)) (fun k => sc (ix2 n k)) (fun k => sh (ix2 n k)) (Spec.col g l) := by
  pointwise [k0_pay2, div_n, Spec.row, Spec.mean, Spec.rstd, Spec.col]
  simp only [Nat.mul_comm g.val 128]

theorem max_at (x sc sh : Vec Ideal S32768x7168 .bf16) (n : Fin 32768) (g : Fin 56) :
    k0_pay3 x sc sh (ix2 n g) * k0_pay4 (F := Ideal) (ix2 n g) = Spec.stepAt (fun k => x (ix2 n k)) (fun k => sc (ix2 n k)) (fun k => sh (ix2 n k)) g := by
  pointwise [k0_pay3, k0_pay4, h_at, Spec.stepAt, Spec.step]
  rfl

theorem expo_at (a b : FVec Ideal S32768x56 .f32) (i : S32768x56.Idx) : k0_pay5 a b i = Quant.expo (a i * b i) := by
  unfold Quant.expo
  show (if BitVec.ofBool (decide (a i * b i < Ideal.ofBits .f32 0x00800000#32)) = 1#1 then Ideal.ofBits .f32 0x00000000#32 else _) = _
  by_cases h : a i * b i < Ideal.ofBits .f32 0x00800000#32
  · simp [h]
  · simp only [h, decide_false, BitVec.ofBool_false, if_false]
    rfl

theorem scale_at (a b : FVec Ideal S32768x56 .f32) (i : S32768x56.Idx) : k0_pay6 a b i = Ideal.exp2 (Quant.expo (a i * b i)) :=
  congrArg Ideal.exp2 (expo_at a b i)

theorem codes_at (h : FVec Ideal S32768x56x128 .f32) (a b : FVec Ideal S32768x56 .f32) (n : Fin 32768) (j : Fin 7168) :
    k0_pay7 h a b (ix2 n j) = Spec.clip (h (ix3 n (Spec.grp j) ⟨j.val % 128, Nat.mod_lt _ (by decide)⟩))
      (Ideal.exp2 (Ideal.ofBits .f32 0x00000000#32 - Quant.expo (a (ix2 n (Spec.grp j)) * b (ix2 n (Spec.grp j))))) := by
  pointwise [k0_pay7, expo_at, Spec.clip, Spec.grp]
  rfl

theorem weight_at (w : Vec Ideal S7168x3584 .fp8e4m3) (s : Vec Ideal S56x28 .f32) (k : Fin 7168) (c : Fin 3584) : k0_pay1 w s (ix2 k c) = Spec.wCol w s c k := by
  pointwise [k0_pay1, Spec.wCol]

theorem out_at (w : FVec Ideal S7168x3584 .bf16) (h : FVec Ideal S32768x56x128 .f32) (a b : FVec Ideal S32768x56 .f32) (bias : Vec Ideal S1x3584 .bf16) (gate : Vec Ideal S32768x3584 .bf16)
    (n : Fin 32768) (c : Fin 3584) :
    k0_pay8 w h a b bias gate (ix2 n c) = Spec.out (fun j => k0_pay7 h a b (ix2 n j) * k0_pay6 a b (ix2 n (Spec.grp j))) (fun k => w (ix2 k c)) (bias (ix2 0 c)) (gate (ix2 n c)) := by
  pointwise [k0_pay8, Spec.out, Spec.grp]

/-! ## The outputs from the input arrays -/

section Outputs
variable (x0 x1 x2 : Vec Ideal S32768x7168 .bf16) (x3 : Vec Ideal S32768x3584 .bf16) (x4 : Vec Ideal S7168x3584 .fp8e4m3) (x5 : Vec Ideal S56x28 .f32) (x6 : Vec Ideal S1x3584 .bf16)

abbrev rw7168 (x : Vec Ideal S32768x7168 .bf16) (n : Fin 32768) : Fin 7168 → EReal := fun k => x (ix2 n k)

theorem pay6_at (n : Fin 32768) (g : Fin 56) : k0_pay6 (k0_pay3 x0 x2 x1) k0_pay4 (ix2 n g) = Spec.scale (rw7168 x0 n) (rw7168 x2 n) (rw7168 x1 n) g := by
  rw [scale_at, max_at]; rfl
theorem pay7_at (n : Fin 32768) (j : Fin 7168) : k0_pay7 (k0_pay2 x0 x2 x1) (k0_pay3 x0 x2 x1) k0_pay4 (ix2 n j) = Spec.code (rw7168 x0 n) (rw7168 x2 n) (rw7168 x1 n) j := by
  rw [codes_at, max_at, h_at, show Spec.col (Spec.grp j) ⟨j.val % 128, Nat.mod_lt _ (by decide)⟩ = j from Fin.ext (by show 128 * (j.val / 128) + j.val % 128 = j.val; omega)]
  rfl
theorem pay8_at (n : Fin 32768) (j : Fin 3584) : k0_pay8 (k0_pay1 x4 x5) (k0_pay2 x0 x2 x1) (k0_pay3 x0 x2 x1) k0_pay4 x6 x3 (ix2 n j)
      = Spec.out (Spec.act (rw7168 x0 n) (rw7168 x2 n) (rw7168 x1 n)) (Spec.wCol x4 x5 j) (x6 (ix2 0 j)) (x3 (ix2 n j)) := by
  rw [out_at]
  simp only [pay7_at, pay6_at, weight_at]
  rfl

theorem out9_at (n : Fin 32768) (g : Fin 56) : out0_9 x0 x1 x2 x3 x4 x5 x6 (ix2 n g) = Spec.scale (rw7168 x0 n) (rw7168 x2 n) (rw7168 x1 n) g := by
  rw [← pay6_at]
  unfold_out out0_9
  frame_out
theorem out8_at (n : Fin 32768) (j : Fin 7168) : out0_8 x0 x1 x2 x3 x4 x5 x6 (ix2 n j) = Spec.code (rw7168 x0 n) (rw7168 x2 n) (rw7168 x1 n) j := by
  rw [← pay7_at]
  unfold_out out0_8
  frame_out
theorem out7_at (n : Fin 32768) (j : Fin 3584) : out0_7 x0 x1 x2 x3 x4 x5 x6 (ix2 n j)
      = Spec.out (Spec.act (rw7168 x0 n) (rw7168 x2 n) (rw7168 x1 n)) (Spec.wCol x4 x5 j) (x6 (ix2 0 j)) (x3 (ix2 n j)) := by
  rw [← pay8_at]
  unfold_out out0_7
  frame_out
end Outputs

/-! ## What the host leaves before the call -/

variable (m : (ℓ : Loc nD τ sig) → Buf (Elt Ideal) ℓ) (c : Dev nD)

abbrev X0 : (⟨3, ![8, 4096, 7168]⟩ : Shape).Idx → EReal := m ((c.tc : Thread nD τ).loc main_arg0)
abbrev A1 : (⟨2, ![8, 7168]⟩ : Shape).Idx → EReal := m ((c.tc : Thread nD τ).loc main_arg1)
abbrev A2 : (⟨2, ![8, 7168]⟩ : Shape).Idx → EReal := m ((c.tc : Thread nD τ).loc main_arg2)
abbrev A3 : (⟨2, ![8, 3584]⟩ : Shape).Idx → EReal := m ((c.tc : Thread nD τ).loc main_arg3)
abbrev A4 : (⟨2, ![7168, 3584]⟩ : Shape).Idx → EReal := m ((c.tc : Thread nD τ).loc main_arg4)
abbrev A5 : (⟨2, ![56, 28]⟩ : Shape).Idx → EReal := m ((c.tc : Thread nD τ).loc main_arg5)
abbrev A6 : (⟨1, ![3584]⟩ : Shape).Idx → EReal := m ((c.tc : Thread nD τ).loc main_arg6)

theorem v0_at (n : Fin 32768) (k : Fin 7168) : (V m c main_v0 : S32768x7168.Idx → EReal) (ix2 n k) = Spec.xRow (X0 m c) n k := by
  have e : (V m c main_v0 : S32768x7168.Idx → EReal) = shapeCast S32768x7168 (X0 m c) shapeCasts_S8x4096x7168_S32768x7168 := by
    unfold_abbrev_sides; after_results; rfl
  rw [e]
  pointwise [Spec.xRow]
theorem v2_at (n : Fin 32768) (k : Fin 7168) : (V m c main_v2 : S32768x7168.Idx → EReal) (ix2 n k) = Spec.vRow (A1 m c) n k := by
  have e : (V m c main_v2 : S32768x7168.Idx → EReal)
      = shapeCast S32768x7168 (broadcastInDim S8x4096x7168 ![0, 2] bcast_S8x7168_S8x4096x7168_0_2 (A1 m c)) shapeCasts_S8x4096x7168_S32768x7168 := by
    unfold_abbrev_sides; after_results; rfl
  rw [e]
  pointwise [Spec.vRow]
theorem v4_at (n : Fin 32768) (k : Fin 7168) : (V m c main_v4 : S32768x7168.Idx → EReal) (ix2 n k) = Spec.vRow (A2 m c) n k := by
  have e : (V m c main_v4 : S32768x7168.Idx → EReal)
      = shapeCast S32768x7168 (broadcastInDim S8x4096x7168 ![0, 2] bcast_S8x7168_S8x4096x7168_0_2 (A2 m c)) shapeCasts_S8x4096x7168_S32768x7168 := by
    unfold_abbrev_sides; after_results; rfl
  rw [e]
  pointwise [Spec.vRow]
theorem v6_at (n : Fin 32768) (k : Fin 3584) : (V m c main_v6 : S32768x3584.Idx → EReal) (ix2 n k) = A3 m c (ix2 (Spec.batch n) k) := by
  have e : (V m c main_v6 : S32768x3584.Idx → EReal)
      = shapeCast S32768x3584 (broadcastInDim S8x4096x3584 ![0, 2] bcast_S8x3584_S8x4096x3584_0_2 (A3 m c)) shapeCasts_S8x4096x3584_S32768x3584 := by
    unfold_abbrev_sides; after_results; rfl
  rw [e]
  pointwise [Spec.batch]
theorem v7_at (k : Fin 3584) : (V m c main_v7 : S1x3584.Idx → EReal) (ix2 0 k) = A6 m c (ix1 k) := by
  have e : (V m c main_v7 : S1x3584.Idx → EReal) = broadcastInDim S1x3584 ![1] bcast_S3584_S1x3584_1 (A6 m c) := by
    unfold_abbrev_sides; after_results
  rw [e]
  pointwise

/-! ## The windows are whole arrays -/

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem whole7 : ∀ t : Fin cfg0.N, (cfg0.win 7).WholeAt t := (by decide +kernel : ∀ t : Fin grid0.N, _)
theorem whole8 : ∀ t : Fin cfg0.N, (cfg0.win 8).WholeAt t := (by decide +kernel : ∀ t : Fin grid0.N, _)
theorem whole9 : ∀ t : Fin cfg0.N, (cfg0.win 9).WholeAt t := (by decide +kernel : ∀ t : Fin grid0.N, _)

theorem blk0 (t : Fin cfg0.N) : (iblk m c 0 t : S32768x7168.Idx → EReal) = (V m c main_v0 : S32768x7168.Idx → EReal) := funext fun j => by
  blk_simp [iblk]
  congr 1
  blk_ext [i0]
theorem blk1 (t : Fin cfg0.N) : (iblk m c 1 t : S32768x7168.Idx → EReal) = (V m c main_v2 : S32768x7168.Idx → EReal) := funext fun j => by
  blk_simp [iblk]
  congr 1
  blk_ext [i1]
theorem blk2 (t : Fin cfg0.N) : (iblk m c 2 t : S32768x7168.Idx → EReal) = (V m c main_v4 : S32768x7168.Idx → EReal) := funext fun j => by
  blk_simp [iblk]
  congr 1
  blk_ext [i2]
theorem blk3 (t : Fin cfg0.N) : (iblk m c 3 t : S32768x3584.Idx → EReal) = (V m c main_v6 : S32768x3584.Idx → EReal) := funext fun j => by
  blk_simp [iblk]
  congr 1
  blk_ext [i3]
theorem blk4 (t : Fin cfg0.N) : (iblk m c 4 t : S7168x3584.Idx → EReal) = (V m c main_arg4 : S7168x3584.Idx → EReal) := funext fun j => by
  blk_simp [iblk]
  congr 1
  blk_ext [i4]
theorem blk5 (t : Fin cfg0.N) : (iblk m c 5 t : S56x28.Idx → EReal) = (V m c main_arg5 : S56x28.Idx → EReal) := funext fun j => by
  blk_simp [iblk]
  congr 1
  blk_ext [i5]
theorem blk6 (t : Fin cfg0.N) : (iblk m c 6 t : S1x3584.Idx → EReal) = (V m c main_v7 : S1x3584.Idx → EReal) := funext fun j => by
  blk_simp [iblk]
  congr 1
  blk_ext [i6]

/-! ## The arrays -/

theorem row0 (n : Fin 32768) : rw7168 (V m c main_v0) n = Spec.xRow (X0 m c) n := funext (v0_at m c n)
theorem row1 (n : Fin 32768) : rw7168 (V m c main_v2) n = Spec.vRow (A1 m c) n := funext (v2_at m c n)
theorem row2 (n : Fin 32768) : rw7168 (V m c main_v4) n = Spec.vRow (A2 m c) n := funext (v4_at m c n)
theorem w4 : (V m c main_arg4 : S7168x3584.Idx → EReal) = A4 m c := V_main_arg4 m c
theorem w5 : (V m c main_arg5 : S56x28.Idx → EReal) = A5 m c := V_main_arg5 m c

section Array
variable {c} (dat : Dat τ (Elt Ideal) Unit ℕ (UR sig nD τ) ℕ cfg0 c)

theorem arr8_of (t : Fin cfg0.N) (f : S32768x7168.Idx → Ideal .fp8e4m3) (hf : dat.after 8 t = f) (G : S32768x7168.Idx → Ideal .fp8e4m3)
    (h : ∀ (r : Fin 32768) (k : Fin 7168), f (ix2 r k) = G (ix2 r k)) : dat.arrAt 8 cfg0.N = G := by
  refine dat.arrAt_eq_of_after_last 8 t (whole8 t) _ fun y => ?_
  blk_simp
  rw [hf]
  obtain ⟨r, k, rfl⟩ : ∃ (r : Fin 32768) (k : Fin 7168), y = ix2 r k := ⟨y 0, y 1, eq_ix2 y⟩
  exact h r k

theorem arr9_of (t : Fin cfg0.N) (f : S32768x56.Idx → Ideal .f32) (hf : dat.after 9 t = f) (G : S32768x56.Idx → Ideal .f32)
    (h : ∀ (r : Fin 32768) (k : Fin 56), f (ix2 r k) = G (ix2 r k)) : dat.arrAt 9 cfg0.N = G := by
  refine dat.arrAt_eq_of_after_last 9 t (whole9 t) _ fun y => ?_
  blk_simp
  rw [hf]
  obtain ⟨r, k, rfl⟩ : ∃ (r : Fin 32768) (k : Fin 56), y = ix2 r k := ⟨y 0, y 1, eq_ix2 y⟩
  exact h r k

theorem arr7_of (t : Fin cfg0.N) (f : S32768x3584.Idx → Ideal .bf16) (hf : dat.after 7 t = f) (G : S32768x3584.Idx → Ideal .bf16)
    (h : ∀ (r : Fin 32768) (k : Fin 3584), f (ix2 r k) = G (ix2 r k)) : dat.arrAt 7 cfg0.N = G := by
  refine dat.arrAt_eq_of_after_last 7 t (whole7 t) _ fun y => ?_
  blk_simp
  rw [hf]
  obtain ⟨r, k, rfl⟩ : ∃ (r : Fin 32768) (k : Fin 3584), y = ix2 r k := ⟨y 0, y 1, eq_ix2 y⟩
  exact h r k

end Array

theorem codes_arr : (dats m 0 c).arrAt 8 cfg0.N = Spec.codesArr (X0 m c) (A1 m c) (A2 m c) :=
  arr8_of (dats m 0 c) ⟨0, by decide⟩ _ (after0_8 m c _) _ fun r k => by
    rw [out8_at, blk0, blk1, blk2, row0, row1, row2]
    rfl

theorem scale_arr : (dats m 0 c).arrAt 9 cfg0.N = Spec.scaleArr (X0 m c) (A1 m c) (A2 m c) :=
  arr9_of (dats m 0 c) ⟨0, by decide⟩ _ (after0_9 m c _) _ fun r k => by
    rw [out9_at, blk0, blk1, blk2, row0, row1, row2]
    rfl

theorem out_arr : (dats m 0 c).arrAt 7 cfg0.N = Spec.outArr (X0 m c) (A1 m c) (A2 m c) (A3 m c) (A4 m c) (A5 m c) (A6 m c) :=
  arr7_of (dats m 0 c) ⟨0, by decide⟩ _ (after0_7 m c _) _ fun r k => by
    rw [out7_at, blk0, blk1, blk2, blk3, blk4, blk5, blk6, row0, row1, row2, v6_at, v7_at, w4, w5]
    rfl

end Cert.Proof.RVal

end
-- ==== Proof.Alg.lean ====
/-
  The two programs' results agree: under the precondition, each writes the three arrays of Arrays at the kernel's arguments.
-/
module

public import proofs.«01_k».proof.Defs
public import proofs.«01_k».proof.Proof.KArr
public import proofs.«01_k».proof.Proof.RVal
public import proofs.«01_k».proof.Proof.Launch
public import proofs.«01_k».proof.Proof.Gen.Pre_finite_modulation
public import Idealize.ShloMosaic.Lib.ReduceAll

@[expose] public section

noncomputable section

namespace Cert.Proof

open Idealize.ShloMosaic Idealize.ShloMosaic.TcCoe Idealize.SL.Sem

/-! ## The precondition -/

/-- A shape of rank zero has one index. -/
instance : Subsingleton Cert.Pre_finite_modulation.S_.Idx := ⟨fun _ _ => funext fun d => d.elim0⟩

theorem ofBool_one {b : Bool} (h : BitVec.ofBool b = 1#1) : b = true := by
  cases b
  · exact absurd h (by decide)
  · rfl

/-- What the predicate says of its second and third arguments. -/
theorem finite_of_fn (X : FVec Ideal Cert.Pre_finite_modulation.S8x4096x7168 .bf16) (SH SC : FVec Ideal Cert.Pre_finite_modulation.S8x7168 .bf16)
    (G : FVec Ideal Cert.Pre_finite_modulation.S8x3584 .bf16) (W : FVec Ideal Cert.Pre_finite_modulation.S7168x3584 .fp8e4m3)
    (S : FVec Ideal Cert.Pre_finite_modulation.S56x28 .f32) (B : FVec Ideal Cert.Pre_finite_modulation.S3584 .bf16)
    (h : Cert.Pre_finite_modulation.fn (F := Ideal) X SH SC G W S B = fun _ => 1#1) : Spec.Finite SH SC := by
  have h0 := congrFun h (fun d => d.elim0)
  unfold Cert.Pre_finite_modulation.fn at h0
  obtain ⟨h1, h2⟩ := IntOp.andi_eq_one.1 h0
  exact ⟨fun i => of_decide_eq_true (ofBool_one (Host.reduce_andi_all _ _ _ _ _ h1 i)),
    fun i => of_decide_eq_true (ofBool_one (Host.reduce_andi_all _ _ _ _ _ h2 i))⟩

theorem finite_of_pre (m : (ℓ : Loc Cert.KernelIdeal.nD Cert.KernelIdeal.τ Cert.KernelIdeal.sig) → Buf (Elt Ideal) ℓ)
    (h : Cert.Pre_KernelIdeal_finite_modulation m) (c : Dev Cert.KernelIdeal.nD) :
    Spec.Finite (KVal.A1 m c) (KVal.A2 m c) := finite_of_fn _ _ _ _ _ _ _ (h c)

/-! ## The arguments the reference leaves unchanged -/

theorem ref_args (m : (ℓ : Loc Cert.ReferenceIdeal.nD Cert.ReferenceIdeal.τ Cert.ReferenceIdeal.sig) → Buf (Elt Ideal) ℓ)
    (r : PUnit × MemSt Cert.ReferenceIdeal.nD Cert.ReferenceIdeal.τ Cert.ReferenceIdeal.sig (Elt Ideal))
    (h : Pipeline.FramePost Cert.ReferenceIdeal.cfgs (Cert.ReferenceIdeal.Gen.dats m) (0 : Fin 1) (Cert.ReferenceIdeal.Gen.V m) r)
    (c : Dev Cert.ReferenceIdeal.nD) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  open Cert.ReferenceIdeal Cert.ReferenceIdeal.Gen in
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans (V_main_arg4 m c)),
    ((h c).1 5).trans (((dats m 0 c).arrAt_in 5 rfl _).trans (V_main_arg5 m c)),
    ((h c).2 main_arg6 (Pipeline.mem_restRefs_of main_arg6 (by decide) (by decide))).trans (V_main_arg6 m c)⟩

/-! ## The claim -/

theorem algebraic : Cert.algebraic_KernelIdeal_ReferenceIdeal_pre_finite_modulation := fun m g m' g' hp ha =>
  ⟨fun c => Spec.outArr (KVal.X0 m c) (KVal.A1 m c) (KVal.A2 m c) (KVal.A3 m c) (KVal.A4 m c) (KVal.A5 m c) (KVal.A6 m c),
    fun c => Spec.codesArr (KVal.X0 m c) (KVal.A1 m c) (KVal.A2 m c),
    fun c => Spec.scaleArr (KVal.X0 m c) (KVal.A1 m c) (KVal.A2 m c),
    (θ_run _ _ _).mono (fun r h c =>
      ⟨((h.1 c).1 6).trans ((KVal.out_arr m c).trans (Spec.outArr_eq _ _ _ _ (finite_of_pre m hp c))),
        ((h.1 c).1 7).trans ((KVal.codes_arr m c).trans (Spec.codesArr_eq (finite_of_pre m hp c))),
        ((h.1 c).1 8).trans ((KVal.scale_arr m c).trans (Spec.scaleArr_eq (finite_of_pre m hp c))),
        KernelIdeal.args_of m r h.1 c⟩) (KernelIdeal.run_main m g),
    (θ_run _ _ _).mono (fun r h c => by
      obtain ⟨a0, a1, a2, a3, a4, a5, a6⟩ := ha c
      have e0 : RVal.X0 m' c = KVal.X0 m c := a0
      have e1 : RVal.A1 m' c = KVal.A1 m c := a1
      have e2 : RVal.A2 m' c = KVal.A2 m c := a2
      have e3 : RVal.A3 m' c = KVal.A3 m c := a3
      have e4 : RVal.A4 m' c = KVal.A4 m c := a4
      have e5 : RVal.A5 m' c = KVal.A5 m c := a5
      have e6 : RVal.A6 m' c = KVal.A6 m c := a6
      refine ⟨((h c).1 7).trans ((RVal.out_arr m' c).trans ?_), ((h c).1 8).trans ((RVal.codes_arr m' c).trans ?_),
        ((h c).1 9).trans ((RVal.scale_arr m' c).trans ?_), ref_args m' r h c⟩
      · rw [e0, e1, e2, e3, e4, e5, e6]
      · rw [e0, e1, e2]
      · rw [e0, e1, e2]) (Cert.ReferenceIdeal.Gen.run_main m' g')⟩

end Cert.Proof

end
-- ==== Proof.lean ====
/-
  The proof of `Cert.Claim`. The kernel's run is in Launch (Bits/Launch at the machine words): one invariant per counted loop, the weight
  ring's staging slots by the generated ring, the body at every grid point, the launch.
-/
module

public import proofs.«01_k».proof.Defs
public import proofs.«01_k».proof.Proof.Bits.Launch
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite_modulation
public import proofs.«01_k».proof.Proof.Alg
@[expose] public section

noncomputable section

namespace Cert.Proof

open Idealize.ShloMosaic Idealize.SL.Sem

theorem quiescent_kernel : Cert.quiescent_Kernel := fun m g _ =>
  (θ_run _ _ _).mono (fun r h => ⟨fun c => Kernel.args_of (F := Bits) m r h.1 c, h.2⟩) (Kernel.run_main (F := Bits) m g)

theorem quiescent_ideal : Cert.quiescent_KernelIdeal := fun m g _ =>
  (θ_run _ _ _).mono (fun r h => ⟨fun c => KernelIdeal.args_of m r h.1 c, h.2⟩) (KernelIdeal.run_main m g)

theorem quiescent_ideal_pre : Cert.quiescent_KernelIdeal_pre_finite_modulation := fun m g _ =>
  (θ_run _ _ _).mono (fun r h => ⟨fun c => KernelIdeal.args_of m r h.1 c, h.2⟩) (KernelIdeal.run_main m g)

theorem preserves : Cert.preserves_Kernel_KernelIdeal :=
  IdealRules.named_const.statement Cert.KernelIdeal.κ "inv_n" .f32 0x39124925#32 ((1 / 7168 : ℝ) : EReal) rfl

theorem claim : Cert.Claim :=
  ⟨Cert.Kernel.Gen.facts, Cert.KernelIdeal.Gen.facts, Cert.ReferenceIdeal.Gen.facts, Cert.Pre_finite_modulation.Gen.facts, quiescent_kernel, quiescent_ideal, quiescent_ideal_pre,
    fun m g _ => Cert.ReferenceIdeal.Gen.frame m g, fun m g _ => Cert.ReferenceIdeal.Gen.frame m g, preserves, algebraic⟩

end Cert.Proof

end
